-- ==== Defs.lean ====
def Pre_KDwo (m : (ℓ : Loc Cert.KDwo.nD Cert.KDwo.τ Cert.KDwo.sig) → Buf (Elt Bits) ℓ) : Prop :=
  True

def Pre_KDwoIdeal (m : (ℓ : Loc Cert.KDwoIdeal.nD Cert.KDwoIdeal.τ Cert.KDwoIdeal.sig) → Buf (Elt Ideal) ℓ) : Prop :=
  True

def Pre_RDwoIdeal (m : (ℓ : Loc Cert.RDwoIdeal.nD Cert.RDwoIdeal.τ Cert.RDwoIdeal.sig) → Buf (Elt Ideal) ℓ) : Prop :=
  True

def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_KDwqkv (m : (ℓ : Loc Cert.KDwqkv.nD Cert.KDwqkv.τ Cert.KDwqkv.sig) → Buf (Elt Bits) ℓ) : Prop :=
  True

def Pre_KDwqkvIdeal (m : (ℓ : Loc Cert.KDwqkvIdeal.nD Cert.KDwqkvIdeal.τ Cert.KDwqkvIdeal.sig) → Buf (Elt Ideal) ℓ) : Prop :=
  True

def Pre_RDwqkvIdeal (m : (ℓ : Loc Cert.RDwqkvIdeal.nD Cert.RDwqkvIdeal.τ Cert.RDwqkvIdeal.sig) → Buf (Elt Ideal) ℓ) : Prop :=
  True

def Pre_KLn (m : (ℓ : Loc Cert.KLn.nD Cert.KLn.τ Cert.KLn.sig) → Buf (Elt Bits) ℓ) : Prop :=
  True

def Pre_KLnIdeal (m : (ℓ : Loc Cert.KLnIdeal.nD Cert.KLnIdeal.τ Cert.KLnIdeal.sig) → Buf (Elt Ideal) ℓ) : Prop :=
  True

def Pre_RLnIdeal (m : (ℓ : Loc Cert.RLnIdeal.nD Cert.RLnIdeal.τ Cert.RLnIdeal.sig) → Buf (Elt Ideal) ℓ) : Prop :=
  True

def Pre_KQkv (m : (ℓ : Loc Cert.KQkv.nD Cert.KQkv.τ Cert.KQkv.sig) → Buf (Elt Bits) ℓ) : Prop :=
  True

def Pre_KQkvIdeal (m : (ℓ : Loc Cert.KQkvIdeal.nD Cert.KQkvIdeal.τ Cert.KQkvIdeal.sig) → Buf (Elt Ideal) ℓ) : Prop :=
  True

def Pre_RQkvIdeal (m : (ℓ : Loc Cert.RQkvIdeal.nD Cert.RQkvIdeal.τ Cert.RQkvIdeal.sig) → Buf (Elt Ideal) ℓ) : Prop :=
  True

def Pre_KFwd (m : (ℓ : Loc Cert.KFwd.nD Cert.KFwd.τ Cert.KFwd.sig) → Buf (Elt Bits) ℓ) : Prop :=
  True

def Pre_KFwdIdeal (m : (ℓ : Loc Cert.KFwdIdeal.nD Cert.KFwdIdeal.τ Cert.KFwdIdeal.sig) → Buf (Elt Ideal) ℓ) : Prop :=
  True

def Pre_RFwdIdeal (m : (ℓ : Loc Cert.RFwdIdeal.nD Cert.RFwdIdeal.τ Cert.RFwdIdeal.sig) → Buf (Elt Ideal) ℓ) : Prop :=
  True

def quiescent_KDwo [hKDwo : Cert.KDwo.Facts] : Prop :=
  ∀ (m : (ℓ : Loc Cert.KDwo.nD Cert.KDwo.τ Cert.KDwo.sig) → Buf (Elt Bits) ℓ) (g : Dev Cert.KDwo.nD → PrngReg), Pre_KDwo m →
    θ_run (Cert.KDwo.defs (F := Bits)) (onTc (τ := Cert.KDwo.τ) (Cert.KDwo.main (F := Bits))) ⟨m, fun _ => 0, g⟩ (fun r => (∀ c : Dev Cert.KDwo.nD,
      r.2.mem ((c.tc : Thread Cert.KDwo.nD Cert.KDwo.τ).loc Cert.KDwo.main_arg0) = m ((c.tc : Thread Cert.KDwo.nD Cert.KDwo.τ).loc Cert.KDwo.main_arg0)
      ∧ r.2.mem ((c.tc : Thread Cert.KDwo.nD Cert.KDwo.τ).loc Cert.KDwo.main_arg1) = m ((c.tc : Thread Cert.KDwo.nD Cert.KDwo.τ).loc Cert.KDwo.main_arg1))
      ∧ r.2.sem = fun _ => 0)

def quiescent_KDwoIdeal [hKDwoIdeal : Cert.KDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg), Pre_KDwoIdeal m →
    θ_run (Cert.KDwoIdeal.defs (F := Ideal)) (onTc (τ := Cert.KDwoIdeal.τ) (Cert.KDwoIdeal.main (F := Ideal))) ⟨m, fun _ => 0, g⟩ (fun r => (∀ c : Dev Cert.KDwoIdeal.nD,
      r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
      ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ r.2.sem = fun _ => 0)

def quiescent_RDwoIdeal [hRDwoIdeal : Cert.RDwoIdeal.Facts] : Prop :=
  ∀ (m : (ℓ : Loc Cert.RDwoIdeal.nD Cert.RDwoIdeal.τ Cert.RDwoIdeal.sig) → Buf (Elt Ideal) ℓ) (g : Dev Cert.RDwoIdeal.nD → PrngReg), Pre_RDwoIdeal m →
    θ_run (Cert.RDwoIdeal.defs (F := Ideal)) (onTc (τ := Cert.RDwoIdeal.τ) (Cert.RDwoIdeal.main (F := Ideal))) ⟨m, fun _ => 0, g⟩ (fun r => (∀ c : Dev Cert.RDwoIdeal.nD,
      r.2.mem ((c.tc : Thread Cert.RDwoIdeal.nD Cert.RDwoIdeal.τ).loc Cert.RDwoIdeal.main_arg0) = m ((c.tc : Thread Cert.RDwoIdeal.nD Cert.RDwoIdeal.τ).loc Cert.RDwoIdeal.main_arg0)
      ∧ r.2.mem ((c.tc : Thread Cert.RDwoIdeal.nD Cert.RDwoIdeal.τ).loc Cert.RDwoIdeal.main_arg1) = m ((c.tc : Thread Cert.RDwoIdeal.nD Cert.RDwoIdeal.τ).loc Cert.RDwoIdeal.main_arg1))
      ∧ r.2.sem = fun _ => 0)

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2))
      ∧ r.2.sem = fun _ => 0)

def quiescent_KDwqkv [hKDwqkv : Cert.KDwqkv.Facts] : Prop :=
  ∀ (m : (ℓ : Loc Cert.KDwqkv.nD Cert.KDwqkv.τ Cert.KDwqkv.sig) → Buf (Elt Bits) ℓ) (g : Dev Cert.KDwqkv.nD → PrngReg), Pre_KDwqkv m →
    θ_run (Cert.KDwqkv.defs (F := Bits)) (onTc (τ := Cert.KDwqkv.τ) (Cert.KDwqkv.main (F := Bits))) ⟨m, fun _ => 0, g⟩ (fun r => (∀ c : Dev Cert.KDwqkv.nD,
      r.2.mem ((c.tc : Thread Cert.KDwqkv.nD Cert.KDwqkv.τ).loc Cert.KDwqkv.main_arg0) = m ((c.tc : Thread Cert.KDwqkv.nD Cert.KDwqkv.τ).loc Cert.KDwqkv.main_arg0)
      ∧ r.2.mem ((c.tc : Thread Cert.KDwqkv.nD Cert.KDwqkv.τ).loc Cert.KDwqkv.main_arg1) = m ((c.tc : Thread Cert.KDwqkv.nD Cert.KDwqkv.τ).loc Cert.KDwqkv.main_arg1))
      ∧ r.2.sem = fun _ => 0)

def quiescent_KDwqkvIdeal [hKDwqkvIdeal : Cert.KDwqkvIdeal.Facts] : Prop :=
  ∀ (m : (ℓ : Loc Cert.KDwqkvIdeal.nD Cert.KDwqkvIdeal.τ Cert.KDwqkvIdeal.sig) → Buf (Elt Ideal) ℓ) (g : Dev Cert.KDwqkvIdeal.nD → PrngReg), Pre_KDwqkvIdeal m →
    θ_run (Cert.KDwqkvIdeal.defs (F := Ideal)) (onTc (τ := Cert.KDwqkvIdeal.τ) (Cert.KDwqkvIdeal.main (F := Ideal))) ⟨m, fun _ => 0, g⟩ (fun r => (∀ c : Dev Cert.KDwqkvIdeal.nD,
      r.2.mem ((c.tc : Thread Cert.KDwqkvIdeal.nD Cert.KDwqkvIdeal.τ).loc Cert.KDwqkvIdeal.main_arg0) = m ((c.tc : Thread Cert.KDwqkvIdeal.nD Cert.KDwqkvIdeal.τ).loc Cert.KDwqkvIdeal.main_arg0)
      ∧ r.2.mem ((c.tc : Thread Cert.KDwqkvIdeal.nD Cert.KDwqkvIdeal.τ).loc Cert.KDwqkvIdeal.main_arg1) = m ((c.tc : Thread Cert.KDwqkvIdeal.nD Cert.KDwqkvIdeal.τ).loc Cert.KDwqkvIdeal.main_arg1))
      ∧ r.2.sem = fun _ => 0)

def quiescent_RDwqkvIdeal [hRDwqkvIdeal : Cert.RDwqkvIdeal.Facts] : Prop :=
  ∀ (m : (ℓ : Loc Cert.RDwqkvIdeal.nD Cert.RDwqkvIdeal.τ Cert.RDwqkvIdeal.sig) → Buf (Elt Ideal) ℓ) (g : Dev Cert.RDwqkvIdeal.nD → PrngReg), Pre_RDwqkvIdeal m →
    θ_run (Cert.RDwqkvIdeal.defs (F := Ideal)) (onTc (τ := Cert.RDwqkvIdeal.τ) (Cert.RDwqkvIdeal.main (F := Ideal))) ⟨m, fun _ => 0, g⟩ (fun r => (∀ c : Dev Cert.RDwqkvIdeal.nD,
      r.2.mem ((c.tc : Thread Cert.RDwqkvIdeal.nD Cert.RDwqkvIdeal.τ).loc Cert.RDwqkvIdeal.main_arg0) = m ((c.tc : Thread Cert.RDwqkvIdeal.nD Cert.RDwqkvIdeal.τ).loc Cert.RDwqkvIdeal.main_arg0)
      ∧ r.2.mem ((c.tc : Thread Cert.RDwqkvIdeal.nD Cert.RDwqkvIdeal.τ).loc Cert.RDwqkvIdeal.main_arg1) = m ((c.tc : Thread Cert.RDwqkvIdeal.nD Cert.RDwqkvIdeal.τ).loc Cert.RDwqkvIdeal.main_arg1))
      ∧ r.2.sem = fun _ => 0)

def quiescent_KLn [hKLn : Cert.KLn.Facts] : Prop :=
  ∀ (m : (ℓ : Loc Cert.KLn.nD Cert.KLn.τ Cert.KLn.sig) → Buf (Elt Bits) ℓ) (g : Dev Cert.KLn.nD → PrngReg), Pre_KLn m →
    θ_run (Cert.KLn.defs (F := Bits)) (onTc (τ := Cert.KLn.τ) (Cert.KLn.main (F := Bits))) ⟨m, fun _ => 0, g⟩ (fun r => (∀ c : Dev Cert.KLn.nD,
      r.2.mem ((c.tc : Thread Cert.KLn.nD Cert.KLn.τ).loc Cert.KLn.main_arg0) = m ((c.tc : Thread Cert.KLn.nD Cert.KLn.τ).loc Cert.KLn.main_arg0)
      ∧ r.2.mem ((c.tc : Thread Cert.KLn.nD Cert.KLn.τ).loc Cert.KLn.main_arg1) = m ((c.tc : Thread Cert.KLn.nD Cert.KLn.τ).loc Cert.KLn.main_arg1)
      ∧ r.2.mem ((c.tc : Thread Cert.KLn.nD Cert.KLn.τ).loc Cert.KLn.main_arg2) = m ((c.tc : Thread Cert.KLn.nD Cert.KLn.τ).loc Cert.KLn.main_arg2)
      ∧ r.2.mem ((c.tc : Thread Cert.KLn.nD Cert.KLn.τ).loc Cert.KLn.main_arg3) = m ((c.tc : Thread Cert.KLn.nD Cert.KLn.τ).loc Cert.KLn.main_arg3)
      ∧ r.2.mem ((c.tc : Thread Cert.KLn.nD Cert.KLn.τ).loc Cert.KLn.main_arg4) = m ((c.tc : Thread Cert.KLn.nD Cert.KLn.τ).loc Cert.KLn.main_arg4)
      ∧ r.2.mem ((c.tc : Thread Cert.KLn.nD Cert.KLn.τ).loc Cert.KLn.main_arg5) = m ((c.tc : Thread Cert.KLn.nD Cert.KLn.τ).loc Cert.KLn.main_arg5))
      ∧ r.2.sem = fun _ => 0)

def quiescent_KLnIdeal [hKLnIdeal : Cert.KLnIdeal.Facts] : Prop :=
  ∀ (m : (ℓ : Loc Cert.KLnIdeal.nD Cert.KLnIdeal.τ Cert.KLnIdeal.sig) → Buf (Elt Ideal) ℓ) (g : Dev Cert.KLnIdeal.nD → PrngReg), Pre_KLnIdeal m →
    θ_run (Cert.KLnIdeal.defs (F := Ideal)) (onTc (τ := Cert.KLnIdeal.τ) (Cert.KLnIdeal.main (F := Ideal))) ⟨m, fun _ => 0, g⟩ (fun r => (∀ c : Dev Cert.KLnIdeal.nD,
      r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
      ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
      ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
      ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3)
      ∧ r.2.mem ((c.tc : Thread Cert.KLnIdeal.nD Cert.KLnIdeal.τ).loc Cert.KLnIdeal.main_arg4) = m ((c.tc : Thread Cert.KLnIdeal.nD Cert.KLnIdeal.τ).loc Cert.KLnIdeal.main_arg4)
      ∧ r.2.mem ((c.tc : Thread Cert.KLnIdeal.nD Cert.KLnIdeal.τ).loc Cert.KLnIdeal.main_arg5) = m ((c.tc : Thread Cert.KLnIdeal.nD Cert.KLnIdeal.τ).loc Cert.KLnIdeal.main_arg5))
      ∧ r.2.sem = fun _ => 0)

def quiescent_RLnIdeal [hRLnIdeal : Cert.RLnIdeal.Facts] : Prop :=
  ∀ (m : (ℓ : Loc Cert.RLnIdeal.nD Cert.RLnIdeal.τ Cert.RLnIdeal.sig) → Buf (Elt Ideal) ℓ) (g : Dev Cert.RLnIdeal.nD → PrngReg), Pre_RLnIdeal m →
    θ_run (Cert.RLnIdeal.defs (F := Ideal)) (onTc (τ := Cert.RLnIdeal.τ) (Cert.RLnIdeal.main (F := Ideal))) ⟨m, fun _ => 0, g⟩ (fun r => (∀ c : Dev Cert.RLnIdeal.nD,
      r.2.mem ((c.tc : Thread Cert.RLnIdeal.nD Cert.RLnIdeal.τ).loc Cert.RLnIdeal.main_arg0) = m ((c.tc : Thread Cert.RLnIdeal.nD Cert.RLnIdeal.τ).loc Cert.RLnIdeal.main_arg0)
      ∧ r.2.mem ((c.tc : Thread Cert.RLnIdeal.nD Cert.RLnIdeal.τ).loc Cert.RLnIdeal.main_arg1) = m ((c.tc : Thread Cert.RLnIdeal.nD Cert.RLnIdeal.τ).loc Cert.RLnIdeal.main_arg1)
      ∧ r.2.mem ((c.tc : Thread Cert.RLnIdeal.nD Cert.RLnIdeal.τ).loc Cert.RLnIdeal.main_arg2) = m ((c.tc : Thread Cert.RLnIdeal.nD Cert.RLnIdeal.τ).loc Cert.RLnIdeal.main_arg2)
      ∧ r.2.mem ((c.tc : Thread Cert.RLnIdeal.nD Cert.RLnIdeal.τ).loc Cert.RLnIdeal.main_arg3) = m ((c.tc : Thread Cert.RLnIdeal.nD Cert.RLnIdeal.τ).loc Cert.RLnIdeal.main_arg3)
      ∧ r.2.mem ((c.tc : Thread Cert.RLnIdeal.nD Cert.RLnIdeal.τ).loc Cert.RLnIdeal.main_arg4) = m ((c.tc : Thread Cert.RLnIdeal.nD Cert.RLnIdeal.τ).loc Cert.RLnIdeal.main_arg4)
      ∧ r.2.mem ((c.tc : Thread Cert.RLnIdeal.nD Cert.RLnIdeal.τ).loc Cert.RLnIdeal.main_arg5) = m ((c.tc : Thread Cert.RLnIdeal.nD Cert.RLnIdeal.τ).loc Cert.RLnIdeal.main_arg5))
      ∧ r.2.sem = fun _ => 0)

def quiescent_KQkv [hKQkv : Cert.KQkv.Facts] : Prop :=
  ∀ (m : (ℓ : Loc Cert.KQkv.nD Cert.KQkv.τ Cert.KQkv.sig) → Buf (Elt Bits) ℓ) (g : Dev Cert.KQkv.nD → PrngReg), Pre_KQkv m →
    θ_run (Cert.KQkv.defs (F := Bits)) (onTc (τ := Cert.KQkv.τ) (Cert.KQkv.main (F := Bits))) ⟨m, fun _ => 0, g⟩ (fun r => (∀ c : Dev Cert.KQkv.nD,
      r.2.mem ((c.tc : Thread Cert.KQkv.nD Cert.KQkv.τ).loc Cert.KQkv.main_arg0) = m ((c.tc : Thread Cert.KQkv.nD Cert.KQkv.τ).loc Cert.KQkv.main_arg0)
      ∧ r.2.mem ((c.tc : Thread Cert.KQkv.nD Cert.KQkv.τ).loc Cert.KQkv.main_arg1) = m ((c.tc : Thread Cert.KQkv.nD Cert.KQkv.τ).loc Cert.KQkv.main_arg1)
      ∧ r.2.mem ((c.tc : Thread Cert.KQkv.nD Cert.KQkv.τ).loc Cert.KQkv.main_arg2) = m ((c.tc : Thread Cert.KQkv.nD Cert.KQkv.τ).loc Cert.KQkv.main_arg2)
      ∧ r.2.mem ((c.tc : Thread Cert.KQkv.nD Cert.KQkv.τ).loc Cert.KQkv.main_arg3) = m ((c.tc : Thread Cert.KQkv.nD Cert.KQkv.τ).loc Cert.KQkv.main_arg3))
      ∧ r.2.sem = fun _ => 0)

def quiescent_KQkvIdeal [hKQkvIdeal : Cert.KQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3))
      ∧ r.2.sem = fun _ => 0)

def quiescent_RQkvIdeal [hRQkvIdeal : Cert.RQkvIdeal.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3))
      ∧ r.2.sem = fun _ => 0)

def quiescent_KFwd [hKFwd : Cert.KFwd.Facts] : Prop :=
  ∀ (m : (ℓ : Loc Cert.KFwd.nD Cert.KFwd.τ Cert.KFwd.sig) → Buf (Elt Bits) ℓ) (g : Dev Cert.KFwd.nD → PrngReg), Pre_KFwd m →
    θ_run (Cert.KFwd.defs (F := Bits)) (onTc (τ := Cert.KFwd.τ) (Cert.KFwd.main (F := Bits))) ⟨m, fun _ => 0, g⟩ (fun r => (∀ c : Dev Cert.KFwd.nD,
      r.2.mem ((c.tc : Thread Cert.KFwd.nD Cert.KFwd.τ).loc Cert.KFwd.main_arg0) = m ((c.tc : Thread Cert.KFwd.nD Cert.KFwd.τ).loc Cert.KFwd.main_arg0))
      ∧ r.2.sem = fun _ => 0)

def quiescent_KFwdIdeal [hKFwdIdeal : Cert.KFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg), Pre_KFwdIdeal m →
    θ_run (Cert.KFwdIdeal.defs (F := Ideal)) (onTc (τ := Cert.KFwdIdeal.τ) (Cert.KFwdIdeal.main (F := Ideal))) ⟨m, fun _ => 0, g⟩ (fun r => (∀ c : Dev Cert.KFwdIdeal.nD,
      r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0))
      ∧ r.2.sem = fun _ => 0)

def quiescent_RFwdIdeal [hRFwdIdeal : Cert.RFwdIdeal.Facts] : Prop :=
  ∀ (m : (ℓ : Loc Cert.RFwdIdeal.nD Cert.RFwdIdeal.τ Cert.RFwdIdeal.sig) → Buf (Elt Ideal) ℓ) (g : Dev Cert.RFwdIdeal.nD → PrngReg), Pre_RFwdIdeal m →
    θ_run (Cert.RFwdIdeal.defs (F := Ideal)) (onTc (τ := Cert.RFwdIdeal.τ) (Cert.RFwdIdeal.main (F := Ideal))) ⟨m, fun _ => 0, g⟩ (fun r => (∀ c : Dev Cert.RFwdIdeal.nD,
      r.2.mem ((c.tc : Thread Cert.RFwdIdeal.nD Cert.RFwdIdeal.τ).loc Cert.RFwdIdeal.main_arg0) = m ((c.tc : Thread Cert.RFwdIdeal.nD Cert.RFwdIdeal.τ).loc Cert.RFwdIdeal.main_arg0))
      ∧ r.2.sem = fun _ => 0)

def preserves_KDwo_KDwoIdeal : Prop :=
  True

def algebraic_KDwoIdeal_RDwoIdeal [hKDwoIdeal : Cert.KDwoIdeal.Facts] [hRDwoIdeal : Cert.RDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg)
    (m' : (ℓ : Loc Cert.RDwoIdeal.nD Cert.RDwoIdeal.τ Cert.RDwoIdeal.sig) → Buf (Elt Ideal) ℓ) (g' : Dev Cert.RDwoIdeal.nD → PrngReg), Pre_KDwoIdeal m →
    (∀ c : Dev Cert.KDwoIdeal.nD,
      m' ((c.tc : Thread Cert.RDwoIdeal.nD Cert.RDwoIdeal.τ).loc Cert.RDwoIdeal.main_arg0) = m ((c.tc : Thread Cert.KDwoIdeal.nD Cert.KDwoIdeal.τ).loc Cert.KDwoIdeal.main_arg0)
      ∧ m' ((c.tc : Thread Cert.RDwoIdeal.nD Cert.RDwoIdeal.τ).loc Cert.RDwoIdeal.main_arg1) = m ((c.tc : Thread Cert.KDwoIdeal.nD Cert.KDwoIdeal.τ).loc Cert.KDwoIdeal.main_arg1)) →
    ∃ (v0 : (c : Dev Cert.KDwoIdeal.nD) → Buf (Elt Ideal) ((c.tc : Thread Cert.KDwoIdeal.nD Cert.KDwoIdeal.τ).loc Cert.KDwoIdeal.main_v0)),
      θ_run (Cert.KDwoIdeal.defs (F := Ideal)) (onTc (τ := Cert.KDwoIdeal.τ) (Cert.KDwoIdeal.main (F := Ideal))) ⟨m, fun _ => 0, g⟩ (fun r => ∀ c : Dev Cert.KDwoIdeal.nD,
          r.2.mem ((c.tc : Thread Cert.KDwoIdeal.nD Cert.KDwoIdeal.τ).loc Cert.KDwoIdeal.main_v0) = v0 c
          ∧ r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
          ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ θ_run (Cert.RDwoIdeal.defs (F := Ideal)) (onTc (τ := Cert.RDwoIdeal.τ) (Cert.RDwoIdeal.main (F := Ideal))) ⟨m', fun _ => 0, g'⟩ (fun r => ∀ c : Dev Cert.RDwoIdeal.nD,
          r.2.mem ((c.tc : Thread Cert.RDwoIdeal.nD Cert.RDwoIdeal.τ).loc Cert.RDwoIdeal.main_v2) = v0 c
          ∧ r.2.mem ((c.tc : Thread Cert.RDwoIdeal.nD Cert.RDwoIdeal.τ).loc Cert.RDwoIdeal.main_arg0) = m' ((c.tc : Thread Cert.RDwoIdeal.nD Cert.RDwoIdeal.τ).loc Cert.RDwoIdeal.main_arg0)
          ∧ r.2.mem ((c.tc : Thread Cert.RDwoIdeal.nD Cert.RDwoIdeal.τ).loc Cert.RDwoIdeal.main_arg1) = m' ((c.tc : Thread Cert.RDwoIdeal.nD Cert.RDwoIdeal.τ).loc Cert.RDwoIdeal.main_arg1))

def preserves_KDx_KDxIdeal : Prop :=
  True

def algebraic_KDxIdeal_RDxIdeal [hKDxIdeal : Cert.KDxIdeal.Facts] [hRDxIdeal : Cert.RDxIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)) →
    ∃ (v0 : (c : Dev Cert.KDxIdeal.nD) → Buf (Elt Ideal) ((c.tc : Thread Cert.KDxIdeal.nD Cert.KDxIdeal.τ).loc Cert.KDxIdeal.main_v2)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v2) = v0 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v4) = v0 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2))

def preserves_KDwqkv_KDwqkvIdeal : Prop :=
  True

def algebraic_KDwqkvIdeal_RDwqkvIdeal [hKDwqkvIdeal : Cert.KDwqkvIdeal.Facts] [hRDwqkvIdeal : Cert.RDwqkvIdeal.Facts] : Prop :=
  ∀ (m : (ℓ : Loc Cert.KDwqkvIdeal.nD Cert.KDwqkvIdeal.τ Cert.KDwqkvIdeal.sig) → Buf (Elt Ideal) ℓ) (g : Dev Cert.KDwqkvIdeal.nD → PrngReg)
    (m' : (ℓ : Loc Cert.RDwqkvIdeal.nD Cert.RDwqkvIdeal.τ Cert.RDwqkvIdeal.sig) → Buf (Elt Ideal) ℓ) (g' : Dev Cert.RDwqkvIdeal.nD → PrngReg), Pre_KDwqkvIdeal m →
    (∀ c : Dev Cert.KDwqkvIdeal.nD,
      m' ((c.tc : Thread Cert.RDwqkvIdeal.nD Cert.RDwqkvIdeal.τ).loc Cert.RDwqkvIdeal.main_arg0) = m ((c.tc : Thread Cert.KDwqkvIdeal.nD Cert.KDwqkvIdeal.τ).loc Cert.KDwqkvIdeal.main_arg0)
      ∧ m' ((c.tc : Thread Cert.RDwqkvIdeal.nD Cert.RDwqkvIdeal.τ).loc Cert.RDwqkvIdeal.main_arg1) = m ((c.tc : Thread Cert.KDwqkvIdeal.nD Cert.KDwqkvIdeal.τ).loc Cert.KDwqkvIdeal.main_arg1)) →
    ∃ (v0 : (c : Dev Cert.KDwqkvIdeal.nD) → Buf (Elt Ideal) ((c.tc : Thread Cert.KDwqkvIdeal.nD Cert.KDwqkvIdeal.τ).loc Cert.KDwqkvIdeal.main_v0)),
      θ_run (Cert.KDwqkvIdeal.defs (F := Ideal)) (onTc (τ := Cert.KDwqkvIdeal.τ) (Cert.KDwqkvIdeal.main (F := Ideal))) ⟨m, fun _ => 0, g⟩ (fun r => ∀ c : Dev Cert.KDwqkvIdeal.nD,
          r.2.mem ((c.tc : Thread Cert.KDwqkvIdeal.nD Cert.KDwqkvIdeal.τ).loc Cert.KDwqkvIdeal.main_v0) = v0 c
          ∧ r.2.mem ((c.tc : Thread Cert.KDwqkvIdeal.nD Cert.KDwqkvIdeal.τ).loc Cert.KDwqkvIdeal.main_arg0) = m ((c.tc : Thread Cert.KDwqkvIdeal.nD Cert.KDwqkvIdeal.τ).loc Cert.KDwqkvIdeal.main_arg0)
          ∧ r.2.mem ((c.tc : Thread Cert.KDwqkvIdeal.nD Cert.KDwqkvIdeal.τ).loc Cert.KDwqkvIdeal.main_arg1) = m ((c.tc : Thread Cert.KDwqkvIdeal.nD Cert.KDwqkvIdeal.τ).loc Cert.KDwqkvIdeal.main_arg1))
      ∧ θ_run (Cert.RDwqkvIdeal.defs (F := Ideal)) (onTc (τ := Cert.RDwqkvIdeal.τ) (Cert.RDwqkvIdeal.main (F := Ideal))) ⟨m', fun _ => 0, g'⟩ (fun r => ∀ c : Dev Cert.RDwqkvIdeal.nD,
          r.2.mem ((c.tc : Thread Cert.RDwqkvIdeal.nD Cert.RDwqkvIdeal.τ).loc Cert.RDwqkvIdeal.main_v2) = v0 c
          ∧ r.2.mem ((c.tc : Thread Cert.RDwqkvIdeal.nD Cert.RDwqkvIdeal.τ).loc Cert.RDwqkvIdeal.main_arg0) = m' ((c.tc : Thread Cert.RDwqkvIdeal.nD Cert.RDwqkvIdeal.τ).loc Cert.RDwqkvIdeal.main_arg0)
          ∧ r.2.mem ((c.tc : Thread Cert.RDwqkvIdeal.nD Cert.RDwqkvIdeal.τ).loc Cert.RDwqkvIdeal.main_arg1) = m' ((c.tc : Thread Cert.RDwqkvIdeal.nD Cert.RDwqkvIdeal.τ).loc Cert.RDwqkvIdeal.main_arg1))

def preserves_KLn_KLnIdeal : Prop :=
  True

def algebraic_KLnIdeal_RLnIdeal [hKLnIdeal : Cert.KLnIdeal.Facts] [hRLnIdeal : Cert.RLnIdeal.Facts] : Prop :=
  ∀ (m : (ℓ : Loc Cert.KLnIdeal.nD Cert.KLnIdeal.τ Cert.KLnIdeal.sig) → Buf (Elt Ideal) ℓ) (g : Dev Cert.KLnIdeal.nD → PrngReg)
    (m' : (ℓ : Loc Cert.RLnIdeal.nD Cert.RLnIdeal.τ Cert.RLnIdeal.sig) → Buf (Elt Ideal) ℓ) (g' : Dev Cert.RLnIdeal.nD → PrngReg), Pre_KLnIdeal m →
    (∀ c : Dev Cert.KLnIdeal.nD,
      m' ((c.tc : Thread Cert.RLnIdeal.nD Cert.RLnIdeal.τ).loc Cert.RLnIdeal.main_arg0) = m ((c.tc : Thread Cert.KLnIdeal.nD Cert.KLnIdeal.τ).loc Cert.KLnIdeal.main_arg0)
      ∧ m' ((c.tc : Thread Cert.RLnIdeal.nD Cert.RLnIdeal.τ).loc Cert.RLnIdeal.main_arg1) = m ((c.tc : Thread Cert.KLnIdeal.nD Cert.KLnIdeal.τ).loc Cert.KLnIdeal.main_arg1)
      ∧ m' ((c.tc : Thread Cert.RLnIdeal.nD Cert.RLnIdeal.τ).loc Cert.RLnIdeal.main_arg2) = m ((c.tc : Thread Cert.KLnIdeal.nD Cert.KLnIdeal.τ).loc Cert.KLnIdeal.main_arg2)
      ∧ m' ((c.tc : Thread Cert.RLnIdeal.nD Cert.RLnIdeal.τ).loc Cert.RLnIdeal.main_arg3) = m ((c.tc : Thread Cert.KLnIdeal.nD Cert.KLnIdeal.τ).loc Cert.KLnIdeal.main_arg3)
      ∧ m' ((c.tc : Thread Cert.RLnIdeal.nD Cert.RLnIdeal.τ).loc Cert.RLnIdeal.main_arg4) = m ((c.tc : Thread Cert.KLnIdeal.nD Cert.KLnIdeal.τ).loc Cert.KLnIdeal.main_arg4)
      ∧ m' ((c.tc : Thread Cert.RLnIdeal.nD Cert.RLnIdeal.τ).loc Cert.RLnIdeal.main_arg5) = m ((c.tc : Thread Cert.KLnIdeal.nD Cert.KLnIdeal.τ).loc Cert.KLnIdeal.main_arg5)) →
    ∃ (v0 : (c : Dev Cert.KLnIdeal.nD) → Buf (Elt Ideal) ((c.tc : Thread Cert.KLnIdeal.nD Cert.KLnIdeal.τ).loc Cert.KLnIdeal.main_v5_0)) (v1 : (c : Dev Cert.KLnIdeal.nD) → Buf (Elt Ideal) ((c.tc : Thread Cert.KLnIdeal.nD Cert.KLnIdeal.τ).loc Cert.KLnIdeal.main_v5_1)) (v2 : (c : Dev Cert.KLnIdeal.nD) → Buf (Elt Ideal) ((c.tc : Thread Cert.KLnIdeal.nD Cert.KLnIdeal.τ).loc Cert.KLnIdeal.main_v5_2)) (v3 : (c : Dev Cert.KLnIdeal.nD) → Buf (Elt Ideal) ((c.tc : Thread Cert.KLnIdeal.nD Cert.KLnIdeal.τ).loc Cert.KLnIdeal.main_v5_3)) (v4 : (c : Dev Cert.KLnIdeal.nD) → Buf (Elt Ideal) ((c.tc : Thread Cert.KLnIdeal.nD Cert.KLnIdeal.τ).loc Cert.KLnIdeal.main_v5_4)),
      θ_run (Cert.KLnIdeal.defs (F := Ideal)) (onTc (τ := Cert.KLnIdeal.τ) (Cert.KLnIdeal.main (F := Ideal))) ⟨m, fun _ => 0, g⟩ (fun r => ∀ c : Dev Cert.KLnIdeal.nD,
          r.2.mem ((c.tc : Thread Cert.KLnIdeal.nD Cert.KLnIdeal.τ).loc Cert.KLnIdeal.main_v5_0) = v0 c
          ∧ r.2.mem ((c.tc : Thread Cert.KLnIdeal.nD Cert.KLnIdeal.τ).loc Cert.KLnIdeal.main_v5_1) = v1 c
          ∧ r.2.mem ((c.tc : Thread Cert.KLnIdeal.nD Cert.KLnIdeal.τ).loc Cert.KLnIdeal.main_v5_2) = v2 c
          ∧ r.2.mem ((c.tc : Thread Cert.KLnIdeal.nD Cert.KLnIdeal.τ).loc Cert.KLnIdeal.main_v5_3) = v3 c
          ∧ r.2.mem ((c.tc : Thread Cert.KLnIdeal.nD Cert.KLnIdeal.τ).loc Cert.KLnIdeal.main_v5_4) = v4 c
          ∧ r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
          ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
          ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
          ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3)
          ∧ r.2.mem ((c.tc : Thread Cert.KLnIdeal.nD Cert.KLnIdeal.τ).loc Cert.KLnIdeal.main_arg4) = m ((c.tc : Thread Cert.KLnIdeal.nD Cert.KLnIdeal.τ).loc Cert.KLnIdeal.main_arg4)
          ∧ r.2.mem ((c.tc : Thread Cert.KLnIdeal.nD Cert.KLnIdeal.τ).loc Cert.KLnIdeal.main_arg5) = m ((c.tc : Thread Cert.KLnIdeal.nD Cert.KLnIdeal.τ).loc Cert.KLnIdeal.main_arg5))
      ∧ θ_run (Cert.RLnIdeal.defs (F := Ideal)) (onTc (τ := Cert.RLnIdeal.τ) (Cert.RLnIdeal.main (F := Ideal))) ⟨m', fun _ => 0, g'⟩ (fun r => ∀ c : Dev Cert.RLnIdeal.nD,
          r.2.mem ((c.tc : Thread Cert.RLnIdeal.nD Cert.RLnIdeal.τ).loc Cert.RLnIdeal.main_v5_0) = v0 c
          ∧ r.2.mem ((c.tc : Thread Cert.RLnIdeal.nD Cert.RLnIdeal.τ).loc Cert.RLnIdeal.main_v5_1) = v1 c
          ∧ r.2.mem ((c.tc : Thread Cert.RLnIdeal.nD Cert.RLnIdeal.τ).loc Cert.RLnIdeal.main_v5_2) = v2 c
          ∧ r.2.mem ((c.tc : Thread Cert.RLnIdeal.nD Cert.RLnIdeal.τ).loc Cert.RLnIdeal.main_v5_3) = v3 c
          ∧ r.2.mem ((c.tc : Thread Cert.RLnIdeal.nD Cert.RLnIdeal.τ).loc Cert.RLnIdeal.main_v5_4) = v4 c
          ∧ r.2.mem ((c.tc : Thread Cert.RLnIdeal.nD Cert.RLnIdeal.τ).loc Cert.RLnIdeal.main_arg0) = m' ((c.tc : Thread Cert.RLnIdeal.nD Cert.RLnIdeal.τ).loc Cert.RLnIdeal.main_arg0)
          ∧ r.2.mem ((c.tc : Thread Cert.RLnIdeal.nD Cert.RLnIdeal.τ).loc Cert.RLnIdeal.main_arg1) = m' ((c.tc : Thread Cert.RLnIdeal.nD Cert.RLnIdeal.τ).loc Cert.RLnIdeal.main_arg1)
          ∧ r.2.mem ((c.tc : Thread Cert.RLnIdeal.nD Cert.RLnIdeal.τ).loc Cert.RLnIdeal.main_arg2) = m' ((c.tc : Thread Cert.RLnIdeal.nD Cert.RLnIdeal.τ).loc Cert.RLnIdeal.main_arg2)
          ∧ r.2.mem ((c.tc : Thread Cert.RLnIdeal.nD Cert.RLnIdeal.τ).loc Cert.RLnIdeal.main_arg3) = m' ((c.tc : Thread Cert.RLnIdeal.nD Cert.RLnIdeal.τ).loc Cert.RLnIdeal.main_arg3)
          ∧ r.2.mem ((c.tc : Thread Cert.RLnIdeal.nD Cert.RLnIdeal.τ).loc Cert.RLnIdeal.main_arg4) = m' ((c.tc : Thread Cert.RLnIdeal.nD Cert.RLnIdeal.τ).loc Cert.RLnIdeal.main_arg4)
          ∧ r.2.mem ((c.tc : Thread Cert.RLnIdeal.nD Cert.RLnIdeal.τ).loc Cert.RLnIdeal.main_arg5) = m' ((c.tc : Thread Cert.RLnIdeal.nD Cert.RLnIdeal.τ).loc Cert.RLnIdeal.main_arg5))

def preserves_KQkv_KQkvIdeal : Prop :=
  True

def algebraic_KQkvIdeal_RQkvIdeal [hKQkvIdeal : Cert.KQkvIdeal.Facts] [hRQkvIdeal : Cert.RQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg)
    (m' : (ℓ : Loc Cert.RQkvIdeal.nD Cert.RQkvIdeal.τ Cert.RQkvIdeal.sig) → Buf (Elt Ideal) ℓ) (g' : Dev Cert.RQkvIdeal.nD → PrngReg), Pre_KQkvIdeal m →
    (∀ c : Dev Cert.KQkvIdeal.nD,
      m' ((c.tc : Thread Cert.RQkvIdeal.nD Cert.RQkvIdeal.τ).loc Cert.RQkvIdeal.main_arg0) = m ((c.tc : Thread Cert.KQkvIdeal.nD Cert.KQkvIdeal.τ).loc Cert.KQkvIdeal.main_arg0)
      ∧ m' ((c.tc : Thread Cert.RQkvIdeal.nD Cert.RQkvIdeal.τ).loc Cert.RQkvIdeal.main_arg1) = m ((c.tc : Thread Cert.KQkvIdeal.nD Cert.KQkvIdeal.τ).loc Cert.KQkvIdeal.main_arg1)
      ∧ m' ((c.tc : Thread Cert.RQkvIdeal.nD Cert.RQkvIdeal.τ).loc Cert.RQkvIdeal.main_arg2) = m ((c.tc : Thread Cert.KQkvIdeal.nD Cert.KQkvIdeal.τ).loc Cert.KQkvIdeal.main_arg2)
      ∧ m' ((c.tc : Thread Cert.RQkvIdeal.nD Cert.RQkvIdeal.τ).loc Cert.RQkvIdeal.main_arg3) = m ((c.tc : Thread Cert.KQkvIdeal.nD Cert.KQkvIdeal.τ).loc Cert.KQkvIdeal.main_arg3)) →
    ∃ (v0 : (c : Dev Cert.KQkvIdeal.nD) → Buf (Elt Ideal) ((c.tc : Thread Cert.KQkvIdeal.nD Cert.KQkvIdeal.τ).loc Cert.KQkvIdeal.main_v8_0)) (v1 : (c : Dev Cert.KQkvIdeal.nD) → Buf (Elt Ideal) ((c.tc : Thread Cert.KQkvIdeal.nD Cert.KQkvIdeal.τ).loc Cert.KQkvIdeal.main_v8_1)),
      θ_run (Cert.KQkvIdeal.defs (F := Ideal)) (onTc (τ := Cert.KQkvIdeal.τ) (Cert.KQkvIdeal.main (F := Ideal))) ⟨m, fun _ => 0, g⟩ (fun r => ∀ c : Dev Cert.KQkvIdeal.nD,
          r.2.mem ((c.tc : Thread Cert.KQkvIdeal.nD Cert.KQkvIdeal.τ).loc Cert.KQkvIdeal.main_v8_0) = v0 c
          ∧ r.2.mem ((c.tc : Thread Cert.KQkvIdeal.nD Cert.KQkvIdeal.τ).loc Cert.KQkvIdeal.main_v8_1) = v1 c
          ∧ r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
          ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
          ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
          ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3))
      ∧ θ_run (Cert.RQkvIdeal.defs (F := Ideal)) (onTc (τ := Cert.RQkvIdeal.τ) (Cert.RQkvIdeal.main (F := Ideal))) ⟨m', fun _ => 0, g'⟩ (fun r => ∀ c : Dev Cert.RQkvIdeal.nD,
          r.2.mem ((c.tc : Thread Cert.RQkvIdeal.nD Cert.RQkvIdeal.τ).loc Cert.RQkvIdeal.main_v2_0) = v0 c
          ∧ r.2.mem ((c.tc : Thread Cert.RQkvIdeal.nD Cert.RQkvIdeal.τ).loc Cert.RQkvIdeal.main_v2_1) = v1 c
          ∧ r.2.mem ((c.tc : Thread Cert.RQkvIdeal.nD Cert.RQkvIdeal.τ).loc Cert.RQkvIdeal.main_arg0) = m' ((c.tc : Thread Cert.RQkvIdeal.nD Cert.RQkvIdeal.τ).loc Cert.RQkvIdeal.main_arg0)
          ∧ r.2.mem ((c.tc : Thread Cert.RQkvIdeal.nD Cert.RQkvIdeal.τ).loc Cert.RQkvIdeal.main_arg1) = m' ((c.tc : Thread Cert.RQkvIdeal.nD Cert.RQkvIdeal.τ).loc Cert.RQkvIdeal.main_arg1)
          ∧ r.2.mem ((c.tc : Thread Cert.RQkvIdeal.nD Cert.RQkvIdeal.τ).loc Cert.RQkvIdeal.main_arg2) = m' ((c.tc : Thread Cert.RQkvIdeal.nD Cert.RQkvIdeal.τ).loc Cert.RQkvIdeal.main_arg2)
          ∧ r.2.mem ((c.tc : Thread Cert.RQkvIdeal.nD Cert.RQkvIdeal.τ).loc Cert.RQkvIdeal.main_arg3) = m' ((c.tc : Thread Cert.RQkvIdeal.nD Cert.RQkvIdeal.τ).loc Cert.RQkvIdeal.main_arg3))

def preserves_KFwd_KFwdIdeal : Prop :=
  True

def algebraic_KFwdIdeal_RFwdIdeal [hKFwdIdeal : Cert.KFwdIdeal.Facts] [hRFwdIdeal : Cert.RFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg)
    (m' : (ℓ : Loc Cert.RFwdIdeal.nD Cert.RFwdIdeal.τ Cert.RFwdIdeal.sig) → Buf (Elt Ideal) ℓ) (g' : Dev Cert.RFwdIdeal.nD → PrngReg), Pre_KFwdIdeal m →
    (∀ c : Dev Cert.KFwdIdeal.nD,
      m' ((c.tc : Thread Cert.RFwdIdeal.nD Cert.RFwdIdeal.τ).loc Cert.RFwdIdeal.main_arg0) = m ((c.tc : Thread Cert.KFwdIdeal.nD Cert.KFwdIdeal.τ).loc Cert.KFwdIdeal.main_arg0)) →
    ∃ (v0 : (c : Dev Cert.KFwdIdeal.nD) → Buf (Elt Ideal) ((c.tc : Thread Cert.KFwdIdeal.nD Cert.KFwdIdeal.τ).loc Cert.KFwdIdeal.main_v0_0)) (v1 : (c : Dev Cert.KFwdIdeal.nD) → Buf (Elt Ideal) ((c.tc : Thread Cert.KFwdIdeal.nD Cert.KFwdIdeal.τ).loc Cert.KFwdIdeal.main_v0_1)) (v2 : (c : Dev Cert.KFwdIdeal.nD) → Buf (Elt Ideal) ((c.tc : Thread Cert.KFwdIdeal.nD Cert.KFwdIdeal.τ).loc Cert.KFwdIdeal.main_v0_2)),
      θ_run (Cert.KFwdIdeal.defs (F := Ideal)) (onTc (τ := Cert.KFwdIdeal.τ) (Cert.KFwdIdeal.main (F := Ideal))) ⟨m, fun _ => 0, g⟩ (fun r => ∀ c : Dev Cert.KFwdIdeal.nD,
          r.2.mem ((c.tc : Thread Cert.KFwdIdeal.nD Cert.KFwdIdeal.τ).loc Cert.KFwdIdeal.main_v0_0) = v0 c
          ∧ r.2.mem ((c.tc : Thread Cert.KFwdIdeal.nD Cert.KFwdIdeal.τ).loc Cert.KFwdIdeal.main_v0_1) = v1 c
          ∧ r.2.mem ((c.tc : Thread Cert.KFwdIdeal.nD Cert.KFwdIdeal.τ).loc Cert.KFwdIdeal.main_v0_2) = v2 c
          ∧ r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0))
      ∧ θ_run (Cert.RFwdIdeal.defs (F := Ideal)) (onTc (τ := Cert.RFwdIdeal.τ) (Cert.RFwdIdeal.main (F := Ideal))) ⟨m', fun _ => 0, g'⟩ (fun r => ∀ c : Dev Cert.RFwdIdeal.nD,
          r.2.mem ((c.tc : Thread Cert.RFwdIdeal.nD Cert.RFwdIdeal.τ).loc Cert.RFwdIdeal.main_v40) = v0 c
          ∧ r.2.mem ((c.tc : Thread Cert.RFwdIdeal.nD Cert.RFwdIdeal.τ).loc Cert.RFwdIdeal.main_v41) = v1 c
          ∧ r.2.mem ((c.tc : Thread Cert.RFwdIdeal.nD Cert.RFwdIdeal.τ).loc Cert.RFwdIdeal.main_v42) = v2 c
          ∧ r.2.mem ((c.tc : Thread Cert.RFwdIdeal.nD Cert.RFwdIdeal.τ).loc Cert.RFwdIdeal.main_arg0) = m' ((c.tc : Thread Cert.RFwdIdeal.nD Cert.RFwdIdeal.τ).loc Cert.RFwdIdeal.main_arg0))

def Claim : Prop :=
  ∃ (hKDwo : Cert.KDwo.Facts) (hKDwoIdeal : Cert.KDwoIdeal.Facts) (hRDwoIdeal : Cert.RDwoIdeal.Facts) (hKDx : Cert.KDx.Facts) (hKDxIdeal : Cert.KDxIdeal.Facts) (hRDxIdeal : Cert.RDxIdeal.Facts) (hKDwqkv : Cert.KDwqkv.Facts) (hKDwqkvIdeal : Cert.KDwqkvIdeal.Facts) (hRDwqkvIdeal : Cert.RDwqkvIdeal.Facts) (hKLn : Cert.KLn.Facts) (hKLnIdeal : Cert.KLnIdeal.Facts) (hRLnIdeal : Cert.RLnIdeal.Facts) (hKQkv : Cert.KQkv.Facts) (hKQkvIdeal : Cert.KQkvIdeal.Facts) (hRQkvIdeal : Cert.RQkvIdeal.Facts) (hKFwd : Cert.KFwd.Facts) (hKFwdIdeal : Cert.KFwdIdeal.Facts) (hRFwdIdeal : Cert.RFwdIdeal.Facts),
    quiescent_KDwo (hKDwo := hKDwo)
    ∧ quiescent_KDwoIdeal (hKDwoIdeal := hKDwoIdeal)
    ∧ quiescent_RDwoIdeal (hRDwoIdeal := hRDwoIdeal)
    ∧ quiescent_KDx (hKDx := hKDx)
    ∧ quiescent_KDxIdeal (hKDxIdeal := hKDxIdeal)
    ∧ quiescent_RDxIdeal (hRDxIdeal := hRDxIdeal)
    ∧ quiescent_KDwqkv (hKDwqkv := hKDwqkv)
    ∧ quiescent_KDwqkvIdeal (hKDwqkvIdeal := hKDwqkvIdeal)
    ∧ quiescent_RDwqkvIdeal (hRDwqkvIdeal := hRDwqkvIdeal)
    ∧ quiescent_KLn (hKLn := hKLn)
    ∧ quiescent_KLnIdeal (hKLnIdeal := hKLnIdeal)
    ∧ quiescent_RLnIdeal (hRLnIdeal := hRLnIdeal)
    ∧ quiescent_KQkv (hKQkv := hKQkv)
    ∧ quiescent_KQkvIdeal (hKQkvIdeal := hKQkvIdeal)
    ∧ quiescent_RQkvIdeal (hRQkvIdeal := hRQkvIdeal)
    ∧ quiescent_KFwd (hKFwd := hKFwd)
    ∧ quiescent_KFwdIdeal (hKFwdIdeal := hKFwdIdeal)
    ∧ quiescent_RFwdIdeal (hRFwdIdeal := hRFwdIdeal)
    ∧ preserves_KDwo_KDwoIdeal
    ∧ algebraic_KDwoIdeal_RDwoIdeal (hKDwoIdeal := hKDwoIdeal) (hRDwoIdeal := hRDwoIdeal)
    ∧ preserves_KDx_KDxIdeal
    ∧ algebraic_KDxIdeal_RDxIdeal (hKDxIdeal := hKDxIdeal) (hRDxIdeal := hRDxIdeal)
    ∧ preserves_KDwqkv_KDwqkvIdeal
    ∧ algebraic_KDwqkvIdeal_RDwqkvIdeal (hKDwqkvIdeal := hKDwqkvIdeal) (hRDwqkvIdeal := hRDwqkvIdeal)
    ∧ preserves_KLn_KLnIdeal
    ∧ algebraic_KLnIdeal_RLnIdeal (hKLnIdeal := hKLnIdeal) (hRLnIdeal := hRLnIdeal)
    ∧ preserves_KQkv_KQkvIdeal
    ∧ algebraic_KQkvIdeal_RQkvIdeal (hKQkvIdeal := hKQkvIdeal) (hRQkvIdeal := hRQkvIdeal)
    ∧ preserves_KFwd_KFwdIdeal
    ∧ algebraic_KFwdIdeal_RFwdIdeal (hKFwdIdeal := hKFwdIdeal) (hRFwdIdeal := hRFwdIdeal)
-- ==== KDwo.lean ====
abbrev S2x24x1024x128 : Shape := ⟨4, ![2, 24, 1024, 128]⟩
abbrev S2048x3072 : Shape := ⟨2, ![2048, 3072]⟩
abbrev S3072x3072 : Shape := ⟨2, ![3072, 3072]⟩
abbrev S2x2x1024x128 : Shape := ⟨4, ![2, 2, 1024, 128]⟩
abbrev S256x3072 : Shape := ⟨2, ![256, 3072]⟩
abbrev S1x1x1024x128 : Shape := ⟨4, ![1, 1, 1024, 128]⟩
abbrev S1024x128 : Shape := ⟨2, ![1024, 128]⟩
abbrev S1024x256 : Shape := ⟨2, ![1024, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2x24x1024x128, .fp8e4m3⟩
  | .hbm, ⟨1, _⟩ => ⟨S2048x3072, .fp8e5m2⟩
  | .hbm, ⟨2, _⟩ => ⟨S3072x3072, .bf16⟩
  | .local _ .vmem, ⟨0, _⟩ => ⟨S2x2x1024x128, .fp8e4m3⟩
  | .local _ .vmem, ⟨1, _⟩ => ⟨S2x2x1024x128, .fp8e4m3⟩
  | .local _ .vmem, ⟨2, _⟩ => ⟨S2048x3072, .fp8e5m2⟩
  | .local _ .vmem, ⟨3, _⟩ => ⟨S256x3072, .bf16⟩
  | .local _ .vmem, ⟨4, _⟩ => ⟨S256x3072, .bf16⟩
  | _, _ => ⟨S2x24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RDwoIdeal.lean ====
abbrev S2x24x1024x128 : Shape := ⟨4, ![2, 24, 1024, 128]⟩
abbrev S2048x3072 : Shape := ⟨2, ![2048, 3072]⟩
abbrev S2x1024x24x128 : Shape := ⟨4, ![2, 1024, 24, 128]⟩
abbrev S3072x3072 : Shape := ⟨2, ![3072, 3072]⟩

abbrev nBuf : Space → Nat
  | .hbm => 5
  | .vmem => 3
  | .smem => 0
  | _ => 0

abbrev bufTy : (tb : Table) → Fin (tcTables nBuf tb) → BufTy
  | .hbm, ⟨0, _⟩ => ⟨S2x24x1024x128, .fp8e4m3⟩
  | .hbm, ⟨1, _⟩ => ⟨S2048x3072, .fp8e5m2⟩
  | .hbm, ⟨2, _⟩ => ⟨S2x1024x24x128, .fp8e4m3⟩
  | .hbm, ⟨3, _⟩ => ⟨S2048x3072, .fp8e4m3⟩
  | .hbm, ⟨4, _⟩ => ⟨S3072x3072, .bf16⟩
  | .local _ .vmem, ⟨0, _⟩ => ⟨S2048x3072, .fp8e4m3⟩
  | .local _ .vmem, ⟨1, _⟩ => ⟨S2048x3072, .fp8e5m2⟩
  | .local _ .vmem, ⟨2, _⟩ => ⟨S3072x3072, .bf16⟩
  | _, _ => ⟨S2x24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KDx.lean ====
abbrev S2x36x1024x128 : Shape := ⟨4, ![2, 36, 1024, 128]⟩
abbrev S3072x36x128 : Shape := ⟨3, ![3072, 36, 128]⟩
abbrev S2x1024x3072 : Shape := ⟨3, ![2, 1024, 3072]⟩
abbrev S2048x3072 : Shape := ⟨2, ![2048, 3072]⟩
abbrev S36x3072x128 : Shape := ⟨3, ![36, 3072, 128]⟩
abbrev S1x36x256x128 : Shape := ⟨4, ![1, 36, 256, 128]⟩
abbrev S256x3072 : Shape := ⟨2, ![256, 3072]⟩
abbrev S1x1x256x128 : Shape := ⟨4, ![1, 1, 256, 128]⟩
abbrev S256x128 : Shape := ⟨2, ![256, 128]⟩
abbrev S256x4608 : Shape := ⟨2, ![256, 4608]⟩
abbrev S1x256x128 : Shape := ⟨3, ![1, 256, 128]⟩
abbrev S256x256 : Shape := ⟨2, ![256, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x36x1024x128, .fp8e5m2⟩
  | .hbm, ⟨1, _⟩ => ⟨S3072x36x128, .fp8e4m3⟩
  | .hbm, ⟨2, _⟩ => ⟨S2x1024x3072, .bf16⟩
  | .hbm, ⟨3, _⟩ => ⟨S2048x3072, .bf16⟩
  | .hbm, ⟨4, _⟩ => ⟨S36x3072x128, .fp8e4m3⟩
  | .hbm, ⟨5, _⟩ => ⟨S2048x3072, .bf16⟩
  | .local _ .vmem, ⟨0, _⟩ => ⟨S1x36x256x128, .fp8e5m2⟩
  | .local _ .vmem, ⟨1, _⟩ => ⟨S1x36x256x128, .fp8e5m2⟩
  | .local _ .vmem, ⟨2, _⟩ => ⟨S36x3072x128, .fp8e4m3⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | _, _ => ⟨S2x36x1024x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x36x256x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x3072x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RDxIdeal.lean ====
abbrev S2x36x1024x128 : Shape := ⟨4, ![2, 36, 1024, 128]⟩
abbrev S3072x36x128 : Shape := ⟨3, ![3072, 36, 128]⟩
abbrev S2x1024x3072 : Shape := ⟨3, ![2, 1024, 3072]⟩
abbrev S2x1024x36x128 : Shape := ⟨4, ![2, 1024, 36, 128]⟩
abbrev S2048x4608 : Shape := ⟨2, ![2048, 4608]⟩
abbrev S3072x4608 : Shape := ⟨2, ![3072, 4608]⟩
abbrev S2048x3072 : Shape := ⟨2, ![2048, 3072]⟩

abbrev nBuf : Space → Nat
  | .hbm => 8
  | .vmem => 4
  | .smem => 0
  | _ => 0

abbrev bufTy : (tb : Table) → Fin (tcTables nBuf tb) → BufTy
  | .hbm, ⟨0, _⟩ => ⟨S2x36x1024x128, .fp8e5m2⟩
  | .hbm, ⟨1, _⟩ => ⟨S3072x36x128, .fp8e4m3⟩
  | .hbm, ⟨2, _⟩ => ⟨S2x1024x3072, .bf16⟩
  | .hbm, ⟨3, _⟩ => ⟨S2x1024x36x128, .fp8e5m2⟩
  | .hbm, ⟨4, _⟩ => ⟨S2048x4608, .fp8e5m2⟩
  | .hbm, ⟨5, _⟩ => ⟨S3072x4608, .fp8e4m3⟩
  | .hbm, ⟨6, _⟩ => ⟨S2048x3072, .bf16⟩
  | .hbm, ⟨7, _⟩ => ⟨S2048x3072, .bf16⟩
  | .local _ .vmem, ⟨0, _⟩ => ⟨S2048x4608, .fp8e5m2⟩
  | .local _ .vmem, ⟨1, _⟩ => ⟨S3072x4608, .fp8e4m3⟩
  | .local _ .vmem, ⟨2, _⟩ => ⟨S2048x3072, .bf16⟩
  | .local _ .vmem, ⟨3, _⟩ => ⟨S2048x3072, .bf16⟩
  | _, _ => ⟨S2x36x1024x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KDwqkv.lean ====
abbrev S2048x3072 : Shape := ⟨2, ![2048, 3072]⟩
abbrev S2x36x1024x128 : Shape := ⟨4, ![2, 36, 1024, 128]⟩
abbrev S36x3072x128 : Shape := ⟨3, ![36, 3072, 128]⟩
abbrev S2048x256 : Shape := ⟨2, ![2048, 256]⟩
abbrev S36x256x128 : Shape := ⟨3, ![36, 256, 128]⟩
abbrev S1x1x1024x128 : Shape := ⟨4, ![1, 1, 1024, 128]⟩
abbrev S1024x128 : Shape := ⟨2, ![1024, 128]⟩
abbrev S1024x256 : Shape := ⟨2, ![1024, 256]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .fp8e4m3⟩
  | .hbm, ⟨1, _⟩ => ⟨S2x36x1024x128, .fp8e5m2⟩
  | .hbm, ⟨2, _⟩ => ⟨S36x3072x128, .bf16⟩
  | .local _ .vmem, ⟨0, _⟩ => ⟨S2048x256, .fp8e4m3⟩
  | .local _ .vmem, ⟨1, _⟩ => ⟨S2048x256, .fp8e4m3⟩
  | .local _ .vmem, ⟨2, _⟩ => ⟨S2x36x1024x128, .fp8e5m2⟩
  | .local _ .vmem, ⟨3, _⟩ => ⟨S36x256x128, .bf16⟩
  | .local _ .vmem, ⟨4, _⟩ => ⟨S36x256x128, .bf16⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x36x1024x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S36x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RDwqkvIdeal.lean ====
abbrev S2048x3072 : Shape := ⟨2, ![2048, 3072]⟩
abbrev S2x36x1024x128 : Shape := ⟨4, ![2, 36, 1024, 128]⟩
abbrev S2x1024x36x128 : Shape := ⟨4, ![2, 1024, 36, 128]⟩
abbrev S2048x4608 : Shape := ⟨2, ![2048, 4608]⟩
abbrev S36x3072x128 : Shape := ⟨3, ![36, 3072, 128]⟩
abbrev S3072x4608 : Shape := ⟨2, ![3072, 4608]⟩
abbrev S3072x36x128 : Shape := ⟨3, ![3072, 36, 128]⟩

abbrev nBuf : Space → Nat
  | .hbm => 5
  | .vmem => 3
  | .smem => 0
  | _ => 0

abbrev bufTy : (tb : Table) → Fin (tcTables nBuf tb) → BufTy
  | .hbm, ⟨0, _⟩ => ⟨S2048x3072, .fp8e4m3⟩
  | .hbm, ⟨1, _⟩ => ⟨S2x36x1024x128, .fp8e5m2⟩
  | .hbm, ⟨2, _⟩ => ⟨S2x1024x36x128, .fp8e5m2⟩
  | .hbm, ⟨3, _⟩ => ⟨S2048x4608, .fp8e5m2⟩
  | .hbm, ⟨4, _⟩ => ⟨S36x3072x128, .bf16⟩
  | .local _ .vmem, ⟨0, _⟩ => ⟨S2048x3072, .fp8e4m3⟩
  | .local _ .vmem, ⟨1, _⟩ => ⟨S2048x4608, .fp8e5m2⟩
  | .local _ .vmem, ⟨2, _⟩ => ⟨S36x3072x128, .bf16⟩
  | _, _ => ⟨S2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4608 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x3072x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KLn.lean ====
abbrev S2x24x1024x128 : Shape := ⟨4, ![2, 24, 1024, 128]⟩
abbrev S24x128x3072 : Shape := ⟨3, ![24, 128, 3072]⟩
abbrev S2x1024x3072 : Shape := ⟨3, ![2, 1024, 3072]⟩
abbrev S3072 : Shape := ⟨1, ![3072]⟩
abbrev S3072x3072 : Shape := ⟨2, ![3072, 3072]⟩
abbrev S2048x3072 : Shape := ⟨2, ![2048, 3072]⟩
abbrev S1x3072 : Shape := ⟨2, ![1, 3072]⟩
abbrev S1x24x256x128 : Shape := ⟨4, ![1, 24, 256, 128]⟩
abbrev S256x3072 : Shape := ⟨2, ![256, 3072]⟩
abbrev S1x1x256x128 : Shape := ⟨4, ![1, 1, 256, 128]⟩
abbrev S256x128 : Shape := ⟨2, ![256, 128]⟩
abbrev S64x3072 : Shape := ⟨2, ![64, 3072]⟩
abbrev S64 : Shape := ⟨1, ![64]⟩
abbrev S64x1 : Shape := ⟨2, ![64, 1]⟩

abbrev nBuf : Space → Nat
  | .hbm => 16
  | .vmem => 18
  | .smem => 0
  | _ => 0

abbrev bufTy : (tb : Table) → Fin (tcTables nBuf tb) → BufTy
  | .hbm, ⟨0, _⟩ => ⟨S2x24x1024x128, .fp8e4m3⟩
  | .hbm, ⟨1, _⟩ => ⟨S24x128x3072, .fp8e4m3⟩
  | .hbm, ⟨2, _⟩ => ⟨S2x1024x3072, .bf16⟩
  | .hbm, ⟨3, _⟩ => ⟨S2x1024x3072, .bf16⟩
  | .hbm, ⟨4, _⟩ => ⟨S3072, .f32⟩
  | .hbm, ⟨5, _⟩ => ⟨S3072, .f32⟩
  | .hbm, ⟨6, _⟩ => ⟨S3072x3072, .fp8e4m3⟩
  | .hbm, ⟨7, _⟩ => ⟨S2048x3072, .bf16⟩
  | .hbm, ⟨8, _⟩ => ⟨S2048x3072, .bf16⟩
  | .hbm, ⟨9, _⟩ => ⟨S1x3072, .f32⟩
  | .hbm, ⟨10, _⟩ => ⟨S1x3072, .f32⟩
  | .hbm, ⟨11, _⟩ => ⟨S2048x3072, .bf16⟩
  | .hbm, ⟨12, _⟩ => ⟨S2048x3072, .fp8e5m2⟩
  | .hbm, ⟨13, _⟩ => ⟨S2x24x1024x128, .bf16⟩
  | .hbm, ⟨14, _⟩ => ⟨S1x3072, .f32⟩
  | .hbm, ⟨15, _⟩ => ⟨S1x3072, .f32⟩
  | .local _ .vmem, ⟨0, _⟩ => ⟨S1x24x256x128, .fp8e4m3⟩
  | .local _ .vmem, ⟨1, _⟩ => ⟨S1x24x256x128, .fp8e4m3⟩
  | .local _ .vmem, ⟨2, _⟩ => ⟨S3072x3072, .fp8e4m3⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S1x3072, .f32⟩
  | .local _ .vmem, ⟨8, _⟩ => ⟨S1x3072, .f32⟩
  | .local _ .vmem, ⟨9, _⟩ => ⟨S256x3072, .bf16⟩
  | .local _ .vmem, ⟨10, _⟩ => ⟨S256x3072, .bf16⟩
  | .local _ .vmem, ⟨11, _⟩ => ⟨S256x3072, .fp8e5m2⟩
  | .local _ .vmem, ⟨12, _⟩ => ⟨S256x3072, .fp8e5m2⟩
  | .local _ .vmem, ⟨13, _⟩ => ⟨S1x24x256x128, .bf16⟩
  | .local _ .vmem, ⟨14, _⟩ => ⟨S1x24x256x128, .bf16⟩
  | .local _ .vmem, ⟨15, _⟩ => ⟨S1x3072, .f32⟩
  | .local _ .vmem, ⟨16, _⟩ => ⟨S1x3072, .f32⟩
  | .local _ .vmem, ⟨17, _⟩ => ⟨S256x3072, .f32⟩
  | _, _ => ⟨S2x24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x24x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x24x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RLnIdeal.lean ====
abbrev S2x24x1024x128 : Shape := ⟨4, ![2, 24, 1024, 128]⟩
abbrev S24x128x3072 : Shape := ⟨3, ![24, 128, 3072]⟩
abbrev S2x1024x3072 : Shape := ⟨3, ![2, 1024, 3072]⟩
abbrev S3072 : Shape := ⟨1, ![3072]⟩
abbrev S2x1024x24x128 : Shape := ⟨4, ![2, 1024, 24, 128]⟩
abbrev S2048x3072 : Shape := ⟨2, ![2048, 3072]⟩
abbrev S3072x3072 : Shape := ⟨2, ![3072, 3072]⟩
abbrev S1x3072 : Shape := ⟨2, ![1, 3072]⟩
abbrev S2048 : Shape := ⟨1, ![2048]⟩
abbrev S2048x1 : Shape := ⟨2, ![2048, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x24x1024x128, .fp8e4m3⟩
  | .hbm, ⟨1, _⟩ => ⟨S24x128x3072, .fp8e4m3⟩
  | .hbm, ⟨2, _⟩ => ⟨S2x1024x3072, .bf16⟩
  | .hbm, ⟨3, _⟩ => ⟨S2x1024x3072, .bf16⟩
  | .hbm, ⟨4, _⟩ => ⟨S3072, .f32⟩
  | .hbm, ⟨5, _⟩ => ⟨S3072, .f32⟩
  | .hbm, ⟨6, _⟩ => ⟨S2x1024x24x128, .fp8e4m3⟩
  | .hbm, ⟨7, _⟩ => ⟨S2048x3072, .fp8e4m3⟩
  | .hbm, ⟨8, _⟩ => ⟨S3072x3072, .fp8e4m3⟩
  | .hbm, ⟨9, _⟩ => ⟨S2048x3072, .bf16⟩
  | .hbm, ⟨10, _⟩ => ⟨S2048x3072, .bf16⟩
  | .hbm, ⟨11, _⟩ => ⟨S2048x3072, .bf16⟩
  | .hbm, ⟨12, _⟩ => ⟨S2048x3072, .fp8e5m2⟩
  | .hbm, ⟨13, _⟩ => ⟨S2x24x1024x128, .bf16⟩
  | .hbm, ⟨14, _⟩ => ⟨S1x3072, .f32⟩
  | .hbm, ⟨15, _⟩ => ⟨S1x3072, .f32⟩
  | .local _ .vmem, ⟨0, _⟩ => ⟨S2048x3072, .fp8e4m3⟩
  | .local _ .vmem, ⟨1, _⟩ => ⟨S3072x3072, .fp8e4m3⟩
  | .local _ .vmem, ⟨2, _⟩ => ⟨S2048x3072, .bf16⟩
  | .local _ .vmem, ⟨3, _⟩ => ⟨S2048x3072, .bf16⟩
  | .local _ .vmem, ⟨4, _⟩ => ⟨S3072, .f32⟩
  | .local _ .vmem, ⟨5, _⟩ => ⟨S3072, .f32⟩
  | .local _ .vmem, ⟨6, _⟩ => ⟨S2048x3072, .bf16⟩
  | .local _ .vmem, ⟨7, _⟩ => ⟨S2048x3072, .fp8e5m2⟩
  | .local _ .vmem, ⟨8, _⟩ => ⟨S2x24x1024x128, .bf16⟩
  | .local _ .vmem, ⟨9, _⟩ => ⟨S1x3072, .f32⟩
  | .local _ .vmem, ⟨10, _⟩ => ⟨S1x3072, .f32⟩
  | _, _ => ⟨S2x24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x3072 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x24x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KQkv.lean ====
abbrev S2x1024x3072 : Shape := ⟨3, ![2, 1024, 3072]⟩
abbrev S3072x36x128 : Shape := ⟨3, ![3072, 36, 128]⟩
abbrev S2x1024x64 : Shape := ⟨3, ![2, 1024, 64]⟩
abbrev S2048x3072 : Shape := ⟨2, ![2048, 3072]⟩
abbrev S36x3072x128 : Shape := ⟨3, ![36, 3072, 128]⟩
abbrev S2x1024x128 : Shape := ⟨3, ![2, 1024, 128]⟩
abbrev S2048x128 : Shape := ⟨2, ![2048, 128]⟩
abbrev S2x36x1024x128 : Shape := ⟨4, ![2, 36, 1024, 128]⟩
abbrev S2x3072x128 : Shape := ⟨3, ![2, 3072, 128]⟩
abbrev S2x2x1024x128 : Shape := ⟨4, ![2, 2, 1024, 128]⟩
abbrev S1x3072x128 : Shape := ⟨3, ![1, 3072, 128]⟩
abbrev S3072x128 : Shape := ⟨2, ![3072, 128]⟩
abbrev S3072x256 : Shape := ⟨2, ![3072, 256]⟩
abbrev S512x3072 : Shape := ⟨2, ![512, 3072]⟩
abbrev S512x256 : Shape := ⟨2, ![512, 256]⟩
abbrev S512x128 : Shape := ⟨2, ![512, 128]⟩
abbrev S1x1x512x128 : Shape := ⟨4, ![1, 1, 512, 128]⟩

abbrev nBuf : Space → Nat
  | .hbm => 14
  | .vmem => 8
  | .smem => 0
  | _ => 0

abbrev bufTy : (tb : Table) → Fin (tcTables nBuf tb) → BufTy
  | .hbm, ⟨0, _⟩ => ⟨S2x1024x3072, .bf16⟩
  | .hbm, ⟨1, _⟩ => ⟨S3072x36x128, .fp8e4m3⟩
  | .hbm, ⟨2, _⟩ => ⟨S2x1024x64, .f32⟩
  | .hbm, ⟨3, _⟩ => ⟨S2x1024x64, .f32⟩
  | .hbm, ⟨4, _⟩ => ⟨S2048x3072, .bf16⟩
  | .hbm, ⟨5, _⟩ => ⟨S36x3072x128, .fp8e4m3⟩
  | .hbm, ⟨6, _⟩ => ⟨S2x1024x128, .f32⟩
  | .hbm, ⟨7, _⟩ => ⟨S2x1024x64, .f32⟩
  | .hbm, ⟨8, _⟩ => ⟨S2x1024x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2x36x1024x128, .bf16⟩
  | .hbm, ⟨13, _⟩ => ⟨S2048x3072, .fp8e4m3⟩
  | .local _ .vmem, ⟨0, _⟩ => ⟨S2048x3072, .bf16⟩
  | .local _ .vmem, ⟨1, _⟩ => ⟨S2x3072x128, .fp8e4m3⟩
  | .local _ .vmem, ⟨2, _⟩ => ⟨S2x3072x128, .fp8e4m3⟩
  | .local _ .vmem, ⟨3, _⟩ => ⟨S2048x128, .f32⟩
  | .local _ .vmem, ⟨4, _⟩ => ⟨S2048x128, .f32⟩
  | .local _ .vmem, ⟨5, _⟩ => ⟨S2x2x1024x128, .bf16⟩
  | .local _ .vmem, ⟨6, _⟩ => ⟨S2x2x1024x128, .bf16⟩
  | .local _ .vmem, ⟨7, _⟩ => ⟨S2048x3072, .fp8e4m3⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x3072x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RQkvIdeal.lean ====
abbrev S2x1024x3072 : Shape := ⟨3, ![2, 1024, 3072]⟩
abbrev S3072x36x128 : Shape := ⟨3, ![3072, 36, 128]⟩
abbrev S2x1024x64 : Shape := ⟨3, ![2, 1024, 64]⟩
abbrev S2048x3072 : Shape := ⟨2, ![2048, 3072]⟩
abbrev S3072x4608 : Shape := ⟨2, ![3072, 4608]⟩
abbrev S2x36x1024x128 : Shape := ⟨4, ![2, 36, 1024, 128]⟩
abbrev S2048x4608 : Shape := ⟨2, ![2048, 4608]⟩
abbrev S2x1024x36x128 : Shape := ⟨4, ![2, 1024, 36, 128]⟩
abbrev S2x1024x30x128 : Shape := ⟨4, ![2, 1024, 30, 128]⟩
abbrev S2x1024x1x64 : Shape := ⟨4, ![2, 1024, 1, 64]⟩
abbrev S2x1024x30x64 : Shape := ⟨4, ![2, 1024, 30, 64]⟩
abbrev S2x1024x6x128 : Shape := ⟨4, ![2, 1024, 6, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x1024x3072, .bf16⟩
  | .hbm, ⟨1, _⟩ => ⟨S3072x36x128, .fp8e4m3⟩
  | .hbm, ⟨2, _⟩ => ⟨S2x1024x64, .f32⟩
  | .hbm, ⟨3, _⟩ => ⟨S2x1024x64, .f32⟩
  | .hbm, ⟨4, _⟩ => ⟨S2048x3072, .bf16⟩
  | .hbm, ⟨5, _⟩ => ⟨S3072x4608, .fp8e4m3⟩
  | .hbm, ⟨6, _⟩ => ⟨S2x36x1024x128, .bf16⟩
  | .hbm, ⟨7, _⟩ => ⟨S2048x3072, .fp8e4m3⟩
  | .local _ .vmem, ⟨0, _⟩ => ⟨S2048x3072, .bf16⟩
  | .local _ .vmem, ⟨1, _⟩ => ⟨S3072x4608, .fp8e4m3⟩
  | .local _ .vmem, ⟨2, _⟩ => ⟨S2x1024x64, .f32⟩
  | .local _ .vmem, ⟨3, _⟩ => ⟨S2x1024x64, .f32⟩
  | .local _ .vmem, ⟨4, _⟩ => ⟨S2x36x1024x128, .bf16⟩
  | .local _ .vmem, ⟨5, _⟩ => ⟨S2048x3072, .fp8e4m3⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x36x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KFwd.lean ====
abbrev S2x36x1024x128 : Shape := ⟨4, ![2, 36, 1024, 128]⟩
abbrev S2x24x1024x128 : Shape := ⟨4, ![2, 24, 1024, 128]⟩
abbrev S2x24x1024 : Shape := ⟨3, ![2, 24, 1024]⟩
abbrev S1x4x1024x128 : Shape := ⟨4, ![1, 4, 1024, 128]⟩
abbrev S1x1x1024x128 : Shape := ⟨4, ![1, 1, 1024, 128]⟩
abbrev S1x24x1024 : Shape := ⟨3, ![1, 24, 1024]⟩
abbrev S128x1024 : Shape := ⟨2, ![128, 1024]⟩
abbrev S1024x128 : Shape := ⟨2, ![1024, 128]⟩
abbrev S1x1x256x128 : Shape := ⟨4, ![1, 1, 256, 128]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S1x1x256 : Shape := ⟨3, ![1, 1, 256]⟩
abbrev S1x1x512x128 : Shape := ⟨4, ![1, 1, 512, 128]⟩
abbrev S512x128 : Shape := ⟨2, ![512, 128]⟩
abbrev S512x256 : Shape := ⟨2, ![512, 256]⟩
abbrev S128x512 : Shape := ⟨2, ![128, 512]⟩
abbrev S1x1x768x128 : Shape := ⟨4, ![1, 1, 768, 128]⟩
abbrev S768x128 : Shape := ⟨2, ![768, 128]⟩
abbrev S768x256 : Shape := ⟨2, ![768, 256]⟩
abbrev S128x768 : Shape := ⟨2, ![128, 768]⟩
abbrev S1024x256 : Shape := ⟨2, ![1024, 256]⟩

abbrev nBuf : Space → Nat
  | .hbm => 6
  | .vmem => 17
  | .smem => 0
  | _ => 0

abbrev bufTy : (tb : Table) → Fin (tcTables nBuf tb) → BufTy
  | .hbm, ⟨0, _⟩ => ⟨S2x36x1024x128, .bf16⟩
  | .hbm, ⟨1, _⟩ => ⟨S2x24x1024x128, .f32⟩
  | .hbm, ⟨2, _⟩ => ⟨S2x24x1024x128, .bf16⟩
  | .hbm, ⟨3, _⟩ => ⟨S2x24x1024x128, .fp8e4m3⟩
  | .hbm, ⟨4, _⟩ => ⟨S2x24x1024, .f32⟩
  | .hbm, ⟨5, _⟩ => ⟨S2x24x1024, .f32⟩
  | .local _ .vmem, ⟨0, _⟩ => ⟨S1x4x1024x128, .bf16⟩
  | .local _ .vmem, ⟨1, _⟩ => ⟨S1x4x1024x128, .bf16⟩
  | .local _ .vmem, ⟨2, _⟩ => ⟨S1x1x1024x128, .bf16⟩
  | .local _ .vmem, ⟨3, _⟩ => ⟨S1x1x1024x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x4x1024x128, .f32⟩
  | .local _ .vmem, ⟨7, _⟩ => ⟨S1x4x1024x128, .f32⟩
  | .local _ .vmem, ⟨8, _⟩ => ⟨S1x4x1024x128, .bf16⟩
  | .local _ .vmem, ⟨9, _⟩ => ⟨S1x4x1024x128, .bf16⟩
  | .local _ .vmem, ⟨10, _⟩ => ⟨S1x4x1024x128, .fp8e4m3⟩
  | .local _ .vmem, ⟨11, _⟩ => ⟨S1x4x1024x128, .fp8e4m3⟩
  | .local _ .vmem, ⟨12, _⟩ => ⟨S1x24x1024, .f32⟩
  | .local _ .vmem, ⟨13, _⟩ => ⟨S1x24x1024, .f32⟩
  | .local _ .vmem, ⟨14, _⟩ => ⟨S1x24x1024, .f32⟩
  | .local _ .vmem, ⟨15, _⟩ => ⟨S1x24x1024, .f32⟩
  | .local _ .vmem, ⟨16, _⟩ => ⟨S128x1024, .bf16⟩
  | _, _ => ⟨S2x36x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 4 → Nat :=
  let c0_7 : Index := 0#32
  let c0_i32 : BitVec 32 := 0#32
  let c1_i32 : BitVec 32 := 1#32
  let arg11 : BitVec 32 := Scf.iv c0_i32 c1_i32 k0_t1
  let v9 : Index := Scalar.indexCast arg11
  let c0_8 : Index := 0#32
  let c0_9 : Index := 0#32
  ![0, v9.toNat, 0, 0]
def k0_off2 (i : grid0.Coords) (k0_t1 : Fin k0_t1_loop.trips) : Fin 3 → Nat :=
  let c0_36 : Index := 0#32
  let arg1 : BitVec 32 := BitVec.ofNat 32 (i 1).val
  let c4_i32_6 : BitVec 32 := 4#32
  let v7 : BitVec 32 := Scalar.muli arg1 c4_i32_6
  let c0_i32 : BitVec 32 := 0#32
  let c1_i32 : BitVec 32 := 1#32
  let arg11 : BitVec 32 := Scf.iv c0_i32 c1_i32 k0_t1
  let v8 : BitVec 32 := Scalar.addi v7 arg11
  let v69 : Index := Scalar.indexCast v8
  let c0_37 : Index := 0#32
  ![0, v69.toNat, 0]
def k0_off3 (k0_t1 : Fin k0_t1_loop.trips) : Fin 4 → Nat :=
  let c0_41 : Index := 0#32
  let c0_i32 : BitVec 32 := 0#32
  let c1_i32 : BitVec 32 := 1#32
  let arg11 : BitVec 32 := Scf.iv c0_i32 c1_i32 k0_t1
  let v81 : Index := Scalar.indexCast arg11
  let c256 : Index := 256#32
  let c0_42 : Index := 0#32
  ![0, v81.toNat, 256, 0]
def k0_off4 (i : grid0.Coords) (k0_t1 : Fin k0_t1_loop.trips) : Fin 3 → Nat :=
  let c0_68 : Index := 0#32
  let arg1 : BitVec 32 := BitVec.ofNat 32 (i 1).val
  let c4_i32_6 : BitVec 32 := 4#32
  let v7 : BitVec 32 := Scalar.muli arg1 c4_i32_6
  let c0_i32 : BitVec 32 := 0#32
  let c1_i32 : BitVec 32 := 1#32
  let arg11 : BitVec 32 := Scf.iv c0_i32 c1_i32 k0_t1
  let v8 : BitVec 32 := Scalar.addi v7 arg11
  let v141 : Index := Scalar.indexCast v8
  let c256_69 : Index := 256#32
  ![0, v141.toNat, 256]
def k0_off5 (k0_t1 : Fin k0_t1_loop.trips) : Fin 4 → Nat :=
  let c0_73 : Index := 0#32
  let c0_i32 : BitVec 32 := 0#32
  let c1_i32 : BitVec 32 := 1#32
  let arg11 : BitVec 32 := Scf.iv c0_i32 c1_i32 k0_t1
  let v153 : Index := Scalar.indexCast arg11
  let c512 : Index := 512#32
  let c0_74 : Index := 0#32
  ![0, v153.toNat, 512, 0]
def k0_off6 (i : grid0.Coords) (k0_t1 : Fin k0_t1_loop.trips) : Fin 3 → Nat :=
  let c0_100 : Index := 0#32
  let arg1 : BitVec 32 := BitVec.ofNat 32 (i 1).val
  let c4_i32_6 : BitVec 32 := 4#32
  let v7 : BitVec 32 := Scalar.muli arg1 c4_i32_6
  let c0_i32 : BitVec 32 := 0#32
  let c1_i32 : BitVec 32 := 1#32
  let arg11 : BitVec 32 := Scf.iv c0_i32 c1_i32 k0_t1
  let v8 : BitVec 32 := Scalar.addi v7 arg11
  let v213 : Index := Scalar.indexCast v8
  let c512_101 : Index := 512#32
  ![0, v213.toNat, 512]
def k0_off7 (k0_t1 : Fin k0_t1_loop.trips) : Fin 4 → Nat :=
  let c0_105 : Index := 0#32
  let c0_i32 : BitVec 32 := 0#32
  let c1_i32 : BitVec 32 := 1#32
  let arg11 : BitVec 32 := Scf.iv c0_i32 c1_i32 k0_t1
  let v225 : Index := Scalar.indexCast arg11
  let c768 : Index := 768#32
  let c0_106 : Index := 0#32
  ![0, v225.toNat, 768, 0]
def k0_off8 (i : grid0.Coords) (k0_t1 : Fin k0_t1_loop.trips) : Fin 3 → Nat :=
  let c0_132 : Index := 0#32
  let arg1 : BitVec 32 := BitVec.ofNat 32 (i 1).val
  let c4_i32_6 : BitVec 32 := 4#32
  let v7 : BitVec 32 := Scalar.muli arg1 c4_i32_6
  let c0_i32 : BitVec 32 := 0#32
  let c1_i32 : BitVec 32 := 1#32
  let arg11 : BitVec 32 := Scf.iv c0_i32 c1_i32 k0_t1
  let v8 : BitVec 32 := Scalar.addi v7 arg11
  let v285 : Index := Scalar.indexCast v8
  let c768_133 : Index := 768#32
  ![0, v285.toNat, 768]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x24x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RFwdIdeal.lean ====
abbrev S2x36x1024x128 : Shape := ⟨4, ![2, 36, 1024, 128]⟩
abbrev S2x24x1024x128 : Shape := ⟨4, ![2, 24, 1024, 128]⟩
abbrev S2x6x4x1024x128 : Shape := ⟨5, ![2, 6, 4, 1024, 128]⟩
abbrev S2x6x1024x128 : Shape := ⟨4, ![2, 6, 1024, 128]⟩
abbrev S2x6x4x1024x1024 : Shape := ⟨5, ![2, 6, 4, 1024, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S2x6x4x1024 : Shape := ⟨4, ![2, 6, 4, 1024]⟩
abbrev S2x6x4x1024x1 : Shape := ⟨5, ![2, 6, 4, 1024, 1]⟩

abbrev nBuf : Space → Nat
  | .hbm => 53
  | .vmem => 2
  | .smem => 0
  | _ => 0

abbrev bufTy : (tb : Table) → Fin (tcTables nBuf tb) → BufTy
  | .hbm, ⟨0, _⟩ => ⟨S2x36x1024x128, .bf16⟩
  | .hbm, ⟨1, _⟩ => ⟨S2x24x1024x128, .bf16⟩
  | .hbm, ⟨2, _⟩ => ⟨S2x6x4x1024x128, .bf16⟩
  | .hbm, ⟨3, _⟩ => ⟨S2x6x1024x128, .bf16⟩
  | .hbm, ⟨4, _⟩ => ⟨S2x6x1024x128, .bf16⟩
  | .hbm, ⟨5, _⟩ => ⟨S2x6x4x1024x1024, .f32⟩
  | .hbm, ⟨6, _⟩ => ⟨S1024, .i32⟩
  | .hbm, ⟨7, _⟩ => ⟨S1x1024, .i32⟩
  | .hbm, ⟨8, _⟩ => ⟨S1024x1, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S_, .f32⟩
  | .hbm, ⟨13, _⟩ => ⟨S2x6x4x1024x1024, .f32⟩
  | .hbm, ⟨14, _⟩ => ⟨S2x6x4x1024x1024, .f32⟩
  | .hbm, ⟨15, _⟩ => ⟨S2x6x4x1024x1024, .i1⟩
  | .hbm, ⟨16, _⟩ => ⟨S_, .f32⟩
  | .hbm, ⟨17, _⟩ => ⟨S2x6x4x1024x1024, .f32⟩
  | .hbm, ⟨18, _⟩ => ⟨S2x6x4x1024x1024, .f32⟩
  | .hbm, ⟨19, _⟩ => ⟨S_, .f32⟩
  | .hbm, ⟨20, _⟩ => ⟨S2x6x4x1024, .f32⟩
  | .hbm, ⟨21, _⟩ => ⟨S2x6x4x1024x1, .f32⟩
  | .hbm, ⟨22, _⟩ => ⟨S_, .f32⟩
  | .hbm, ⟨23, _⟩ => ⟨S2x6x4x1024x1, .f32⟩
  | .hbm, ⟨24, _⟩ => ⟨S2x6x4x1024x1, .f32⟩
  | .hbm, ⟨25, _⟩ => ⟨S2x6x4x1024x1, .f32⟩
  | .hbm, ⟨26, _⟩ => ⟨S_, .f32⟩
  | .hbm, ⟨27, _⟩ => ⟨S2x6x4x1024x1, .f32⟩
  | .hbm, ⟨28, _⟩ => ⟨S2x6x4x1024x1, .f32⟩
  | .hbm, ⟨29, _⟩ => ⟨S2x6x4x1024x1024, .f32⟩
  | .hbm, ⟨30, _⟩ => ⟨S2x6x4x1024x1024, .f32⟩
  | .hbm, ⟨31, _⟩ => ⟨S_, .f32⟩
  | .hbm, ⟨32, _⟩ => ⟨S2x6x4x1024x1024, .f32⟩
  | .hbm, ⟨33, _⟩ => ⟨S2x6x4x1024x1024, .f32⟩
  | .hbm, ⟨34, _⟩ => ⟨S_, .f32⟩
  | .hbm, ⟨35, _⟩ => ⟨S2x6x4x1024x1024, .f32⟩
  | .hbm, ⟨36, _⟩ => ⟨S2x6x4x1024x1024, .f32⟩
  | .hbm, ⟨37, _⟩ => ⟨S2x6x4x1024x1024, .f32⟩
  | .hbm, ⟨38, _⟩ => ⟨S2x6x4x1024x1024, .f32⟩
  | .hbm, ⟨39, _⟩ => ⟨S_, .f32⟩
  | .hbm, ⟨40, _⟩ => ⟨S2x6x4x1024x1024, .f32⟩
  | .hbm, ⟨41, _⟩ => ⟨S2x6x4x1024x1024, .f32⟩
  | .hbm, ⟨42, _⟩ => ⟨S_, .f32⟩
  | .hbm, ⟨43, _⟩ => ⟨S2x6x4x1024, .f32⟩
  | .hbm, ⟨44, _⟩ => ⟨S2x6x4x1024x1024, .bf16⟩
  | .hbm, ⟨45, _⟩ => ⟨S2x6x4x1024x128, .f32⟩
  | .hbm, ⟨46, _⟩ => ⟨S2x6x4x1024, .f32⟩
  | .hbm, ⟨47, _⟩ => ⟨S2x6x4x1024x1, .f32⟩
  | .hbm, ⟨48, _⟩ => ⟨S2x6x4x1024x128, .f32⟩
  | .hbm, ⟨49, _⟩ => ⟨S2x6x4x1024x128, .f32⟩
  | .hbm, ⟨50, _⟩ => ⟨S2x24x1024x128, .f32⟩
  | .hbm, ⟨51, _⟩ => ⟨S2x24x1024x128, .bf16⟩
  | .hbm, ⟨52, _⟩ => ⟨S2x24x1024x128, .fp8e4m3⟩
  | .local _ .vmem, ⟨0, _⟩ => ⟨S2x24x1024x128, .f32⟩
  | .local _ .vmem, ⟨1, _⟩ => ⟨S2x24x1024x128, .fp8e4m3⟩
  | _, _ => ⟨S2x36x1024x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_6 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x24x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x24x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.DwoValue.lean ====
module

public import proofs.«01_k».proof.Proof.Gen.KDwoIdeal.Frame
public import proofs.«01_k».proof.Proof.Gen.RDwoIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- The weight gradient of the output projection, entry by entry: `X` is the attention output laid out
batch, head, position, channel; `Y` the output gradient, one row per token.  Row `128 h + d` of the
result is channel `d` of head `h`, and the sum runs over all tokens of both batches. -/
def Cert.Dwo.REF (X : FVec Ideal Cert.KDwoIdeal.S2x24x1024x128 .fp8e4m3)
    (Y : FVec Ideal Cert.KDwoIdeal.S2048x3072 .fp8e5m2) : FVec Ideal Cert.KDwoIdeal.S3072x3072 .bf16 :=
  fun j => ((∑ x : Fin 2048, (X (ix4 (⟨x.val / 1024, by omega⟩ : Fin 2) (⟨(j 0).val / 128, by have := (j 0).isLt; change (j 0).val < 3072 at this; omega⟩ : Fin 24)
      (⟨x.val % 1024, by omega⟩ : Fin 1024) (⟨(j 0).val % 128, by omega⟩ : Fin 128)) : EReal)
    * (Y (ix2 x (j 1)) : EReal)) * Ideal.ofBits .f32 1018496243#32 : EReal)

namespace Cert.RDwoIdeal.Hand
open Cert.RDwoIdeal Cert.RDwoIdeal.Gen

variable (m : (ℓ : Loc nD τ sig) → Buf (Elt Ideal) ℓ)

theorem idx : win0_0.index t0_0 = ![0, 0] ∧ win0_1.index t0_0 = ![0, 0] ∧ win0_2.index t0_0 = ![0, 0] := by
  decide +kernel

/-- What the reference leaves is its one payload over its two whole operands. -/
theorem final_pay (c : Dev nD) : (dats m 0 c).arrAt 2 (cfgs 0).N
    = k0_pay1 (V m c main_v1) (V m c main_arg1) := by
  refine (dats m 0 c).arrAt_eq_of_after_last 2 t0_0 (by decide +kernel) _ fun j => ?_
  blk_simp
  rw [after0_2]
  frame_out
  blk_point [iblk, idx]

/-- The reference's array is `REF` of the argument arrays. -/
theorem final (c : Dev nD) : (dats m 0 c).arrAt 2 (cfgs 0).N
    = Cert.Dwo.REF (m ((c : Thread nD τ).loc main_arg0)) (m ((c : Thread nD τ).loc main_arg1)) := by
  rw [final_pay, V_main_arg1]
  entry_read
  funext j
  pointwise [k0_pay1, Cert.Dwo.REF]

end Cert.RDwoIdeal.Hand

namespace Cert.KDwoIdeal.Hand
open Cert.KDwoIdeal Cert.KDwoIdeal.Gen

variable (m : (ℓ : Loc nD τ sig) → Buf (Elt Ideal) ℓ)

theorem idx : ∀ t : Fin cfg0.N, win0_0.index t = ![0, t.val, 0, 0] ∧ win0_1.index t = ![0, 0] ∧ win0_2.index t = ![t.val, 0] :=
  (by decide +kernel : ∀ t : Fin grid0.N, _)

/-- The kernel's array is `REF` of the argument arrays: the two batches' halves of the token sum, and the
two heads of each block, put side by side. -/
theorem final (c : Dev nD) : (dats m 0 c).arrAt 2 (cfgs 0).N
    = Cert.Dwo.REF (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.Dwo.REF]
  rw [Fin.sum_univ_two_halves 1024 1024 rfl]
  blk_point [iblk, V, idx t]

end Cert.KDwoIdeal.Hand
-- ==== Proof.DxTiles.lean ====
module

public import proofs.«01_k».proof.Proof.Gen.KDxIdeal.Frame
public import proofs.«01_k».proof.Proof.Gen.RDxIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- The input gradient, entry by entry: token `j 0`, model channel `j 1`.  `Y` is the output gradient of the
residual branch; `X` the gradient at the projections, batch, head, position, channel; `W` the projection weights.
The sum runs over all channels of all 36 heads. -/
def Cert.Dx.REF (X : FVec Ideal Cert.KDxIdeal.S2x36x1024x128 .fp8e5m2)
    (W : FVec Ideal Cert.KDxIdeal.S3072x36x128 .fp8e4m3) (Y : FVec Ideal Cert.KDxIdeal.S2x1024x3072 .bf16) :
    FVec Ideal Cert.KDxIdeal.S2048x3072 .bf16 :=
  fun j => (Ideal.ofBits .f32 1063581998#32
      * (Y (ix3 (⟨(j 0).val / 1024, by have := (j 0).isLt; change (j 0).val < 2048 at this; omega⟩ : Fin 2)
          (⟨(j 0).val % 1024, by omega⟩ : Fin 1024) (j 1)) : EReal)
    + (∑ k : Fin 4608, (X (ix4 (⟨(j 0).val / 1024, by have := (j 0).isLt; change (j 0).val < 2048 at this; omega⟩ : Fin 2)
          (⟨k.val / 128, by omega⟩ : Fin 36) (⟨(j 0).val % 1024, by omega⟩ : Fin 1024) (⟨k.val % 128, by omega⟩ : Fin 128)) : EReal)
        * (W (ix3 (j 1) (⟨k.val / 128, by omega⟩ : Fin 36) (⟨k.val % 128, by omega⟩ : Fin 128)) : EReal))
      * Ideal.ofBits .f32 1014062063#32 : EReal)

namespace Cert.RDxIdeal.Hand
open Cert.RDxIdeal Cert.RDxIdeal.Gen

variable (m : (ℓ : Loc nD τ sig) → Buf (Elt Ideal) ℓ)

theorem idx : win0_0.index t0_0 = ![0, 0] ∧ win0_1.index t0_0 = ![0, 0] ∧ win0_2.index t0_0 = ![0, 0] ∧ win0_3.index t0_0 = ![0, 0] := by
  decide +kernel

theorem final_pay (c : Dev nD) : (dats m 0 c).arrAt 3 (cfgs 0).N
    = k0_pay1 (V m c main_v1) (V m c main_v2) (V m c main_v3) := by
  refine (dats m 0 c).arrAt_eq_of_after_last 3 t0_0 (by decide +kernel) _ fun j => ?_
  blk_simp
  rw [after0_3]
  frame_out
  blk_point [iblk, idx]

theorem V_v1 (c : Dev nD) : V m c main_v1 = shapeCast S2048x4608 (transpose S2x1024x36x128 [0, 2, 1, 3]
    (m ((c : Thread nD τ).loc main_arg0)) transposes_S2x36x1024x128_S2x1024x36x128_0_2_1_3) shapeCasts_S2x1024x36x128_S2048x4608 := by
  entry_read
  rfl

theorem V_v2 (c : Dev nD) : V m c main_v2 = shapeCast S3072x4608 (m ((c : Thread nD τ).loc main_arg1)) shapeCasts_S3072x36x128_S3072x4608 := by
  entry_read
  rfl

theorem V_v3 (c : Dev nD) : V m c main_v3 = shapeCast S2048x3072 (m ((c : Thread nD τ).loc main_arg2)) shapeCasts_S2x1024x3072_S2048x3072 := by
  entry_read
  rfl

theorem pay_eq (X : FVec Ideal S2x36x1024x128 .fp8e5m2) (W : FVec Ideal S3072x36x128 .fp8e4m3) (Y : FVec Ideal S2x1024x3072 .bf16) :
    k0_pay1 (F := Ideal) (shapeCast S2048x4608 (transpose S2x1024x36x128 [0, 2, 1, 3] X transposes_S2x36x1024x128_S2x1024x36x128_0_2_1_3) shapeCasts_S2x1024x36x128_S2048x4608)
      (shapeCast S3072x4608 W shapeCasts_S3072x36x128_S3072x4608) (shapeCast S2048x3072 Y shapeCasts_S2x1024x3072_S2048x3072)
    = Cert.Dx.REF X W Y := by
  funext j
  pointwise [k0_pay1, Cert.Dx.REF]

/-- The reference's array is `REF` of the argument arrays. -/
theorem final (c : Dev nD) : (dats m 0 c).arrAt 3 (cfgs 0).N
    = Cert.Dx.REF (m ((c : Thread nD τ).loc main_arg0)) (m ((c : Thread nD τ).loc main_arg1)) (m ((c : Thread nD τ).loc main_arg2)) := by
  rw [final_pay]
  rw [V_v1, V_v2, V_v3]
  exact pay_eq _ _ _

end Cert.RDxIdeal.Hand

namespace Cert.KDxIdeal.Hand
open Cert.KDxIdeal Cert.KDxIdeal.Gen

variable (m : (ℓ : Loc nD τ sig) → Buf (Elt Ideal) ℓ)

theorem idx : ∀ t : Fin cfg0.N, win0_0.index t = ![t.val / 4, 0, t.val % 4, 0] ∧ win0_1.index t = ![0, 0, 0]
    ∧ win0_2.index t = ![t.val, 0] ∧ win0_3.index t = ![t.val, 0] :=
  (by decide +kernel : ∀ t : Fin grid0.N, _)

theorem gIn (h : Fin 36) : ∀ a, (![0, h.val, 0, 0] : Fin 4 → Nat) a + S1x1x256x128.size a ≤ S1x36x256x128.size a := by
  revert h; decide +kernel

/-- Head `h` of a block of the gradient. -/
def gTile (x0 : Vec Ideal S1x36x256x128 .fp8e5m2) (h : Fin 36) : FVec Ideal S256x128 .fp8e5m2 :=
  shapeCast S256x128 (show FVec Ideal S1x1x256x128 .fp8e5m2 from
    View.ld x0 (Rect.unit (s := S1x36x256x128) ![0, h.val, 0, 0] S1x1x256x128.size (gIn h))) shapeCasts_S1x1x256x128_S256x128

theorem gTile_at (x0 : Vec Ideal S1x36x256x128 .fp8e5m2) (h : Fin 36) (i : S256x128.Idx) : gTile x0 h i = x0 (ix4 0 h (i 0) (i 1)) := by
  pointwise [gTile]
  blk_ext []

theorem wIn (n : Fin 12) (h : Fin 36) : ∀ a, (![h.val, 256 * n.val, 0] : Fin 3 → Nat) a + S1x256x128.size a ≤ S36x3072x128.size a := by
  revert n h; decide +kernel

/-- Head `h` of the weights, model channels from `256 n`. -/
def wTile (x1 : Vec Ideal S36x3072x128 .fp8e4m3) (n : Fin 12) (h : Fin 36) : FVec Ideal S256x128 .fp8e4m3 :=
  shapeCast S256x128 (show FVec Ideal S1x256x128 .fp8e4m3 from
    View.ld x1 (Rect.unit (s := S36x3072x128) ![h.val, 256 * n.val, 0] S1x256x128.size (wIn n h))) shapeCasts_S1x256x128_S256x128

theorem wTile_at (x1 : Vec Ideal S36x3072x128 .fp8e4m3) (n : Fin 12) (h : Fin 36) (i : S256x128.Idx) :
    wTile x1 n h i = x1 (ix3 h (⟨256 * n.val + (i 0).val, by have := (i 0).isLt; change (i 0).val < 256 at this; omega⟩ : Fin 3072) (i 1)) := by
  pointwise [wTile]
  blk_ext []

theorem cat {φ : FTy} (f : Fin 36 → FVec Ideal S256x128 φ) (i : S256x4608.Idx) h :
    concatenate S256x4608 1 (List.ofFn fun n : Fin 36 => (⟨S256x128, f n⟩ : (s : Shape) × (s.Idx → Ideal φ))) h i
      = f (⟨(i 1).val / 128, by have := (i 1).isLt; change (i 1).val < 4608 at this; omega⟩ : Fin 36)
          (ix2 (i 0) (⟨(i 1).val % 128, by omega⟩ : Fin 128)) := by
  refine concatenate_ofFn_apply 1 f h rfl 128 rfl i _ rfl _ rfl fun b hb => ?_
  fin_cases b
  · rfl
  · exact absurd rfl hb

theorem cats : Shape.Concatenates (List.replicate 36 S256x128) S256x4608 1 := by decide

/-- The heads of a block of the gradient side by side. -/
def gRow (x0 : Vec Ideal S1x36x256x128 .fp8e5m2) : FVec Ideal S256x4608 .fp8e5m2 :=
  fun i => x0 (ix4 0 (⟨(i 1).val / 128, by have := (i 1).isLt; change (i 1).val < 4608 at this; omega⟩ : Fin 36) (i 0)
    (⟨(i 1).val % 128, by omega⟩ : Fin 128))

/-- The heads of a slice of the weights side by side: model channels from `256 n`. -/
def wRow (x1 : Vec Ideal S36x3072x128 .fp8e4m3) (n : Fin 12) : FVec Ideal S256x4608 .fp8e4m3 :=
  fun i => x1 (ix3 (⟨(i 1).val / 128, by have := (i 1).isLt; change (i 1).val < 4608 at this; omega⟩ : Fin 36)
    (⟨256 * n.val + (i 0).val, by have := (i 0).isLt; change (i 0).val < 256 at this; omega⟩ : Fin 3072)
    (⟨(i 1).val % 128, by omega⟩ : Fin 128))

theorem g_cat (x0 : Vec Ideal S1x36x256x128 .fp8e5m2) :
    concatenate S256x4608 1 (List.ofFn fun n : Fin 36 => (⟨S256x128, gTile x0 n⟩ : (s : Shape) × (s.Idx → Ideal .fp8e5m2))) cats = gRow x0 := by
  funext i
  exact (cat (gTile x0) i cats).trans (gTile_at _ _ _)

theorem w_cat (x1 : Vec Ideal S36x3072x128 .fp8e4m3) (n : Fin 12) :
    concatenate S256x4608 1 (List.ofFn fun h : Fin 36 => (⟨S256x128, wTile x1 n h⟩ : (s : Shape) × (s.Idx → Ideal .fp8e4m3))) cats = wRow x1 n := by
  funext i
  exact (cat (wTile x1 n) i cats).trans (wTile_at _ _ _ _)

/-- What the block's 256 columns from `256 n` come to, `D` being the residual gradient there. -/
def chunk (x0 : Vec Ideal S1x36x256x128 .fp8e5m2) (x1 : Vec Ideal S36x3072x128 .fp8e4m3) (D : Vec Ideal S256x256 .bf16) (n : Fin 12) : FVec Ideal S256x256 .bf16 :=
  k0_pay2 (F := Ideal)
    (concatenate S256x4608 1 (List.ofFn fun n : Fin 36 => (⟨S256x128, gTile x0 n⟩ : (s : Shape) × (s.Idx → Ideal .fp8e5m2))) cats)
    (concatenate S256x4608 1 (List.ofFn fun h : Fin 36 => (⟨S256x128, wTile x1 n h⟩ : (s : Shape) × (s.Idx → Ideal .fp8e4m3))) cats) D

/-- One block of the input gradient: 256 tokens, all model channels. -/
def BLK (x0 : FVec Ideal S1x36x256x128 .fp8e5m2) (x1 : FVec Ideal S36x3072x128 .fp8e4m3) (x2 : FVec Ideal S256x3072 .bf16) : FVec Ideal S256x3072 .bf16 :=
  fun y => (Ideal.ofBits .f32 1063581998#32 * (x2 y : EReal)
    + (∑ k : Fin 4608, (x0 (ix4 0 (⟨k.val / 128, by omega⟩ : Fin 36) (y 0) (⟨k.val % 128, by omega⟩ : Fin 128)) : EReal)
        * (x1 (ix3 (⟨k.val / 128, by omega⟩ : Fin 36) (y 1) (⟨k.val % 128, by omega⟩ : Fin 128)) : EReal))
      * Ideal.ofBits .f32 1014062063#32 : EReal)

theorem chunk_at (x0 : Vec Ideal S1x36x256x128 .fp8e5m2) (x1 : Vec Ideal S36x3072x128 .fp8e4m3) (x2 : Vec Ideal S256x3072 .bf16)
    (D : Vec Ideal S256x256 .bf16) (n : Fin 12) (x : S256x256.Idx) (y : S256x3072.Idx)
    (h0 : (y 0 : ℕ) = x 0) (h1 : (y 1 : ℕ) = 256 * n.val + x 1) (hD : D x = x2 y) :
    chunk x0 x1 D n x = BLK x0 x1 x2 y := by
  unfold chunk
  rw [g_cat, w_cat]
  pointwise [k0_pay2, gRow, wRow, BLK]
  blk_point []
  exact hD

theorem out_at (x0 : FVec Ideal S1x36x256x128 .fp8e5m2) (x1 : FVec Ideal S36x3072x128 .fp8e4m3) (x2 : FVec Ideal S256x3072 .bf16) (y : S256x3072.Idx) :
    out0_3 (F := Ideal) x0 x1 x2 y = BLK x0 x1 x2 y := by
  canon_tiles x h
  case piece0 =>
    refine Eq.trans (b := chunk x0 x1 (View.ld x2 r0_479) 11 x) rfl (chunk_at _ _ _ _ _ _ _ (by omega) (by omega) ?_)
    pointwise
    blk_ext []
  case piece1 =>
    refine Eq.trans (b := chunk x0 x1 (View.ld x2 r0_442) 10 x) rfl (chunk_at _ _ _ _ _ _ _ (by omega) (by omega) ?_)
    pointwise
    blk_ext []
  case piece2 =>
    refine Eq.trans (b := chunk x0 x1 (View.ld x2 r0_405) 9 x) rfl (chunk_at _ _ _ _ _ _ _ (by omega) (by omega) ?_)
    pointwise
    blk_ext []
  case piece3 =>
    refine Eq.trans (b := chunk x0 x1 (View.ld x2 r0_368) 8 x) rfl (chunk_at _ _ _ _ _ _ _ (by omega) (by omega) ?_)
    pointwise
    blk_ext []
  case piece4 =>
    refine Eq.trans (b := chunk x0 x1 (View.ld x2 r0_331) 7 x) rfl (chunk_at _ _ _ _ _ _ _ (by omega) (by omega) ?_)
    pointwise
    blk_ext []
  case piece5 =>
    refine Eq.trans (b := chunk x0 x1 (View.ld x2 r0_294) 6 x) rfl (chunk_at _ _ _ _ _ _ _ (by omega) (by omega) ?_)
    pointwise
    blk_ext []
  case piece6 =>
    refine Eq.trans (b := chunk x0 x1 (View.ld x2 r0_257) 5 x) rfl (chunk_at _ _ _ _ _ _ _ (by omega) (by omega) ?_)
    pointwise
    blk_ext []
  case piece7 =>
    refine Eq.trans (b := chunk x0 x1 (View.ld x2 r0_220) 4 x) rfl (chunk_at _ _ _ _ _ _ _ (by omega) (by omega) ?_)
    pointwise
    blk_ext []
  case piece8 =>
    refine Eq.trans (b := chunk x0 x1 (View.ld x2 r0_183) 3 x) rfl (chunk_at _ _ _ _ _ _ _ (by omega) (by omega) ?_)
    pointwise
    blk_ext []
  case piece9 =>
    refine Eq.trans (b := chunk x0 x1 (View.ld x2 r0_146) 2 x) rfl (chunk_at _ _ _ _ _ _ _ (by omega) (by omega) ?_)
    pointwise
    blk_ext []
  case piece10 =>
    refine Eq.trans (b := chunk x0 x1 (View.ld x2 r0_109) 1 x) rfl (chunk_at _ _ _ _ _ _ _ (by omega) (by omega) ?_)
    pointwise
    blk_ext []
  case piece11 =>
    refine Eq.trans (b := chunk x0 x1 (View.ld x2 r0_72) 0 x) rfl (chunk_at _ _ _ _ _ _ _ (by omega) (by omega) ?_)
    pointwise
    blk_ext []

end Cert.KDxIdeal.Hand
-- ==== Proof.DxValue.lean ====
module

public import proofs.«01_k».proof.Proof.DxTiles
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KDxIdeal.Hand
open Cert.KDxIdeal Cert.KDxIdeal.Gen

variable (m : (ℓ : Loc nD τ sig) → Buf (Elt Ideal) ℓ)

theorem V_v0 (c : Dev nD) : V m c main_v0 = shapeCast S2048x3072 (m ((c : Thread nD τ).loc main_arg2)) shapeCasts_S2x1024x3072_S2048x3072 := by
  entry_read
  rfl

theorem V_v1 (c : Dev nD) : V m c main_v1 = transpose S36x3072x128 [1, 0, 2] (m ((c : Thread nD τ).loc main_arg1)) transposes_S3072x36x128_S36x3072x128_1_0_2 := by
  entry_read
  rfl

theorem read0 (c : Dev nD) (t : Fin cfg0.N) (z : S1x36x256x128.Idx) (w : S2x36x1024x128.Idx)
    (h0 : (w 0 : ℕ) = t.val / 4) (h1 : (w 1 : ℕ) = z 1) (h2 : (w 2 : ℕ) = t.val % 4 * 256 + z 2) (h3 : (w 3 : ℕ) = z 3) :
    iblk m c 0 t z = m ((c : Thread nD τ).loc main_arg0) w := by
  blk_ext [iblk, V, idx t]

theorem read1 (c : Dev nD) (t : Fin cfg0.N) (z : S36x3072x128.Idx) (w : S3072x36x128.Idx)
    (h0 : (w 0 : ℕ) = z 1) (h1 : (w 1 : ℕ) = z 0) (h2 : (w 2 : ℕ) = z 2) :
    iblk m c 1 t z = m ((c : Thread nD τ).loc main_arg1) w := by
  blk_simp [iblk]
  rw [V_v1]
  pointwise
  blk_ext [idx t]

theorem emb2 (t : Fin cfg0.N) (z : S256x3072.Idx) : ((((cfg0.win 2).blk t).view.emb z) 0 : ℕ) = t.val * 256 + (z 0 : ℕ) ∧ ((((cfg0.win 2).blk t).view.emb z) 1 : ℕ) = (z 1 : ℕ) := by
  constructor
  · blk_simp [idx t] <;> try omega
  · blk_simp [idx t] <;> try omega

theorem flat (Y : FVec Ideal S2x1024x3072 .bf16) (j : S2048x3072.Idx) (w : S2x1024x3072.Idx)
  (h0 : (w 0 : ℕ) = j 0 / 1024) (h1 : (w 1 : ℕ) = (j 0) % 1024) (h2 : (w 2 : ℕ) = j 1) : shapeCast S2048x3072 Y shapeCasts_S2x1024x3072_S2048x3072 j = Y w := by
  pointwise
  blk_ext []
theorem iblk2 (c : Dev nD) (t : Fin cfg0.N) (z : S256x3072.Idx) :
   iblk m c 2 t z = (V m c main_v0 : FVec Ideal S2048x3072 .bf16) (((cfg0.win 2).blk t).view.emb z) := by
  rfl
theorem read2 (c : Dev nD) (t : Fin cfg0.N) (z : S256x3072.Idx) (w : S2x1024x3072.Idx)
    (h0 : (w 0 : ℕ) = (t.val * 256 + z 0) / 1024) (h1 : (w 1 : ℕ) = (t.val * 256 + z 0) % 1024) (h2 : (w 2 : ℕ) = z 1) :
    iblk m c 2 t z = m ((c : Thread nD τ).loc main_arg2) w := by
  rw [iblk2, V_v0]
  obtain ⟨e0, e1⟩ := emb2 t z
  exact flat _ _ w (by rw [e0]; exact h0) (by rw [e0]; exact h1) (by rw [e1]; exact h2)

/-- The kernel's array is `REF` of the argument arrays. -/
theorem final (c : Dev nD) : (dats m 0 c).arrAt 3 (cfgs 0).N
    = Cert.Dx.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 8 := lt_of_lt_of_eq t.isLt N_0
  have e0 : ((((cfg0.win 3).blk t).view.emb y) 0 : ℕ) = t.val * 256 + (y 0 : ℕ) := by
    blk_simp [idx t] <;> try omega
  have e1 : ((((cfg0.win 3).blk t).view.emb y) 1 : ℕ) = (y 1 : ℕ) := by
    blk_simp [idx t] <;> try omega
  have hy0 : (y 0).val < 256 := (y 0).isLt
  generalize ((cfg0.win 3).blk t).view.emb y = j at *
  blk_simp
  rw [after0_3, out_at]
  unfold BLK Cert.Dx.REF
  refine congrArg₂ (fun a b : EReal => a + b) (congrArg (fun a : EReal => _ * a) ?_)
    (congrArg (fun a : EReal => a * _) (Finset.sum_congr rfl fun k _ => congrArg₂ (fun a b : EReal => a * b) ?_ ?_))
  · exact read2 m c t _ _ (by simp; omega) (by simp; omega) e1
  · exact read0 m c t _ _ (by simp; omega) rfl (by simp; omega) rfl
  · exact read1 m c t _ _ e1 rfl rfl

end Cert.KDxIdeal.Hand
-- ==== Proof.DwqkvValue.lean ====
module

public import proofs.«01_k».proof.Proof.Gen.KDwqkvIdeal.Frame
public import proofs.«01_k».proof.Proof.Gen.RDwqkvIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- The weight gradient of the input projection, entry by entry: head `j 0`, model channel `j 1`, head channel
`j 2`.  The sum runs over all tokens of both batches. -/
def Cert.Dwqkv.REF (X : FVec Ideal Cert.KDwqkvIdeal.S2048x3072 .fp8e4m3)
    (Y : FVec Ideal Cert.KDwqkvIdeal.S2x36x1024x128 .fp8e5m2) : FVec Ideal Cert.KDwqkvIdeal.S36x3072x128 .bf16 :=
  fun j => ((∑ x : Fin 2048, (X (ix2 x (j 1)) : EReal)
    * (Y (ix4 (⟨x.val / 1024, by omega⟩ : Fin 2) (j 0) (⟨x.val % 1024, by omega⟩ : Fin 1024) (j 2)) : EReal))
    * Ideal.ofBits .f32 1018496243#32 : EReal)

namespace Cert.RDwqkvIdeal.Hand
open Cert.RDwqkvIdeal Cert.RDwqkvIdeal.Gen

variable (m : (ℓ : Loc nD τ sig) → Buf (Elt Ideal) ℓ)

theorem idx : win0_0.index t0_0 = ![0, 0] ∧ win0_1.index t0_0 = ![0, 0] ∧ win0_2.index t0_0 = ![0, 0, 0] := by
  decide +kernel

theorem final_pay (c : Dev nD) : (dats m 0 c).arrAt 2 (cfgs 0).N
    = k0_pay1 (V m c main_arg0) (V m c main_v1) := by
  refine (dats m 0 c).arrAt_eq_of_after_last 2 t0_0 (by decide +kernel) _ fun j => ?_
  blk_simp
  rw [after0_2]
  frame_out
  blk_point [iblk, idx]

theorem final (c : Dev nD) : (dats m 0 c).arrAt 2 (cfgs 0).N
    = Cert.Dwqkv.REF (m ((c : Thread nD τ).loc main_arg0)) (m ((c : Thread nD τ).loc main_arg1)) := by
  rw [final_pay, V_main_arg0]
  entry_read
  funext j
  pointwise [k0_pay1, Cert.Dwqkv.REF]

end Cert.RDwqkvIdeal.Hand

namespace Cert.KDwqkvIdeal.Hand
open Cert.KDwqkvIdeal Cert.KDwqkvIdeal.Gen

variable (m : (ℓ : Loc nD τ sig) → Buf (Elt Ideal) ℓ)

theorem idx : ∀ t : Fin cfg0.N, win0_0.index t = ![0, t.val] ∧ win0_1.index t = ![0, 0, 0, 0] ∧ win0_2.index t = ![0, t.val, 0] :=
  (by decide +kernel : ∀ t : Fin grid0.N, _)

/-- One block of the gradient: 256 model channels of every head. -/
def BLK (x0 : FVec Ideal S2048x256 .fp8e4m3) (x1 : FVec Ideal S2x36x1024x128 .fp8e5m2) : FVec Ideal S36x256x128 .bf16 :=
  fun y => ((∑ x : Fin 2048, (x0 (ix2 x (y 1)) : EReal)
    * (x1 (ix4 (⟨x.val / 1024, by omega⟩ : Fin 2) (y 0) (⟨x.val % 1024, by omega⟩ : Fin 1024) (y 2)) : EReal))
    * Ideal.ofBits .f32 1018496243#32 : EReal)

theorem out_at (x0 : FVec Ideal S2048x256 .fp8e4m3) (x1 : FVec Ideal S2x36x1024x128 .fp8e5m2) (y : S36x256x128.Idx) :
    out0_2 (F := Ideal) x0 x1 y = BLK x0 x1 y := by
  canon_tiles x h
  all_goals
    open_payloads
    pointwise [BLK, k0_pay73]
    rw [Fin.sum_univ_two_halves 1024 1024 rfl]
    blk_point []

theorem final (c : Dev nD) : (dats m 0 c).arrAt 2 (cfgs 0).N
    = Cert.Dwqkv.REF (m ((c : Thread nD τ).loc main_arg0)) (m ((c : Thread nD τ).loc main_arg1)) := by
  refine (dats m 0 c).arrAt_eq_of_covers 2 _ (by decide +kernel) fun t _ y => ?_
  blk_simp
  rw [after0_2, out_at]
  unfold BLK Cert.Dwqkv.REF
  blk_point [iblk, V, idx t]

end Cert.KDwqkvIdeal.Hand
-- ==== Proof.LnRef.lean ====
module

public import proofs.«01_k».proof.Proof.Gen.RLnIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ln

/-- A row of 3072 model channels. -/
abbrev Row := Fin 3072 → EReal

/-- The mean of a row. -/
def mean (b : Row) : EReal := Ideal.div (∑ k, b k) (Ideal.ofBits .f32 0x45400000#32)

/-- A row less its mean. -/
def cen (b : Row) : Row := fun k => b k - mean b

/-- One over the standard deviation of a row, the variance having its small constant added. -/
def rstd (b : Row) : EReal := Ideal.div 1 (Ideal.sqrt (mean (fun k => cen b k * cen b k) + Ideal.ofBits .f32 0x3727C5AC#32))

/-- A normalised row. -/
def zrow (b : Row) : Row := fun k => cen b k * rstd b

/-- The residual sum of an input row `x` and the normalised row, scaled and shifted. -/
def yrow (b γ β x : Row) : Row := fun k =>
  Ideal.ofBits .f32 0x3F64F92E#32 * x k + Ideal.ofBits .f32 0x3EE4F92E#32 * (zrow b k * γ k + β k)

/-- The gradient that reaches the branch from the output gradient's row `u`. -/
def drow (u : Row) : Row := fun k => Ideal.ofBits .f32 0x3EE4F92E#32 * u k

/-- The gradient before the scaling by `γ`. -/
def grow (u γ : Row) : Row := fun k => drow u k * γ k

/-- The gradient with respect to the row before normalisation, kept within the range of the fp8 format. -/
def gbrow (b u γ : Row) : Row := fun k =>
  min (Ideal.ofBits .f32 0x47600000#32) (max (Ideal.ofBits .f32 0xC7600000#32)
    (rstd b * ((grow u γ k - mean (grow u γ)) - zrow b k * mean (fun l => grow u γ l * zrow b l))))

/-- Row `r` (a token of the two batches) of the attention output times the output projection's weights, scaled. -/
def brow (O : FVec Ideal Cert.RLnIdeal.S2x24x1024x128 .fp8e4m3) (W : FVec Ideal Cert.RLnIdeal.S24x128x3072 .fp8e4m3) (r : Fin 2048) : Row :=
  fun n => (∑ k : Fin 3072, (O (ix4 (⟨r.val / 1024, by omega⟩ : Fin 2) (⟨k.val / 128, by omega⟩ : Fin 24)
      (⟨r.val % 1024, by omega⟩ : Fin 1024) (⟨k.val % 128, by omega⟩ : Fin 128)) : EReal)
    * (W (ix3 (⟨k.val / 128, by omega⟩ : Fin 24) (⟨k.val % 128, by omega⟩ : Fin 128) n) : EReal)) * Ideal.ofBits .f32 0x3C93CD3A#32

/-- Row `r` of an array of two batches of 1024 tokens. -/
def trow (X : FVec Ideal Cert.RLnIdeal.S2x1024x3072 .bf16) (r : Fin 2048) : Row :=
  fun k => X (ix3 (⟨r.val / 1024, by omega⟩ : Fin 2) (⟨r.val % 1024, by omega⟩ : Fin 1024) k)

/-- A vector of one number for each channel, as a row. -/
def vrow (G : FVec Ideal Cert.RLnIdeal.S3072 .f32) : Row := fun k => G (ix1 k)

/-- The layer's output. -/
def REFy (O : FVec Ideal Cert.RLnIdeal.S2x24x1024x128 .fp8e4m3) (W : FVec Ideal Cert.RLnIdeal.S24x128x3072 .fp8e4m3)
    (X : FVec Ideal Cert.RLnIdeal.S2x1024x3072 .bf16) (γ β : FVec Ideal Cert.RLnIdeal.S3072 .f32) : FVec Ideal Cert.RLnIdeal.S2048x3072 .bf16 :=
  fun j => yrow (brow O W (j 0)) (vrow γ) (vrow β) (trow X (j 0)) (j 1)

/-- The gradient before the normalisation. -/
def REFgb (O : FVec Ideal Cert.RLnIdeal.S2x24x1024x128 .fp8e4m3) (W : FVec Ideal Cert.RLnIdeal.S24x128x3072 .fp8e4m3)
    (U : FVec Ideal Cert.RLnIdeal.S2x1024x3072 .bf16) (γ : FVec Ideal Cert.RLnIdeal.S3072 .f32) : FVec Ideal Cert.RLnIdeal.S2048x3072 .fp8e5m2 :=
  fun j => gbrow (brow O W (j 0)) (trow U (j 0)) (vrow γ) (j 1)

/-- That gradient taken back through the output projection: batch, head, position, channel. -/
def REFdo (O : FVec Ideal Cert.RLnIdeal.S2x24x1024x128 .fp8e4m3) (W : FVec Ideal Cert.RLnIdeal.S24x128x3072 .fp8e4m3)
    (U : FVec Ideal Cert.RLnIdeal.S2x1024x3072 .bf16) (γ : FVec Ideal Cert.RLnIdeal.S3072 .f32) : FVec Ideal Cert.RLnIdeal.S2x24x1024x128 .bf16 :=
  fun j => ((∑ n : Fin 3072, (REFgb O W U γ (ix2 (⟨(j 0).val * 1024 + (j 2).val, by
        have := (j 0).isLt; have := (j 2).isLt; change (j 0).val < 2 at *; change (j 2).val < 1024 at *; omega⟩ : Fin 2048) n) : EReal)
      * (W (ix3 (j 1) (j 3) n) : EReal)) * Ideal.ofBits .f32 0x3C93CD3A#32 : EReal)

/-- The gradient of the scale: a sum over all tokens. -/
def REFdg (O : FVec Ideal Cert.RLnIdeal.S2x24x1024x128 .fp8e4m3) (W : FVec Ideal Cert.RLnIdeal.S24x128x3072 .fp8e4m3)
    (U : FVec Ideal Cert.RLnIdeal.S2x1024x3072 .bf16) : FVec Ideal Cert.RLnIdeal.S1x3072 .f32 :=
  fun j => (∑ r : Fin 2048, drow (trow U r) (j 1) * zrow (brow O W r) (j 1) : EReal)

/-- The gradient of the shift: a sum over all tokens. -/
def REFdb (U : FVec Ideal Cert.RLnIdeal.S2x1024x3072 .bf16) : FVec Ideal Cert.RLnIdeal.S1x3072 .f32 :=
  fun j => (∑ r : Fin 2048, drow (trow U r) (j 1) : EReal)

end Cert.Ln

namespace Cert.RLnIdeal.Hand
open Cert.RLnIdeal Cert.RLnIdeal.Gen Cert.Ln

variable (m : (ℓ : Loc nD τ sig) → Buf (Elt Ideal) ℓ)

/-- Row `r` of the product of the two operands, scaled. -/
def prow (o : FVec Ideal S2048x3072 .fp8e4m3) (w : FVec Ideal S3072x3072 .fp8e4m3) (r : Fin 2048) : Row :=
  fun n => (∑ k : Fin 3072, (o (ix2 r k) : EReal) * (w (ix2 k n) : EReal)) * Ideal.ofBits .f32 0x3C93CD3A#32

/-- The centred rows. -/
theorem p3 (o : FVec Ideal S2048x3072 .fp8e4m3) (w : FVec Ideal S3072x3072 .fp8e4m3) (r : Fin 2048) (k : Fin 3072) :
    k0_pay3 (F := Ideal) o w (ix2 r k) = cen (prow o w r) k := by
  pointwise [k0_pay3]
  rfl

/-- The rows' inverse standard deviations. -/
theorem p4 (o : FVec Ideal S2048x3072 .fp8e4m3) (w : FVec Ideal S3072x3072 .fp8e4m3) (r : Fin 2048) (q : Fin 1) :
    k0_pay4 (F := Ideal) o w (ix2 r q) = rstd (prow o w r) := by
  pointwise [k0_pay4, p3]
  rfl

/-- The normalised rows. -/
theorem p5 (o : FVec Ideal S2048x3072 .fp8e4m3) (w : FVec Ideal S3072x3072 .fp8e4m3) (r : Fin 2048) (k : Fin 3072) :
    k0_pay5 (F := Ideal) o w (ix2 r k) = zrow (prow o w r) k := by
  pointwise [k0_pay5, p3, p4]
  rfl

/-- The output rows. -/
theorem p6 (o : FVec Ideal S2048x3072 .fp8e4m3) (w : FVec Ideal S3072x3072 .fp8e4m3) (g b : FVec Ideal S3072 .f32)
    (x : FVec Ideal S2048x3072 .bf16) (r : Fin 2048) (k : Fin 3072) :
    k0_pay6 (F := Ideal) o w g b x (ix2 r k) = yrow (prow o w r) (vrow g) (vrow b) (fun l => x (ix2 r l)) k := by
  pointwise [k0_pay6, k0_pay2, p5]
  rfl

/-- The gradient rows that reach the branch. -/
theorem p7 (u : FVec Ideal S2048x3072 .bf16) (r : Fin 2048) (k : Fin 3072) :
    k0_pay7 (F := Ideal) u (ix2 r k) = drow (fun l => u (ix2 r l)) k := by
  pointwise [k0_pay7]
  rfl

/-- The gradient rows before the normalisation. -/
theorem p10 (o : FVec Ideal S2048x3072 .fp8e4m3) (w : FVec Ideal S3072x3072 .fp8e4m3) (g : FVec Ideal S3072 .f32)
    (u : FVec Ideal S2048x3072 .bf16) (r : Fin 2048) (k : Fin 3072) :
    k0_pay10 (F := Ideal) (k0_pay2 g) (k0_pay4 o w) (k0_pay5 o w) u (ix2 r k)
      = gbrow (prow o w r) (fun l => u (ix2 r l)) (vrow g) k := by
  pointwise [k0_pay10, k0_pay2, p4, p5, p7]
  rfl

/-- The gradient of the scale. -/
theorem p8 (o : FVec Ideal S2048x3072 .fp8e4m3) (w : FVec Ideal S3072x3072 .fp8e4m3) (u : FVec Ideal S2048x3072 .bf16) (q : Fin 1) (k : Fin 3072) :
    k0_pay8 (F := Ideal) (k0_pay5 o w) u (ix2 q k)
      = ∑ r : Fin 2048, drow (fun l => u (ix2 r l)) k * zrow (prow o w r) k := by
  pointwise [k0_pay8, p5, p7]

/-- The gradient of the shift. -/
theorem p9 (u : FVec Ideal S2048x3072 .bf16) (q : Fin 1) (k : Fin 3072) :
    k0_pay9 (F := Ideal) u (ix2 q k) = ∑ r : Fin 2048, drow (fun l => u (ix2 r l)) k := by
  pointwise [k0_pay9, p7]

/-- The call's one point stages every array whole. -/
theorem idx : win0_0.index t0_0 = ![0, 0] ∧ win0_1.index t0_0 = ![0, 0] ∧ win0_2.index t0_0 = ![0, 0] ∧ win0_3.index t0_0 = ![0, 0]
    ∧ win0_4.index t0_0 = ![0] ∧ win0_5.index t0_0 = ![0] ∧ win0_6.index t0_0 = ![0, 0] ∧ win0_7.index t0_0 = ![0, 0]
    ∧ win0_8.index t0_0 = ![0, 0, 0, 0] ∧ win0_9.index t0_0 = ![0, 0] ∧ win0_10.index t0_0 = ![0, 0] := by
  decide +kernel

/-- The attention output's rows, one for each token, heads side by side. -/
theorem V_v1 (c : Dev nD) : V m c main_v1 = shapeCast S2048x3072 (transpose S2x1024x24x128 [0, 2, 1, 3]
    (m ((c : Thread nD τ).loc main_arg0)) transposes_S2x24x1024x128_S2x1024x24x128_0_2_1_3) shapeCasts_S2x1024x24x128_S2048x3072 := by
  entry_read
  rfl

/-- The weights as one matrix. -/
theorem V_v2 (c : Dev nD) : V m c main_v2 = shapeCast S3072x3072 (m ((c : Thread nD τ).loc main_arg1)) shapeCasts_S24x128x3072_S3072x3072 := by
  entry_read
  rfl

/-- The input's rows. -/
theorem V_v3 (c : Dev nD) : V m c main_v3 = shapeCast S2048x3072 (m ((c : Thread nD τ).loc main_arg2)) shapeCasts_S2x1024x3072_S2048x3072 := by
  entry_read
  rfl

/-- The output gradient's rows. -/
theorem V_v4 (c : Dev nD) : V m c main_v4 = shapeCast S2048x3072 (m ((c : Thread nD τ).loc main_arg3)) shapeCasts_S2x1024x3072_S2048x3072 := by
  entry_read
  rfl

/-- The rows of the product, from the argument arrays. -/
theorem prow_eq (O : FVec Ideal S2x24x1024x128 .fp8e4m3) (W : FVec Ideal S24x128x3072 .fp8e4m3) (r : Fin 2048) :
    prow (shapeCast S2048x3072 (transpose S2x1024x24x128 [0, 2, 1, 3] O transposes_S2x24x1024x128_S2x1024x24x128_0_2_1_3) shapeCasts_S2x1024x24x128_S2048x3072)
      (shapeCast S3072x3072 W shapeCasts_S24x128x3072_S3072x3072) r = brow O W r := by
  funext n
  pointwise [prow, brow]

/-- An array of two batches, its rows one for each token, read at row `r`. -/
theorem xrow_eq (X : FVec Ideal S2x1024x3072 .bf16) (r : Fin 2048) :
    (fun k : Fin 3072 => (shapeCast S2048x3072 X shapeCasts_S2x1024x3072_S2048x3072 (ix2 r k) : EReal)) = trow X r := by
  funext n
  pointwise [trow]

/-- The block staged for operand 0 is the whole operand. -/
theorem ib0 (c : Dev nD) : iblk m c 0 t0_0 = V m c main_v1 := by
  funext z
  blk_ext [iblk, idx]

/-- The block staged for operand 1 is the whole operand. -/
theorem ib1 (c : Dev nD) : iblk m c 1 t0_0 = V m c main_v2 := by
  funext z
  blk_ext [iblk, idx]

/-- The block staged for operand 2 is the whole operand. -/
theorem ib2 (c : Dev nD) : iblk m c 2 t0_0 = V m c main_v3 := by
  funext z
  blk_ext [iblk, idx]

/-- The block staged for operand 3 is the whole operand. -/
theorem ib3 (c : Dev nD) : iblk m c 3 t0_0 = V m c main_v4 := by
  funext z
  blk_ext [iblk, idx]

/-- The block staged for operand 4 is the whole operand. -/
theorem ib4 (c : Dev nD) : iblk m c 4 t0_0 = V m c main_arg4 := by
  funext z
  blk_ext [iblk, idx]

/-- The block staged for operand 5 is the whole operand. -/
theorem ib5 (c : Dev nD) : iblk m c 5 t0_0 = V m c main_arg5 := by
  funext z
  blk_ext [iblk, idx]

/-- A load of a whole matrix is the matrix. -/
theorem ld0 {φ : EltTy} (x : Vec Ideal S2048x3072 φ) : View.ld x r0_0 = x := by
  funext z
  pointwise
  blk_ext []

/-- A load of a whole matrix is the matrix. -/
theorem ld1 {φ : EltTy} (x : Vec Ideal S3072x3072 φ) : View.ld x r0_1 = x := by
  funext z
  pointwise
  blk_ext []

/-- A load of a whole vector is the vector. -/
theorem ld2 {φ : EltTy} (x : Vec Ideal S3072 φ) : View.ld x r0_2 = x := by
  funext z
  pointwise
  blk_ext []

/-- What the body leaves as the output: one payload over its operands. -/
theorem out6 (x0 : FVec Ideal S2048x3072 .fp8e4m3) (x1 : FVec Ideal S3072x3072 .fp8e4m3) (x2 x3 : FVec Ideal S2048x3072 .bf16) (x4 x5 : FVec Ideal S3072 .f32) :
    out0_6 (F := Ideal) x0 x1 x2 x3 x4 x5 = k0_pay6 (F := Ideal) x0 x1 x4 x5 x2 := by
  funext y
  frame_out

/-- The array of the output: its one payload over the whole operands. -/
theorem final_pay6 (c : Dev nD) : (dats m 0 c).arrAt 6 (cfgs 0).N
    = k0_pay6 (V m c main_v1) (V m c main_v2) (V m c main_arg4) (V m c main_arg5) (V m c main_v3) := by
  refine (dats m 0 c).arrAt_eq_of_after_last 6 t0_0 (by decide +kernel) _ fun j => ?_
  blk_simp
  rw [after0_6, out6]
  simp only [ib0, ib1, ib2, ib3, ib4, ib5]
  blk_ext [idx]

/-- What the body leaves as the gradient before the normalisation: one payload over its operands. -/
theorem out7 (x0 : FVec Ideal S2048x3072 .fp8e4m3) (x1 : FVec Ideal S3072x3072 .fp8e4m3) (x2 x3 : FVec Ideal S2048x3072 .bf16) (x4 x5 : FVec Ideal S3072 .f32) :
    out0_7 (F := Ideal) x0 x1 x2 x3 x4 x5 = k0_pay10 (F := Ideal) (k0_pay2 x4) (k0_pay4 x0 x1) (k0_pay5 x0 x1) x3 := by
  funext y
  frame_out
  simp only [k0_pay11, k0_pay12, k0_pay13, ld0, ld1, ld2]

/-- The array of the gradient before the normalisation: its one payload over the whole operands. -/
theorem final_pay7 (c : Dev nD) : (dats m 0 c).arrAt 7 (cfgs 0).N
    = k0_pay10 (k0_pay2 (V m c main_arg4)) (k0_pay4 (V m c main_v1) (V m c main_v2)) (k0_pay5 (V m c main_v1) (V m c main_v2)) (V m c main_v4) := by
  refine (dats m 0 c).arrAt_eq_of_after_last 7 t0_0 (by decide +kernel) _ fun j => ?_
  blk_simp
  rw [after0_7, out7]
  simp only [ib0, ib1, ib2, ib3, ib4, ib5]
  blk_ext [idx]

/-- What the body leaves as the gradient behind the projection: one payload over its operands. -/
theorem out8 (x0 : FVec Ideal S2048x3072 .fp8e4m3) (x1 : FVec Ideal S3072x3072 .fp8e4m3) (x2 x3 : FVec Ideal S2048x3072 .bf16) (x4 x5 : FVec Ideal S3072 .f32) :
    out0_8 (F := Ideal) x0 x1 x2 x3 x4 x5 = k0_pay1 (F := Ideal) (k0_pay10 (k0_pay2 x4) (k0_pay4 x0 x1) (k0_pay5 x0 x1) x3) x1 := by
  funext y
  frame_out
  simp only [k0_pay11, k0_pay12, k0_pay13, ld0, ld1, ld2]

/-- The array of the gradient behind the projection: its one payload over the whole operands. -/
theorem final_pay8 (c : Dev nD) : (dats m 0 c).arrAt 8 (cfgs 0).N
    = k0_pay1 (k0_pay10 (k0_pay2 (V m c main_arg4)) (k0_pay4 (V m c main_v1) (V m c main_v2)) (k0_pay5 (V m c main_v1) (V m c main_v2)) (V m c main_v4)) (V m c main_v2) := by
  refine (dats m 0 c).arrAt_eq_of_after_last 8 t0_0 (by decide +kernel) _ fun j => ?_
  blk_simp
  rw [after0_8, out8]
  simp only [ib0, ib1, ib2, ib3, ib4, ib5]
  blk_ext [idx]

/-- What the body leaves as the gradient of the scale: one payload over its operands. -/
theorem out9 (x0 : FVec Ideal S2048x3072 .fp8e4m3) (x1 : FVec Ideal S3072x3072 .fp8e4m3) (x2 x3 : FVec Ideal S2048x3072 .bf16) (x4 x5 : FVec Ideal S3072 .f32) :
    out0_9 (F := Ideal) x0 x1 x2 x3 x4 x5 = k0_pay8 (F := Ideal) (k0_pay5 x0 x1) x3 := by
  funext y
  frame_out
  simp only [k0_pay11, k0_pay12, k0_pay13, ld0, ld1, ld2]

/-- The array of the gradient of the scale: its one payload over the whole operands. -/
theorem final_pay9 (c : Dev nD) : (dats m 0 c).arrAt 9 (cfgs 0).N
    = k0_pay8 (k0_pay5 (V m c main_v1) (V m c main_v2)) (V m c main_v4) := by
  refine (dats m 0 c).arrAt_eq_of_after_last 9 t0_0 (by decide +kernel) _ fun j => ?_
  blk_simp
  rw [after0_9, out9]
  simp only [ib0, ib1, ib2, ib3, ib4, ib5]
  blk_ext [idx]

/-- What the body leaves as the gradient of the shift: one payload over its operands. -/
theorem out10 (x0 : FVec Ideal S2048x3072 .fp8e4m3) (x1 : FVec Ideal S3072x3072 .fp8e4m3) (x2 x3 : FVec Ideal S2048x3072 .bf16) (x4 x5 : FVec Ideal S3072 .f32) :
    out0_10 (F := Ideal) x0 x1 x2 x3 x4 x5 = k0_pay9 (F := Ideal) x3 := by
  funext y
  frame_out

/-- The array of the gradient of the shift: its one payload over the whole operands. -/
theorem final_pay10 (c : Dev nD) : (dats m 0 c).arrAt 10 (cfgs 0).N
    = k0_pay9 (V m c main_v4) := by
  refine (dats m 0 c).arrAt_eq_of_after_last 10 t0_0 (by decide +kernel) _ fun j => ?_
  blk_simp
  rw [after0_10, out10]
  simp only [ib0, ib1, ib2, ib3, ib4, ib5]
  blk_ext [idx]

/-- The gradient behind the projection, from the argument arrays. -/
theorem do_eq (O : FVec Ideal S2x24x1024x128 .fp8e4m3) (W : FVec Ideal S24x128x3072 .fp8e4m3) (U : FVec Ideal S2x1024x3072 .bf16)
    (γ : FVec Ideal S3072 .f32) :
    k0_pay1 (F := Ideal) (REFgb O W U γ) (shapeCast S3072x3072 W shapeCasts_S24x128x3072_S3072x3072) = REFdo O W U γ := by
  funext j
  unfold REFdo
  generalize REFgb O W U γ = G
  pointwise [k0_pay1]

/-- The output, of the argument arrays. -/
theorem final6 (c : Dev nD) : (dats m 0 c).arrAt 6 (cfgs 0).N
    = REFy (m ((c : Thread nD τ).loc main_arg0)) (m ((c : Thread nD τ).loc main_arg1)) (m ((c : Thread nD τ).loc main_arg2)) (m ((c : Thread nD τ).loc main_arg4)) (m ((c : Thread nD τ).loc main_arg5)) := by
  rw [final_pay6, V_main_arg4, V_main_arg5, V_v1, V_v2, V_v3]
  funext j
  idx_vars j
  rw [p6, prow_eq, xrow_eq]
  rfl

/-- The gradient before the normalisation, of the argument arrays. -/
theorem final7 (c : Dev nD) : (dats m 0 c).arrAt 7 (cfgs 0).N
    = REFgb (m ((c : Thread nD τ).loc main_arg0)) (m ((c : Thread nD τ).loc main_arg1)) (m ((c : Thread nD τ).loc main_arg3)) (m ((c : Thread nD τ).loc main_arg4)) := by
  rw [final_pay7, V_main_arg4, V_v1, V_v2, V_v4]
  funext j
  idx_vars j
  rw [p10, prow_eq, xrow_eq]
  rfl

/-- The gradient behind the projection, of the argument arrays. -/
theorem final8 (c : Dev nD) : (dats m 0 c).arrAt 8 (cfgs 0).N
    = REFdo (m ((c : Thread nD τ).loc main_arg0)) (m ((c : Thread nD τ).loc main_arg1)) (m ((c : Thread nD τ).loc main_arg3)) (m ((c : Thread nD τ).loc main_arg4)) := by
  rw [final_pay8, ← final_pay7, final7, V_v2]
  exact do_eq _ _ _ _

/-- The gradient of the scale, of the argument arrays. -/
theorem final9 (c : Dev nD) : (dats m 0 c).arrAt 9 (cfgs 0).N
    = REFdg (m ((c : Thread nD τ).loc main_arg0)) (m ((c : Thread nD τ).loc main_arg1)) (m ((c : Thread nD τ).loc main_arg3)) := by
  rw [final_pay9, V_v1, V_v2, V_v4]
  funext j
  idx_vars j
  rw [p8]
  refine Finset.sum_congr rfl fun r _ => ?_
  rw [prow_eq, xrow_eq]
  rfl

/-- The gradient of the shift, of the argument arrays. -/
theorem final10 (c : Dev nD) : (dats m 0 c).arrAt 10 (cfgs 0).N
    = REFdb (m ((c : Thread nD τ).loc main_arg3)) := by
  rw [final_pay10, V_v4]
  funext j
  idx_vars j
  rw [p9]
  simp only [xrow_eq]
  rfl

end Cert.RLnIdeal.Hand
-- ==== Proof.LnRows.lean ====
module

public import proofs.«01_k».proof.Proof.Gen.KLnIdeal.Frame
public import proofs.«01_k».proof.Proof.LnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KLnIdeal.Hand
open Cert.KLnIdeal Cert.KLnIdeal.Gen Cert.Ln

/-- Row `r` of 64 rows. -/
abbrev row64 {φ : FTy} (v : FVec Ideal S64x3072 φ) (r : Fin 64) : Row := fun k => v (ix2 r k)

/-- The one row of a vector of channels. -/
abbrev row1 (v : FVec Ideal S1x3072 .f32) : Row := fun k => v (ix2 0 k)

/-- The first quarter's centred rows. -/
theorem cen_0 (v : FVec Ideal S64x3072 .f32) (r : Fin 64) (k : Fin 3072) : k0_pay23 (F := Ideal) v (ix2 r k) = cen (row64 v r) k := by
  pointwise [k0_pay23]
  rfl

/-- The first quarter's inverse standard deviations. -/
theorem rstd_0 (v : FVec Ideal S64x3072 .f32) (r : Fin 64) (o : Fin 1) : k0_pay25 (k0_pay24 (F := Ideal) v) (ix2 r o) = rstd (row64 v r) := by
  pointwise [k0_pay25, k0_pay24, cen_0]
  rfl

/-- The first quarter's normalised rows. -/
theorem z_0 (v : FVec Ideal S64x3072 .f32) (r : Fin 64) (k : Fin 3072) : k0_pay26 (k0_pay23 (F := Ideal) v) (k0_pay24 v) (ix2 r k) = zrow (row64 v r) k := by
  pointwise [k0_pay26, cen_0, rstd_0]
  rfl

/-- The first quarter's gradient rows that reach the branch. -/
theorem d_0 (u : FVec Ideal S64x3072 .bf16) (r : Fin 64) (k : Fin 3072) : k0_pay29 (F := Ideal) u (ix2 r k) = drow (row64 u r) k := by
  pointwise [k0_pay29]
  rfl

/-- The first quarter's output rows. -/
theorem y_0 (v : FVec Ideal S64x3072 .f32) (g b : FVec Ideal S1x3072 .f32) (x : FVec Ideal S64x3072 .bf16) (r : Fin 64) (k : Fin 3072) :
    k0_pay28 (k0_pay23 (F := Ideal) v) (k0_pay24 v) g b x (ix2 r k) = yrow (row64 v r) (row1 g) (row1 b) (row64 x r) k := by
  pointwise [k0_pay28, k0_pay27, z_0]
  rfl

/-- The first quarter's gradient rows before the normalisation. -/
theorem gb_0 (v : FVec Ideal S64x3072 .f32) (g : FVec Ideal S1x3072 .f32) (u : FVec Ideal S64x3072 .bf16) (r : Fin 64) (k : Fin 3072) :
    k0_pay32 (k0_pay25 (k0_pay24 v)) (k0_pay26 (k0_pay23 v) (k0_pay24 v)) (k0_pay27 g) (k0_pay29 (F := Ideal) u) (ix2 r k) = gbrow (row64 v r) (row64 u r) (row1 g) k := by
  pointwise [k0_pay32, k0_pay27, z_0, rstd_0, d_0]
  rfl

/-- The first quarter's addition to the gradient of the scale. -/
theorem dg_0 (v : FVec Ideal S64x3072 .f32) (u : FVec Ideal S64x3072 .bf16) (a : FVec Ideal S1x3072 .f32) (o : Fin 1) (k : Fin 3072) :
    k0_pay30 (k0_pay23 v) (k0_pay24 v) u (F := Ideal) a (ix2 o k) = a (ix2 o k) + ∑ r : Fin 64, drow (row64 u r) k * zrow (row64 v r) k := by
  pointwise [k0_pay30, z_0, d_0]

/-- The first quarter's addition to the gradient of the shift. -/
theorem db_0 (u : FVec Ideal S64x3072 .bf16) (a : FVec Ideal S1x3072 .f32) (o : Fin 1) (k : Fin 3072) :
    k0_pay31 (k0_pay29 (F := Ideal) u) a (ix2 o k) = a (ix2 o k) + ∑ r : Fin 64, drow (row64 u r) k := by
  pointwise [k0_pay31, d_0]

/-- The second quarter's centred rows. -/
theorem cen_1 (v : FVec Ideal S64x3072 .f32) (r : Fin 64) (k : Fin 3072) : k0_pay33 (F := Ideal) v (ix2 r k) = cen (row64 v r) k := by
  pointwise [k0_pay33]
  rfl

/-- The second quarter's inverse standard deviations. -/
theorem rstd_1 (v : FVec Ideal S64x3072 .f32) (r : Fin 64) (o : Fin 1) : k0_pay34 (k0_pay33 (F := Ideal) v) (ix2 r o) = rstd (row64 v r) := by
  pointwise [k0_pay34, cen_1]
  rfl

/-- The second quarter's normalised rows. -/
theorem z_1 (v : FVec Ideal S64x3072 .f32) (r : Fin 64) (k : Fin 3072) : k0_pay35 (k0_pay33 (F := Ideal) v) (ix2 r k) = zrow (row64 v r) k := by
  pointwise [k0_pay35, cen_1, rstd_1]
  rfl

/-- The second quarter's gradient rows that reach the branch. -/
theorem d_1 (u : FVec Ideal S64x3072 .bf16) (r : Fin 64) (k : Fin 3072) : k0_pay38 (F := Ideal) u (ix2 r k) = drow (row64 u r) k := by
  pointwise [k0_pay38]
  rfl

/-- The second quarter's output rows. -/
theorem y_1 (v : FVec Ideal S64x3072 .f32) (g b : FVec Ideal S1x3072 .f32) (x : FVec Ideal S64x3072 .bf16) (r : Fin 64) (k : Fin 3072) :
    k0_pay37 (k0_pay33 (F := Ideal) v) g b x (ix2 r k) = yrow (row64 v r) (row1 g) (row1 b) (row64 x r) k := by
  pointwise [k0_pay37, k0_pay36, z_1]
  rfl

/-- The second quarter's gradient rows before the normalisation. -/
theorem gb_1 (v : FVec Ideal S64x3072 .f32) (g : FVec Ideal S1x3072 .f32) (u : FVec Ideal S64x3072 .bf16) (r : Fin 64) (k : Fin 3072) :
    k0_pay43 (k0_pay34 (k0_pay33 v)) (k0_pay35 (k0_pay33 v)) (k0_pay36 g) (k0_pay38 (F := Ideal) u) (ix2 r k) = gbrow (row64 v r) (row64 u r) (row1 g) k := by
  pointwise [k0_pay43, k0_pay36, z_1, rstd_1, d_1]
  rfl

/-- The second quarter's addition to the gradient of the scale. -/
theorem dg_1 (v : FVec Ideal S64x3072 .f32) (u : FVec Ideal S64x3072 .bf16) (a : FVec Ideal S1x3072 .f32) (o : Fin 1) (k : Fin 3072) :
    k0_pay41 (k0_pay39 a) (k0_pay40 (k0_pay33 (F := Ideal) v) u) (ix2 o k) = a (ix2 o k) + ∑ r : Fin 64, drow (row64 u r) k * zrow (row64 v r) k := by
  pointwise [k0_pay41, k0_pay39, k0_pay40, z_1, d_1]

/-- The second quarter's addition to the gradient of the shift. -/
theorem db_1 (u : FVec Ideal S64x3072 .bf16) (a : FVec Ideal S1x3072 .f32) (o : Fin 1) (k : Fin 3072) :
    k0_pay42 (k0_pay38 (F := Ideal) u) a (ix2 o k) = a (ix2 o k) + ∑ r : Fin 64, drow (row64 u r) k := by
  pointwise [k0_pay42, d_1]

/-- The third quarter's centred rows. -/
theorem cen_2 (v : FVec Ideal S64x3072 .f32) (r : Fin 64) (k : Fin 3072) : k0_pay45 (F := Ideal) v (k0_pay44 v) (ix2 r k) = cen (row64 v r) k := by
  pointwise [k0_pay45, k0_pay44]
  rfl

/-- The third quarter's inverse standard deviations. -/
theorem rstd_2 (v : FVec Ideal S64x3072 .f32) (r : Fin 64) (o : Fin 1) : k0_pay46 (F := Ideal) v (k0_pay44 v) (ix2 r o) = rstd (row64 v r) := by
  pointwise [k0_pay46, cen_2]
  rfl

/-- The third quarter's normalised rows. -/
theorem z_2 (v : FVec Ideal S64x3072 .f32) (r : Fin 64) (k : Fin 3072) : k0_pay47 (F := Ideal) v (k0_pay44 v) (ix2 r k) = zrow (row64 v r) k := by
  pointwise [k0_pay47, cen_2, rstd_2]
  rfl

/-- The third quarter's gradient rows that reach the branch. -/
theorem d_2 (u : FVec Ideal S64x3072 .bf16) (r : Fin 64) (k : Fin 3072) : k0_pay50 (F := Ideal) u (ix2 r k) = drow (row64 u r) k := by
  pointwise [k0_pay50]
  rfl

/-- The third quarter's output rows. -/
theorem y_2 (v : FVec Ideal S64x3072 .f32) (g b : FVec Ideal S1x3072 .f32) (x : FVec Ideal S64x3072 .bf16) (r : Fin 64) (k : Fin 3072) :
    k0_pay49 (F := Ideal) v (k0_pay44 v) g b x (ix2 r k) = yrow (row64 v r) (row1 g) (row1 b) (row64 x r) k := by
  pointwise [k0_pay49, k0_pay48, z_2]
  rfl

/-- The third quarter's gradient rows before the normalisation. -/
theorem gb_2 (v : FVec Ideal S64x3072 .f32) (g : FVec Ideal S1x3072 .f32) (u : FVec Ideal S64x3072 .bf16) (r : Fin 64) (k : Fin 3072) :
    k0_pay55 (k0_pay46 v (k0_pay44 v)) (k0_pay47 v (k0_pay44 v)) (k0_pay48 g) (k0_pay50 (F := Ideal) u) (ix2 r k) = gbrow (row64 v r) (row64 u r) (row1 g) k := by
  pointwise [k0_pay55, k0_pay48, z_2, rstd_2, d_2]
  rfl

/-- The third quarter's addition to the gradient of the scale. -/
theorem dg_2 (v : FVec Ideal S64x3072 .f32) (u : FVec Ideal S64x3072 .bf16) (a : FVec Ideal S1x3072 .f32) (o : Fin 1) (k : Fin 3072) :
    k0_pay53 (k0_pay51 a) (k0_pay52 (F := Ideal) v (k0_pay44 v) u) (ix2 o k) = a (ix2 o k) + ∑ r : Fin 64, drow (row64 u r) k * zrow (row64 v r) k := by
  pointwise [k0_pay53, k0_pay51, k0_pay52, z_2, d_2]

/-- The third quarter's addition to the gradient of the shift. -/
theorem db_2 (u : FVec Ideal S64x3072 .bf16) (a : FVec Ideal S1x3072 .f32) (o : Fin 1) (k : Fin 3072) :
    k0_pay54 (k0_pay50 (F := Ideal) u) a (ix2 o k) = a (ix2 o k) + ∑ r : Fin 64, drow (row64 u r) k := by
  pointwise [k0_pay54, d_2]

/-- The fourth quarter's centred rows. -/
theorem cen_3 (v : FVec Ideal S64x3072 .f32) (r : Fin 64) (k : Fin 3072) : k0_pay57 (F := Ideal) v (k0_pay56 v) (Ideal.ofBits .f32 1161822208#32) (ix2 r k) = cen (row64 v r) k := by
  pointwise [k0_pay57, k0_pay56]
  rfl

/-- The fourth quarter's inverse standard deviations. -/
theorem rstd_3 (v : FVec Ideal S64x3072 .f32) (r : Fin 64) (o : Fin 1) : k0_pay58 (F := Ideal) v (k0_pay56 v) (Ideal.ofBits .f32 1161822208#32) (ix2 r o) = rstd (row64 v r) := by
  pointwise [k0_pay58, cen_3]
  rfl

/-- The fourth quarter's normalised rows. -/
theorem z_3 (v : FVec Ideal S64x3072 .f32) (r : Fin 64) (k : Fin 3072) : k0_pay59 (F := Ideal) v (k0_pay56 v) (Ideal.ofBits .f32 1161822208#32) (ix2 r k) = zrow (row64 v r) k := by
  pointwise [k0_pay59, cen_3, rstd_3]
  rfl

/-- The fourth quarter's gradient rows that reach the branch. -/
theorem d_3 (u : FVec Ideal S64x3072 .bf16) (r : Fin 64) (k : Fin 3072) : k0_pay62 (F := Ideal) u (ix2 r k) = drow (row64 u r) k := by
  pointwise [k0_pay62]
  rfl

/-- The fourth quarter's output rows. -/
theorem y_3 (v : FVec Ideal S64x3072 .f32) (g b : FVec Ideal S1x3072 .f32) (x : FVec Ideal S64x3072 .bf16) (r : Fin 64) (k : Fin 3072) :
    k0_pay61 (F := Ideal) v (k0_pay56 v) (Ideal.ofBits .f32 1161822208#32) g b x (ix2 r k) = yrow (row64 v r) (row1 g) (row1 b) (row64 x r) k := by
  pointwise [k0_pay61, k0_pay60, z_3]
  rfl

/-- The fourth quarter's gradient rows before the normalisation. -/
theorem gb_3 (v : FVec Ideal S64x3072 .f32) (g : FVec Ideal S1x3072 .f32) (u : FVec Ideal S64x3072 .bf16) (r : Fin 64) (k : Fin 3072) :
    k0_pay65 (k0_pay58 v (k0_pay56 v) (Ideal.ofBits .f32 1161822208#32)) (k0_pay59 v (k0_pay56 v) (Ideal.ofBits .f32 1161822208#32)) (k0_pay60 g) (k0_pay62 (F := Ideal) u) (ix2 r k) = gbrow (row64 v r) (row64 u r) (row1 g) k := by
  pointwise [k0_pay65, k0_pay60, z_3, rstd_3, d_3]
  rfl

/-- The fourth quarter's addition to the gradient of the scale. -/
theorem dg_3 (v : FVec Ideal S64x3072 .f32) (u : FVec Ideal S64x3072 .bf16) (a : FVec Ideal S1x3072 .f32) (o : Fin 1) (k : Fin 3072) :
    k0_pay63 (k0_pay59 v (k0_pay56 v) (Ideal.ofBits .f32 1161822208#32)) (k0_pay62 (F := Ideal) u) a (ix2 o k) = a (ix2 o k) + ∑ r : Fin 64, drow (row64 u r) k * zrow (row64 v r) k := by
  pointwise [k0_pay63, z_3, d_3]

/-- The fourth quarter's addition to the gradient of the shift. -/
theorem db_3 (u : FVec Ideal S64x3072 .bf16) (a : FVec Ideal S1x3072 .f32) (o : Fin 1) (k : Fin 3072) :
    k0_pay64 (k0_pay62 (F := Ideal) u) a (ix2 o k) = a (ix2 o k) + ∑ r : Fin 64, drow (row64 u r) k := by
  pointwise [k0_pay64, d_3]

end Cert.KLnIdeal.Hand
-- ==== Proof.LnBlocks.lean ====
module

public import proofs.«01_k».proof.Proof.Gen.KLnIdeal.Frame
public import proofs.«01_k».proof.Proof.LnRows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KLnIdeal.Hand
open Cert.KLnIdeal Cert.KLnIdeal.Gen Cert.Ln

/-- Head `h` of a block of the attention output lies inside the block. -/
theorem oIn (h : Fin 24) : ∀ a, (![0, h.val, 0, 0] : Fin 4 → Nat) a + S1x1x256x128.size a ≤ S1x24x256x128.size a := by
  revert h; decide +kernel

/-- Head `h` of a block of the attention output. -/
def oTile (x0 : Vec Ideal S1x24x256x128 .fp8e4m3) (h : Fin 24) : FVec Ideal S256x128 .fp8e4m3 :=
  shapeCast S256x128 (show FVec Ideal S1x1x256x128 .fp8e4m3 from
    View.ld x0 (Rect.unit (s := S1x24x256x128) ![0, h.val, 0, 0] S1x1x256x128.size (oIn h))) shapeCasts_S1x1x256x128_S256x128

/-- Head `h` of a block, entry by entry. -/
theorem oTile_at (x0 : Vec Ideal S1x24x256x128 .fp8e4m3) (h : Fin 24) (i : S256x128.Idx) : oTile x0 h i = x0 (ix4 0 h (i 0) (i 1)) := by
  pointwise [oTile]
  blk_ext []

/-- Twenty-four heads side by side, entry by entry. -/
theorem cat {φ : FTy} (f : Fin 24 → FVec Ideal S256x128 φ) (i : S256x3072.Idx) h :
    concatenate S256x3072 1 (List.ofFn fun n : Fin 24 => (⟨S256x128, f n⟩ : (s : Shape) × (s.Idx → Ideal φ))) h i
      = f (⟨(i 1).val / 128, by have := (i 1).isLt; change (i 1).val < 3072 at this; omega⟩ : Fin 24)
          (ix2 (i 0) (⟨(i 1).val % 128, by omega⟩ : Fin 128)) := by
  refine concatenate_ofFn_apply 1 f h rfl 128 rfl i _ rfl _ rfl fun b hb => ?_
  fin_cases b
  · rfl
  · exact absurd rfl hb

/-- Twenty-four heads side by side make up a row of 3072 channels. -/
theorem cats : Shape.Concatenates (List.replicate 24 S256x128) S256x3072 1 := by decide

/-- The heads of a block of the attention output side by side. -/
def oRow (x0 : Vec Ideal S1x24x256x128 .fp8e4m3) : FVec Ideal S256x3072 .fp8e4m3 :=
  fun i => x0 (ix4 0 (⟨(i 1).val / 128, by have := (i 1).isLt; change (i 1).val < 3072 at this; omega⟩ : Fin 24) (i 0)
    (⟨(i 1).val % 128, by omega⟩ : Fin 128))

/-- The heads' concatenation is the block with its heads side by side. -/
theorem o_cat (x0 : Vec Ideal S1x24x256x128 .fp8e4m3) :
    concatenate S256x3072 1 (List.ofFn fun n : Fin 24 => (⟨S256x128, oTile x0 n⟩ : (s : Shape) × (s.Idx → Ideal .fp8e4m3))) cats = oRow x0 := by
  funext i
  exact (cat (oTile x0) i cats).trans (oTile_at _ _ _)

/-- Row `a` of a block of the attention output times the weights, scaled. -/
def bp (x0 : Vec Ideal S1x24x256x128 .fp8e4m3) (x1 : Vec Ideal S3072x3072 .fp8e4m3) (a : Fin 256) : Row :=
  fun n => (∑ k : Fin 3072, (x0 (ix4 0 (⟨k.val / 128, by omega⟩ : Fin 24) a (⟨k.val % 128, by omega⟩ : Fin 128)) : EReal)
    * (x1 (ix2 k n) : EReal)) * Ideal.ofBits .f32 0x3C93CD3A#32

/-- The block the body keeps for itself: the product of the two operands, scaled. -/
def SC (x0 : Vec Ideal S1x24x256x128 .fp8e4m3) (x1 : Vec Ideal S3072x3072 .fp8e4m3) : FVec Ideal S256x3072 .f32 :=
  shapeCast S256x3072 (mulf (matmul dot_S256x3072_S3072x3072_S256x3072_1_0_0_1_n_n none
    (concatenate S256x3072 1 (List.ofFn fun n : Fin 24 => (⟨S256x128, oTile x0 n⟩ : (s : Shape) × (s.Idx → Ideal .fp8e4m3))) cats)
    (show FVec Ideal S3072x3072 .fp8e4m3 from shapeCast S3072x3072 x1 shapeCasts_S3072x3072_S3072x3072) (constant S256x3072 .f32 0x00000000#32))
    (broadcast S256x3072 (Scalar.ofBits (F := Ideal) .f32 0x3C93CD3A#32))) shapeCasts_S256x3072_S256x3072

/-- The kept block, entry by entry. -/
theorem SC_at (x0 : Vec Ideal S1x24x256x128 .fp8e4m3) (x1 : Vec Ideal S3072x3072 .fp8e4m3) (a : Fin 256) (n : Fin 3072) :
    SC x0 x1 (ix2 a n) = bp x0 x1 a n := by
  unfold SC
  rw [o_cat]
  pointwise [oRow, bp]

/-- The kept block as the body writes it, entry by entry. -/
theorem T_at (x0 : Vec Ideal S1x24x256x128 .fp8e4m3) (x1 : Vec Ideal S3072x3072 .fp8e4m3) (a : Fin 256) (n : Fin 3072) :
    k0_pay22 (F := Ideal) (k0_pay4 (View.ld x0 (Rect.unit ![0, 0, 0, 0] ![1, 1, 256, 128] inb_S1x24x256x128_S1x1x256x128_0_0_0_0)))
      (k0_pay5 (View.ld x0 (Rect.unit ![0, 1, 0, 0] ![1, 1, 256, 128] inb_S1x24x256x128_S1x1x256x128_0_1_0_0)))
      (k0_pay6 (View.ld x0 (Rect.unit ![0, 2, 0, 0] ![1, 1, 256, 128] inb_S1x24x256x128_S1x1x256x128_0_2_0_0)))
      (k0_pay7 (View.ld x0 (Rect.unit ![0, 3, 0, 0] ![1, 1, 256, 128] inb_S1x24x256x128_S1x1x256x128_0_3_0_0)))
      (k0_pay8 (View.ld x0 (Rect.unit ![0, 4, 0, 0] ![1, 1, 256, 128] inb_S1x24x256x128_S1x1x256x128_0_4_0_0)))
      (k0_pay9 (View.ld x0 (Rect.unit ![0, 5, 0, 0] ![1, 1, 256, 128] inb_S1x24x256x128_S1x1x256x128_0_5_0_0)))
      (k0_pay10 (View.ld x0 (Rect.unit ![0, 6, 0, 0] ![1, 1, 256, 128] inb_S1x24x256x128_S1x1x256x128_0_6_0_0)))
      (k0_pay11 (View.ld x0 (Rect.unit ![0, 7, 0, 0] ![1, 1, 256, 128] inb_S1x24x256x128_S1x1x256x128_0_7_0_0)))
      (k0_pay12 (View.ld x0 (Rect.unit ![0, 8, 0, 0] ![1, 1, 256, 128] inb_S1x24x256x128_S1x1x256x128_0_8_0_0)))
      (k0_pay13 (View.ld x0 (Rect.unit ![0, 9, 0, 0] ![1, 1, 256, 128] inb_S1x24x256x128_S1x1x256x128_0_9_0_0)))
      (k0_pay14 (View.ld x0 (Rect.unit ![0, 10, 0, 0] ![1, 1, 256, 128] inb_S1x24x256x128_S1x1x256x128_0_10_0_0)))
      (k0_pay15 (View.ld x0 (Rect.unit ![0, 11, 0, 0] ![1, 1, 256, 128] inb_S1x24x256x128_S1x1x256x128_0_11_0_0)))
      (k0_pay16 (View.ld x0 (Rect.unit ![0, 12, 0, 0] ![1, 1, 256, 128] inb_S1x24x256x128_S1x1x256x128_0_12_0_0)))
      (k0_pay17 (View.ld x0 (Rect.unit ![0, 13, 0, 0] ![1, 1, 256, 128] inb_S1x24x256x128_S1x1x256x128_0_13_0_0)))
      (k0_pay18 (View.ld x0 (Rect.unit ![0, 14, 0, 0] ![1, 1, 256, 128] inb_S1x24x256x128_S1x1x256x128_0_14_0_0)))
      (k0_pay19 (View.ld x0 (Rect.unit ![0, 15, 0, 0] ![1, 1, 256, 128] inb_S1x24x256x128_S1x1x256x128_0_15_0_0)))
      (k0_pay20 (View.ld x0 (Rect.unit ![0, 16, 0, 0] ![1, 1, 256, 128] inb_S1x24x256x128_S1x1x256x128_0_16_0_0)))
      (k0_pay21 (View.ld x0 (Rect.unit ![0, 17, 0, 0] ![1, 1, 256, 128] inb_S1x24x256x128_S1x1x256x128_0_17_0_0)))
      (View.ld x0 (Rect.unit ![0, 18, 0, 0] ![1, 1, 256, 128] inb_S1x24x256x128_S1x1x256x128_0_18_0_0))
      (View.ld x0 (Rect.unit ![0, 19, 0, 0] ![1, 1, 256, 128] inb_S1x24x256x128_S1x1x256x128_0_19_0_0))
      (View.ld x0 (Rect.unit ![0, 20, 0, 0] ![1, 1, 256, 128] inb_S1x24x256x128_S1x1x256x128_0_20_0_0))
      (View.ld x0 (Rect.unit ![0, 21, 0, 0] ![1, 1, 256, 128] inb_S1x24x256x128_S1x1x256x128_0_21_0_0))
      (View.ld x0 (Rect.unit ![0, 22, 0, 0] ![1, 1, 256, 128] inb_S1x24x256x128_S1x1x256x128_0_22_0_0))
      (View.ld x0 (Rect.unit ![0, 23, 0, 0] ![1, 1, 256, 128] inb_S1x24x256x128_S1x1x256x128_0_23_0_0)) x1 (ix2 a n) = bp x0 x1 a n := by
  change SC x0 x1 (ix2 a n) = _
  exact SC_at x0 x1 a n

/-- Rows `off` to `off + 63` of a block. -/
abbrev q32 (T : Vec Ideal S256x3072 .f32) (off : ℕ) (hin : ∀ a, (![off, 0] : Fin 2 → Nat) a + S64x3072.size a ≤ S256x3072.size a) :
    FVec Ideal S64x3072 .f32 := View.ld T (Rect.unit (s := S256x3072) ![off, 0] S64x3072.size hin)

/-- Rows `off` to `off + 63` of a block. -/
abbrev q16 (T : Vec Ideal S256x3072 .bf16) (off : ℕ) (hin : ∀ a, (![off, 0] : Fin 2 → Nat) a + S64x3072.size a ≤ S256x3072.size a) :
    FVec Ideal S64x3072 .bf16 := View.ld T (Rect.unit (s := S256x3072) ![off, 0] S64x3072.size hin)

/-- A row of a quarter of a block is a row of the block. -/
theorem row_q32 (T : Vec Ideal S256x3072 .f32) (off : ℕ) (hin : ∀ a, (![off, 0] : Fin 2 → Nat) a + S64x3072.size a ≤ S256x3072.size a)
    (r : Fin 64) (a : Fin 256) (ha : a.val = off + r.val) : row64 (q32 T off hin) r = fun k => T (ix2 a k) := by
  funext k
  show View.ld T (Rect.unit (s := S256x3072) ![off, 0] S64x3072.size hin) (ix2 r k) = _
  pointwise
  blk_ext []

/-- A row of a quarter of a block is a row of the block. -/
theorem row_q16 (T : Vec Ideal S256x3072 .bf16) (off : ℕ) (hin : ∀ a, (![off, 0] : Fin 2 → Nat) a + S64x3072.size a ≤ S256x3072.size a)
    (r : Fin 64) (a : Fin 256) (ha : a.val = off + r.val) : row64 (q16 T off hin) r = fun k => T (ix2 a k) := by
  funext k
  show View.ld T (Rect.unit (s := S256x3072) ![off, 0] S64x3072.size hin) (ix2 r k) = _
  pointwise
  blk_ext []

/-- A quarter of the output's block. -/
theorem piece_y (P : FVec Ideal S64x3072 .bf16) (T : FVec Ideal S256x3072 .f32) (X : FVec Ideal S256x3072 .bf16) (g b : Row) (B : Fin 256 → Row)
    (off : ℕ) (hin hin' : ∀ a, (![off, 0] : Fin 2 → Nat) a + S64x3072.size a ≤ S256x3072.size a)
    (hT : ∀ a n, T (ix2 a n) = B a n)
    (hP : ∀ r k, P (ix2 r k) = yrow (row64 (q32 T off hin) r) g b
      (row64 (q16 X off hin') r) k)
    (x : S64x3072.Idx) (y : S256x3072.Idx) (h0 : (y 0 : ℕ) = off + x 0) (h1 : (y 1 : ℕ) = x 1) :
    P x = yrow (B (y 0)) g b (fun k => X (ix2 (y 0) k)) (y 1) := by
  rw [eq_ix2 x]
  refine (hP (x 0) (x 1)).trans ?_
  rw [row_q32 T off hin (x 0) (y 0) h0, row_q16 X off hin' (x 0) (y 0) h0, show (x 1 : Fin 3072) = y 1 from Fin.ext h1.symm,
    show (fun k => T (ix2 (y 0) k)) = B (y 0) from funext fun n => hT (y 0) n]

/-- A quarter of the block of the gradient before the normalisation. -/
theorem piece_gb (P : FVec Ideal S64x3072 .fp8e5m2) (T : FVec Ideal S256x3072 .f32) (X : FVec Ideal S256x3072 .bf16) (g : Row) (B : Fin 256 → Row)
    (off : ℕ) (hin hin' : ∀ a, (![off, 0] : Fin 2 → Nat) a + S64x3072.size a ≤ S256x3072.size a)
    (hT : ∀ a n, T (ix2 a n) = B a n)
    (hP : ∀ r k, P (ix2 r k) = gbrow (row64 (q32 T off hin) r)
      (row64 (q16 X off hin') r) g k)
    (x : S64x3072.Idx) (y : S256x3072.Idx) (h0 : (y 0 : ℕ) = off + x 0) (h1 : (y 1 : ℕ) = x 1) :
    P x = gbrow (B (y 0)) (fun k => X (ix2 (y 0) k)) g (y 1) := by
  rw [eq_ix2 x]
  refine (hP (x 0) (x 1)).trans ?_
  rw [row_q32 T off hin (x 0) (y 0) h0, row_q16 X off hin' (x 0) (y 0) h0, show (x 1 : Fin 3072) = y 1 from Fin.ext h1.symm,
    show (fun k => T (ix2 (y 0) k)) = B (y 0) from funext fun n => hT (y 0) n]

/-- A sum over 256 rows, quarter by quarter. -/
theorem sum_quarters (f : Fin 256 → EReal) :
    ((∑ r : Fin 64, f ⟨0 + r.val, by omega⟩ + ∑ r : Fin 64, f ⟨64 + r.val, by omega⟩) + ∑ r : Fin 64, f ⟨128 + r.val, by omega⟩)
      + ∑ r : Fin 64, f ⟨192 + r.val, by omega⟩ = ∑ a, f a := by
  rw [Fin.sum_univ_tiles 4 64 rfl f, Fin.sum_univ_four]
  rfl

/-- A quarter of the sum for the gradient of the scale. -/
theorem part_dg (T : FVec Ideal S256x3072 .f32) (X : FVec Ideal S256x3072 .bf16) (B : Fin 256 → Row) (hT : ∀ a n, T (ix2 a n) = B a n)
    (off : ℕ) (hoff : off + 64 ≤ 256) (hin hin' : ∀ a, (![off, 0] : Fin 2 → Nat) a + S64x3072.size a ≤ S256x3072.size a) (k : Fin 3072) :
    (∑ r : Fin 64, drow (row64 (q16 X off hin) r) k
      * zrow (row64 (q32 T off hin') r) k : EReal)
    = ∑ r : Fin 64, (fun a : Fin 256 => drow (fun l => X (ix2 a l)) k * zrow (B a) k) ⟨off + r.val, by omega⟩ := by
  refine Finset.sum_congr rfl fun r _ => ?_
  rw [row_q32 T off hin' r ⟨off + r.val, by omega⟩ rfl, row_q16 X off hin r ⟨off + r.val, by omega⟩ rfl,
    show (fun k => T (ix2 _ k)) = B _ from funext fun n => hT ⟨off + r.val, by omega⟩ n]

/-- A quarter of the sum for the gradient of the shift. -/
theorem part_db (X : FVec Ideal S256x3072 .bf16)
    (off : ℕ) (hoff : off + 64 ≤ 256) (hin : ∀ a, (![off, 0] : Fin 2 → Nat) a + S64x3072.size a ≤ S256x3072.size a) (k : Fin 3072) :
    (∑ r : Fin 64, drow (row64 (q16 X off hin) r) k : EReal)
    = ∑ r : Fin 64, (fun a : Fin 256 => drow (fun l => X (ix2 a l)) k) ⟨off + r.val, by omega⟩ := by
  refine Finset.sum_congr rfl fun r _ => ?_
  rw [row_q16 X off hin r ⟨off + r.val, by omega⟩ rfl]

variable (m : (ℓ : Loc nD τ sig) → Buf (Elt Ideal) ℓ)

/-- What a point leaves of the output: its block's rows. -/
theorem at6 (c : Dev nD) (t : Fin cfg0.N) (y : S256x3072.Idx) : (outsAt0 m c t.val t.isLt).1 y
    = yrow (bp (iblk m c 0 t) (iblk m c 1 t) (y 0)) (row1 (iblk m c 4 t)) (row1 (iblk m c 5 t)) (fun k => iblk m c 2 t (ix2 (y 0) k)) (y 1) := by
  by_cases h : t.val % 8 = 0
  · rw [outsAt0_A m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    canon_tiles x h
    case piece0 => exact piece_y _ T _ _ _ _ 192 _ _ hB (fun r k => y_3 _ _ _ _ r k) x y (by omega) (by omega)
    case piece1 => exact piece_y _ T _ _ _ _ 128 _ _ hB (fun r k => y_2 _ _ _ _ r k) x y (by omega) (by omega)
    case piece2 => exact piece_y _ T _ _ _ _ 64 _ _ hB (fun r k => y_1 _ _ _ _ r k) x y (by omega) (by omega)
    case piece3 => exact piece_y _ T _ _ _ _ 0 _ _ hB (fun r k => y_0 _ _ _ _ r k) x y (by omega) (by omega)
  · rw [outsAt0_B m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    canon_tiles x h
    case piece0 => exact piece_y _ T _ _ _ _ 192 _ _ hB (fun r k => y_3 _ _ _ _ r k) x y (by omega) (by omega)
    case piece1 => exact piece_y _ T _ _ _ _ 128 _ _ hB (fun r k => y_2 _ _ _ _ r k) x y (by omega) (by omega)
    case piece2 => exact piece_y _ T _ _ _ _ 64 _ _ hB (fun r k => y_1 _ _ _ _ r k) x y (by omega) (by omega)
    case piece3 => exact piece_y _ T _ _ _ _ 0 _ _ hB (fun r k => y_0 _ _ _ _ r k) x y (by omega) (by omega)

/-- What a point leaves of the gradient before the normalisation: its block's rows. -/
theorem at7 (c : Dev nD) (t : Fin cfg0.N) (y : S256x3072.Idx) : (outsAt0 m c t.val t.isLt).2.1 y
    = gbrow (bp (iblk m c 0 t) (iblk m c 1 t) (y 0)) (fun k => iblk m c 3 t (ix2 (y 0) k)) (row1 (iblk m c 4 t)) (y 1) := by
  by_cases h : t.val % 8 = 0
  · rw [outsAt0_A m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    canon_tiles x h
    case piece0 => exact piece_gb _ T _ _ _ 192 _ _ hB (fun r k => gb_3 _ _ _ r k) x y (by omega) (by omega)
    case piece1 => exact piece_gb _ T _ _ _ 128 _ _ hB (fun r k => gb_2 _ _ _ r k) x y (by omega) (by omega)
    case piece2 => exact piece_gb _ T _ _ _ 64 _ _ hB (fun r k => gb_1 _ _ _ r k) x y (by omega) (by omega)
    case piece3 => exact piece_gb _ T _ _ _ 0 _ _ hB (fun r k => gb_0 _ _ _ r k) x y (by omega) (by omega)
  · rw [outsAt0_B m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    canon_tiles x h
    case piece0 => exact piece_gb _ T _ _ _ 192 _ _ hB (fun r k => gb_3 _ _ _ r k) x y (by omega) (by omega)
    case piece1 => exact piece_gb _ T _ _ _ 128 _ _ hB (fun r k => gb_2 _ _ _ r k) x y (by omega) (by omega)
    case piece2 => exact piece_gb _ T _ _ _ 64 _ _ hB (fun r k => gb_1 _ _ _ r k) x y (by omega) (by omega)
    case piece3 => exact piece_gb _ T _ _ _ 0 _ _ hB (fun r k => gb_0 _ _ _ r k) x y (by omega) (by omega)

/-- What the first point leaves of the gradient of the scale: its rows' sum. -/
theorem at9_A (c : Dev nD) (t : Fin cfg0.N) (h : t.val % 8 = 0) (y : S1x3072.Idx) : (outsAt0 m c t.val t.isLt).2.2.2.1 y
    = (0 : EReal) + ∑ a : Fin 256, drow (fun l => iblk m c 3 t (ix2 a l)) (y 1) * zrow (bp (iblk m c 0 t) (iblk m c 1 t) a) (y 1) := by
  · rw [outsAt0_A m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    idx_vars y
    refine (dg_3 _ _ _ _ _).trans ?_
    rw [dg_2, dg_1, dg_0]
    refine Eq.trans (congrArg₂ (· + ·) (congrArg₂ (· + ·) (congrArg₂ (· + ·) (congrArg₂ (· + ·) rfl
      (part_dg T _ _ hB 0 (by decide) _ _ _)) (part_dg T _ _ hB 64 (by decide) _ _ _)) (part_dg T _ _ hB 128 (by decide) _ _ _))
      (part_dg T _ _ hB 192 (by decide) _ _ _)) ?_
    rw [← sum_quarters]
    simp only [add_assoc]
    congr 1
    pointwise [k0_pay2]

/-- What a later point leaves of the gradient of the scale: its rows' sum, added to what was there. -/
theorem at9_B (c : Dev nD) (t : Fin cfg0.N) (h : ¬ t.val % 8 = 0) (y : S1x3072.Idx) : (outsAt0 m c t.val t.isLt).2.2.2.1 y
    = (outsAt0 m c (t.val - 1) (Nat.lt_of_le_of_lt (Nat.sub_le _ _) t.isLt)).2.2.2.1 y + ∑ a : Fin 256, drow (fun l => iblk m c 3 t (ix2 a l)) (y 1) * zrow (bp (iblk m c 0 t) (iblk m c 1 t) a) (y 1) := by
  · rw [outsAt0_B m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    idx_vars y
    refine (dg_3 _ _ _ _ _).trans ?_
    rw [dg_2, dg_1, dg_0]
    refine Eq.trans (congrArg₂ (· + ·) (congrArg₂ (· + ·) (congrArg₂ (· + ·) (congrArg₂ (· + ·) rfl
      (part_dg T _ _ hB 0 (by decide) _ _ _)) (part_dg T _ _ hB 64 (by decide) _ _ _)) (part_dg T _ _ hB 128 (by decide) _ _ _))
      (part_dg T _ _ hB 192 (by decide) _ _ _)) ?_
    rw [← sum_quarters]
    simp only [add_assoc]

/-- What the first point leaves of the gradient of the shift: its rows' sum. -/
theorem at10_A (c : Dev nD) (t : Fin cfg0.N) (h : t.val % 8 = 0) (y : S1x3072.Idx) : (outsAt0 m c t.val t.isLt).2.2.2.2 y
    = (0 : EReal) + ∑ a : Fin 256, drow (fun l => iblk m c 3 t (ix2 a l)) (y 1) := by
  · rw [outsAt0_A m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    idx_vars y
    refine (db_3 _ _ _ _).trans ?_
    rw [db_2, db_1, db_0]
    refine Eq.trans (congrArg₂ (· + ·) (congrArg₂ (· + ·) (congrArg₂ (· + ·) (congrArg₂ (· + ·) rfl
      (part_db _ 0 (by decide) _ _)) (part_db _ 64 (by decide) _ _)) (part_db _ 128 (by decide) _ _))
      (part_db _ 192 (by decide) _ _)) ?_
    rw [← sum_quarters]
    simp only [add_assoc]
    congr 1
    pointwise [k0_pay3]

/-- What a later point leaves of the gradient of the shift: its rows' sum, added to what was there. -/
theorem at10_B (c : Dev nD) (t : Fin cfg0.N) (h : ¬ t.val % 8 = 0) (y : S1x3072.Idx) : (outsAt0 m c t.val t.isLt).2.2.2.2 y
    = (outsAt0 m c (t.val - 1) (Nat.lt_of_le_of_lt (Nat.sub_le _ _) t.isLt)).2.2.2.2 y + ∑ a : Fin 256, drow (fun l => iblk m c 3 t (ix2 a l)) (y 1) := by
  · rw [outsAt0_B m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    idx_vars y
    refine (db_3 _ _ _ _).trans ?_
    rw [db_2, db_1, db_0]
    refine Eq.trans (congrArg₂ (· + ·) (congrArg₂ (· + ·) (congrArg₂ (· + ·) (congrArg₂ (· + ·) rfl
      (part_db _ 0 (by decide) _ _)) (part_db _ 64 (by decide) _ _)) (part_db _ 128 (by decide) _ _))
      (part_db _ 192 (by decide) _ _)) ?_
    rw [← sum_quarters]
    simp only [add_assoc]

end Cert.KLnIdeal.Hand
-- ==== Proof.LnBack.lean ====
module

public import proofs.«01_k».proof.Proof.Gen.KLnIdeal.Frame
public import proofs.«01_k».proof.Proof.LnBlocks
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KLnIdeal.Hand
open Cert.KLnIdeal Cert.KLnIdeal.Gen Cert.Ln

/-- The gradient's block times the weights, scaled, entry by entry. -/
theorem do_pay (G : Vec Ideal S256x3072 .fp8e5m2) (x1 : Vec Ideal S3072x3072 .fp8e4m3) (a : Fin 256) (l : Fin 3072) :
    k0_pay67 (F := Ideal) (k0_pay66 G) x1 (ix2 a l)
      = (∑ n : Fin 3072, (G (ix2 a n) : EReal) * (x1 (ix2 l n) : EReal)) * Ideal.ofBits .f32 0x3C93CD3A#32 := by
  pointwise [k0_pay67, k0_pay66]

variable (m : (ℓ : Loc nD τ sig) → Buf (Elt Ideal) ℓ)

/-- The whole block's entries are the block's own. -/
theorem idx_whole (z : S256x3072.Idx) : (Rect.unit (s := S256x3072) ![0, 0] S256x3072.size inb_S256x3072_S256x3072_0_0).idx z = z := by
  funext d
  apply Fin.ext
  fin_cases d
  · show 0 + 1 * (z 0).val = (z 0).val
    omega
  · show 0 + 1 * (z 1).val = (z 1).val
    omega

/-- One entry of a head's part of the gradient behind the projection, at the entry's own coordinates. -/
theorem do_entry (g : Fin 256 → Fin 3072 → EReal) (B : Fin 3072 → Fin 3072 → EReal) (s : EReal) (y : S1x24x256x128.Idx)
    (a : Fin 256) (l l' : Fin 3072) (ea : y 2 = a) (hl : l' = l) :
    (∑ n : Fin 3072, g a n * B l n) * s = (∑ n : Fin 3072, g (y 2) n * B l' n) * s := by
  rw [ea, hl]

/-- What a point leaves of the gradient behind the projection: its block, head by head. -/
theorem at8 (c : Dev nD) (t : Fin cfg0.N) (y : S1x24x256x128.Idx) : (outsAt0 m c t.val t.isLt).2.2.1 y
    = (∑ n : Fin 3072, (gbrow (bp (iblk m c 0 t) (iblk m c 1 t) (y 2)) (fun k => iblk m c 3 t (ix2 (y 2) k)) (row1 (iblk m c 4 t)) n : EReal)
        * (iblk m c 1 t (ix2 (⟨(y 1).val * 128 + (y 3).val, by
          have := (y 1).isLt; have := (y 3).isLt; change (y 1).val < 24 at *; change (y 3).val < 128 at *; omega⟩ : Fin 3072) n) : EReal))
      * Ideal.ofBits .f32 0x3C93CD3A#32 := by
  by_cases h : t.val % 8 = 0
  · rw [outsAt0_A m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    generalize hG : View.readCov (Val := Elt Ideal) _ _ _ = G
    have hG' : ∀ z : S256x3072.Idx, G z
        = gbrow (bp (iblk m c 0 t) (iblk m c 1 t) (z 0)) (fun k => iblk m c 3 t (ix2 (z 0) k)) (row1 (iblk m c 4 t)) (z 1) := by
      intro z
      rw [← hG, View.readCov_eq_canon']
      have e : (Rect.unit (s := S256x3072) ![0, 0] S256x3072.size inb_S256x3072_S256x3072_0_0).idx z = z := idx_whole z
      refine (congrArg (View.canon _) e).trans ?_
      clear hG e
      canon_tiles x h
      case piece0 => exact piece_gb _ T _ _ _ 192 _ _ hB (fun r k => gb_3 _ _ _ r k) x z (by omega) (by omega)
      case piece1 => exact piece_gb _ T _ _ _ 128 _ _ hB (fun r k => gb_2 _ _ _ r k) x z (by omega) (by omega)
      case piece2 => exact piece_gb _ T _ _ _ 64 _ _ hB (fun r k => gb_1 _ _ _ r k) x z (by omega) (by omega)
      case piece3 => exact piece_gb _ T _ _ _ 0 _ _ hB (fun r k => gb_0 _ _ _ r k) x z (by omega) (by omega)
    clear hG hB
    canon_tiles x h
    all_goals
      pointwise [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay1, do_pay]
      simp only [hG']
      exact do_entry (fun a n => gbrow (bp (iblk m c 0 t) (iblk m c 1 t) a) (fun k => iblk m c 3 t (ix2 a k)) (row1 (iblk m c 4 t)) n)
        (fun l n => iblk m c 1 t (ix2 l n)) _ y (x 2) _ _ (Fin.ext h2) (Fin.ext (by dsimp only; omega))
  · rw [outsAt0_B m c t h]
    frame_open
    simp (disch := decide) only [↓ View.readCov_skip, ↓ View.readCov_cons_toLoadRect, ↓ View.readCov_fill]
    frame_out
    generalize hT : k0_pay22 (F := Ideal) _ _ _ _ _ _ _ _ _ _ _ _ _ _ _ _ _ _ _ _ _ _ _ _ _ = T
    have hB : ∀ a n, T (ix2 a n) = bp (iblk m c 0 t) (iblk m c 1 t) a n := fun a n => (congrFun hT (ix2 a n)).symm.trans (T_at _ _ a n)
    clear hT
    generalize hG : View.readCov (Val := Elt Ideal) _ _ _ = G
    have hG' : ∀ z : S256x3072.Idx, G z
        = gbrow (bp (iblk m c 0 t) (iblk m c 1 t) (z 0)) (fun k => iblk m c 3 t (ix2 (z 0) k)) (row1 (iblk m c 4 t)) (z 1) := by
      intro z
      rw [← hG, View.readCov_eq_canon']
      have e : (Rect.unit (s := S256x3072) ![0, 0] S256x3072.size inb_S256x3072_S256x3072_0_0).idx z = z := idx_whole z
      refine (congrArg (View.canon _) e).trans ?_
      clear hG e
      canon_tiles x h
      case piece0 => exact piece_gb _ T _ _ _ 192 _ _ hB (fun r k => gb_3 _ _ _ r k) x z (by omega) (by omega)
      case piece1 => exact piece_gb _ T _ _ _ 128 _ _ hB (fun r k => gb_2 _ _ _ r k) x z (by omega) (by omega)
      case piece2 => exact piece_gb _ T _ _ _ 64 _ _ hB (fun r k => gb_1 _ _ _ r k) x z (by omega) (by omega)
      case piece3 => exact piece_gb _ T _ _ _ 0 _ _ hB (fun r k => gb_0 _ _ _ r k) x z (by omega) (by omega)
    clear hG hB
    canon_tiles x h
    all_goals
      pointwise [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay1, do_pay]
      simp only [hG']
      exact do_entry (fun a n => gbrow (bp (iblk m c 0 t) (iblk m c 1 t) a) (fun k => iblk m c 3 t (ix2 a k)) (row1 (iblk m c 4 t)) n)
        (fun l n => iblk m c 1 t (ix2 l n)) _ y (x 2) _ _ (Fin.ext h2) (Fin.ext (by dsimp only; omega))

end Cert.KLnIdeal.Hand
-- ==== Proof.LnValue.lean ====
module

public import proofs.«01_k».proof.Proof.Gen.KLnIdeal.Frame
public import proofs.«01_k».proof.Proof.LnBack
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KLnIdeal.Hand
open Cert.KLnIdeal Cert.KLnIdeal.Gen Cert.Ln

variable (m : (ℓ : Loc nD τ sig) → Buf (Elt Ideal) ℓ)

/-- The blocks the points stage: 256 tokens at a time, the weights and the two vectors whole. -/
theorem idx : ∀ t : Fin cfg0.N, win0_0.index t = ![t.val / 4, 0, t.val % 4, 0] ∧ win0_1.index t = ![0, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![t.val / 4, 0, t.val % 4, 0]
    ∧ win0_9.index t = ![0, 0] ∧ win0_10.index t = ![0, 0] :=
  (by decide +kernel : ∀ t : Fin grid0.N, _)

/-- The weights as one matrix. -/
theorem V_v0 (c : Dev nD) : V m c main_v0 = shapeCast S3072x3072 (m ((c : Thread nD τ).loc main_arg1)) shapeCasts_S24x128x3072_S3072x3072 := by
  entry_read
  rfl

/-- The input's rows. -/
theorem V_v1 (c : Dev nD) : V m c main_v1 = shapeCast S2048x3072 (m ((c : Thread nD τ).loc main_arg2)) shapeCasts_S2x1024x3072_S2048x3072 := by
  entry_read
  rfl

/-- The output gradient's rows. -/
theorem V_v2 (c : Dev nD) : V m c main_v2 = shapeCast S2048x3072 (m ((c : Thread nD τ).loc main_arg3)) shapeCasts_S2x1024x3072_S2048x3072 := by
  entry_read
  rfl

/-- The scale as a row. -/
theorem V_v3 (c : Dev nD) : V m c main_v3 = shapeCast S1x3072 (m ((c : Thread nD τ).loc main_arg4)) shapeCasts_S3072_S1x3072 := by
  entry_read
  rfl

/-- The shift as a row. -/
theorem V_v4 (c : Dev nD) : V m c main_v4 = shapeCast S1x3072 (m ((c : Thread nD τ).loc main_arg5)) shapeCasts_S3072_S1x3072 := by
  entry_read
  rfl

/-- Where an entry of the block of operand 1 lies in the operand. -/
theorem emb1 (t : Fin cfg0.N) (z : S3072x3072.Idx) : ((((cfg0.win 1).blk t).view.emb z) 0 : ℕ) = (z 0 : ℕ) ∧ ((((cfg0.win 1).blk t).view.emb z) 1 : ℕ) = (z 1 : ℕ) := by
  constructor
  · blk_simp [idx t] <;> try omega
  · blk_simp [idx t] <;> try omega

/-- The block of operand 1 is a part of the operand. -/
theorem iblk1 (c : Dev nD) (t : Fin cfg0.N) (z : S3072x3072.Idx) :
   iblk m c 1 t z = (V m c main_v0 : FVec Ideal S3072x3072 .fp8e4m3) (((cfg0.win 1).blk t).view.emb z) := by
  rfl

/-- Where an entry of the block of operand 2 lies in the operand. -/
theorem emb2 (t : Fin cfg0.N) (z : S256x3072.Idx) : ((((cfg0.win 2).blk t).view.emb z) 0 : ℕ) = t.val * 256 + (z 0 : ℕ) ∧ ((((cfg0.win 2).blk t).view.emb z) 1 : ℕ) = (z 1 : ℕ) := by
  constructor
  · blk_simp [idx t] <;> try omega
  · blk_simp [idx t] <;> try omega

/-- The block of operand 2 is a part of the operand. -/
theorem iblk2 (c : Dev nD) (t : Fin cfg0.N) (z : S256x3072.Idx) :
   iblk m c 2 t z = (V m c main_v1 : FVec Ideal S2048x3072 .bf16) (((cfg0.win 2).blk t).view.emb z) := by
  rfl

/-- Where an entry of the block of operand 3 lies in the operand. -/
theorem emb3 (t : Fin cfg0.N) (z : S256x3072.Idx) : ((((cfg0.win 3).blk t).view.emb z) 0 : ℕ) = t.val * 256 + (z 0 : ℕ) ∧ ((((cfg0.win 3).blk t).view.emb z) 1 : ℕ) = (z 1 : ℕ) := by
  constructor
  · blk_simp [idx t] <;> try omega
  · blk_simp [idx t] <;> try omega

/-- The block of operand 3 is a part of the operand. -/
theorem iblk3 (c : Dev nD) (t : Fin cfg0.N) (z : S256x3072.Idx) :
   iblk m c 3 t z = (V m c main_v2 : FVec Ideal S2048x3072 .bf16) (((cfg0.win 3).blk t).view.emb z) := by
  rfl

/-- Where an entry of the block of operand 4 lies in the operand. -/
theorem emb4 (t : Fin cfg0.N) (z : S1x3072.Idx) : ((((cfg0.win 4).blk t).view.emb z) 0 : ℕ) = (z 0 : ℕ) ∧ ((((cfg0.win 4).blk t).view.emb z) 1 : ℕ) = (z 1 : ℕ) := by
  constructor
  · blk_simp [idx t] <;> try omega
  · blk_simp [idx t] <;> try omega

/-- The block of operand 4 is a part of the operand. -/
theorem iblk4 (c : Dev nD) (t : Fin cfg0.N) (z : S1x3072.Idx) :
   iblk m c 4 t z = (V m c main_v3 : FVec Ideal S1x3072 .f32) (((cfg0.win 4).blk t).view.emb z) := by
  rfl

/-- Where an entry of the block of operand 5 lies in the operand. -/
theorem emb5 (t : Fin cfg0.N) (z : S1x3072.Idx) : ((((cfg0.win 5).blk t).view.emb z) 0 : ℕ) = (z 0 : ℕ) ∧ ((((cfg0.win 5).blk t).view.emb z) 1 : ℕ) = (z 1 : ℕ) := by
  constructor
  · blk_simp [idx t] <;> try omega
  · blk_simp [idx t] <;> try omega

/-- The block of operand 5 is a part of the operand. -/
theorem iblk5 (c : Dev nD) (t : Fin cfg0.N) (z : S1x3072.Idx) :
   iblk m c 5 t z = (V m c main_v4 : FVec Ideal S1x3072 .f32) (((cfg0.win 5).blk t).view.emb z) := by
  rfl

/-- A matrix of two batches' rows, entry by entry. -/
theorem flatX (Y : FVec Ideal S2x1024x3072 .bf16) (j : S2048x3072.Idx) (w : S2x1024x3072.Idx)
  (h0 : (w 0 : ℕ) = j 0 / 1024) (h1 : (w 1 : ℕ) = (j 0) % 1024) (h2 : (w 2 : ℕ) = j 1) : shapeCast S2048x3072 Y shapeCasts_S2x1024x3072_S2048x3072 j = Y w := by
  pointwise
  blk_ext []

/-- The weights as one matrix, entry by entry. -/
theorem flatW (Y : FVec Ideal S24x128x3072 .fp8e4m3) (j : S3072x3072.Idx) (w : S24x128x3072.Idx)
  (h0 : (w 0 : ℕ) = j 0 / 128) (h1 : (w 1 : ℕ) = (j 0) % 128) (h2 : (w 2 : ℕ) = j 1) : shapeCast S3072x3072 Y shapeCasts_S24x128x3072_S3072x3072 j = Y w := by
  pointwise
  blk_ext []

/-- A vector as a row, entry by entry. -/
theorem flatG (Y : FVec Ideal S3072 .f32) (j : S1x3072.Idx) (w : S3072.Idx)
  (h0 : (w 0 : ℕ) = j 1) : shapeCast S1x3072 Y shapeCasts_S3072_S1x3072 j = Y w := by
  pointwise
  blk_ext []

/-- The block of the attention output, entry by entry. -/
theorem read0 (c : Dev nD) (t : Fin cfg0.N) (z : S1x24x256x128.Idx) (w : S2x24x1024x128.Idx)
    (h0 : (w 0 : ℕ) = t.val / 4) (h1 : (w 1 : ℕ) = z 1) (h2 : (w 2 : ℕ) = t.val % 4 * 256 + z 2) (h3 : (w 3 : ℕ) = z 3) :
    iblk m c 0 t z = m ((c : Thread nD τ).loc main_arg0) w := by
  blk_ext [iblk, V, idx t]

/-- The weights' block, entry by entry. -/
theorem read1 (c : Dev nD) (t : Fin cfg0.N) (z : S3072x3072.Idx) (w : S24x128x3072.Idx)
    (h0 : (w 0 : ℕ) = z 0 / 128) (h1 : (w 1 : ℕ) = (z 0) % 128) (h2 : (w 2 : ℕ) = z 1) :
    iblk m c 1 t z = m ((c : Thread nD τ).loc main_arg1) w := by
  rw [iblk1, V_v0]
  obtain ⟨e0, e1⟩ := emb1 t z
  exact flatW _ _ w (by rw [e0]; exact h0) (by rw [e0]; exact h1) (by rw [e1]; exact h2)

/-- A row of the input's block is a row of the input. -/
theorem row2 (c : Dev nD) (t : Fin cfg0.N) (a : Fin 256) (r : Fin 2048) (hr : r.val = t.val * 256 + a.val) :
    (fun k : Fin 3072 => (iblk m c 2 t (ix2 a k) : EReal)) = trow (m ((c : Thread nD τ).loc main_arg2)) r := by
  funext k
  show iblk m c 2 t (ix2 a k) = _
  rw [iblk2, V_v1]
  obtain ⟨e0, e1⟩ := emb2 t (ix2 a k)
  refine flatX _ _ _ ?_ ?_ ?_
  · rw [e0]; exact congrArg (· / 1024) hr
  · rw [e0]; exact congrArg (· % 1024) hr
  · rw [e1]; rfl

/-- A row of the output gradient's block is a row of the output gradient. -/
theorem row3 (c : Dev nD) (t : Fin cfg0.N) (a : Fin 256) (r : Fin 2048) (hr : r.val = t.val * 256 + a.val) :
    (fun k : Fin 3072 => (iblk m c 3 t (ix2 a k) : EReal)) = trow (m ((c : Thread nD τ).loc main_arg3)) r := by
  funext k
  show iblk m c 3 t (ix2 a k) = _
  rw [iblk3, V_v2]
  obtain ⟨e0, e1⟩ := emb3 t (ix2 a k)
  refine flatX _ _ _ ?_ ?_ ?_
  · rw [e0]; exact congrArg (· / 1024) hr
  · rw [e0]; exact congrArg (· % 1024) hr
  · rw [e1]; rfl

/-- The block of the scale is the scale. -/
theorem row4 (c : Dev nD) (t : Fin cfg0.N) : row1 (iblk m c 4 t) = vrow (m ((c : Thread nD τ).loc main_arg4)) := by
  funext k
  show iblk m c 4 t (ix2 0 k) = _
  rw [iblk4, V_v3]
  obtain ⟨e0, e1⟩ := emb4 t (ix2 0 k)
  exact flatG _ _ _ e1.symm

/-- The block of the shift is the shift. -/
theorem row5 (c : Dev nD) (t : Fin cfg0.N) : row1 (iblk m c 5 t) = vrow (m ((c : Thread nD τ).loc main_arg5)) := by
  funext k
  show iblk m c 5 t (ix2 0 k) = _
  rw [iblk5, V_v4]
  obtain ⟨e0, e1⟩ := emb5 t (ix2 0 k)
  exact flatG _ _ _ e1.symm

/-- A row of the block's product is a row of the whole product. -/
theorem bp_row (c : Dev nD) (t : Fin cfg0.N) (a : Fin 256) (r : Fin 2048) (hr : r.val = t.val * 256 + a.val) :
    bp (iblk m c 0 t) (iblk m c 1 t) a = brow (m ((c : Thread nD τ).loc main_arg0)) (m ((c : Thread nD τ).loc main_arg1)) r := by
  funext n
  unfold bp brow
  refine congrArg (fun a : EReal => a * _) (Finset.sum_congr rfl fun k _ => congrArg₂ (fun a b : EReal => a * b) ?_ ?_)
  · exact read0 m c t _ _ (by simp; omega) rfl (by simp; omega) rfl
  · exact read1 m c t _ _ rfl rfl rfl

/-- The output: the kernel's array is the reference's function of the argument arrays. -/
theorem final6 (c : Dev nD) : (dats m 0 c).arrAt 6 (cfgs 0).N
    = REFy (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 6 _ (by decide +kernel) fun t _ y => ?_
  have e0 : ((((cfg0.win 6).blk t).view.emb y) 0 : ℕ) = t.val * 256 + (y 0 : ℕ) := by
    blk_simp [idx t] <;> try omega
  have e1 : ((((cfg0.win 6).blk t).view.emb y) 1 : ℕ) = (y 1 : ℕ) := by
    blk_simp [idx t] <;> try omega
  generalize ((cfg0.win 6).blk t).view.emb y = j at *
  blk_simp
  rw [after0_6, at6, bp_row m c t (y 0) (j 0) e0, row2 m c t (y 0) (j 0) e0, row4, row5,
    show (y 1 : Fin 3072) = j 1 from Fin.ext e1.symm]
  rfl

/-- The gradient before the normalisation: the kernel's array is the reference's function of the argument arrays. -/
theorem final7 (c : Dev nD) : (dats m 0 c).arrAt 7 (cfgs 0).N
    = REFgb (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  have e0 : ((((cfg0.win 7).blk t).view.emb y) 0 : ℕ) = t.val * 256 + (y 0 : ℕ) := by
    blk_simp [idx t] <;> try omega
  have e1 : ((((cfg0.win 7).blk t).view.emb y) 1 : ℕ) = (y 1 : ℕ) := by
    blk_simp [idx t] <;> try omega
  generalize ((cfg0.win 7).blk t).view.emb y = j at *
  blk_simp
  rw [after0_7, at7, bp_row m c t (y 0) (j 0) e0, row3 m c t (y 0) (j 0) e0, row4,
    show (y 1 : Fin 3072) = j 1 from Fin.ext e1.symm]
  rfl

/-- The gradient behind the projection: the kernel's array is the reference's function of the argument arrays. -/
theorem final8 (c : Dev nD) : (dats m 0 c).arrAt 8 (cfgs 0).N
    = REFdo (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t _ y => ?_
  have ht : t.val < 8 := lt_of_lt_of_eq t.isLt N_0
  have e0 : ((((cfg0.win 8).blk t).view.emb y) 0 : ℕ) = t.val / 4 + (y 0 : ℕ) := by
    blk_simp [idx t] <;> try omega
  have e1 : ((((cfg0.win 8).blk t).view.emb y) 1 : ℕ) = (y 1 : ℕ) := by
    blk_simp [idx t] <;> try omega
  have e2 : ((((cfg0.win 8).blk t).view.emb y) 2 : ℕ) = t.val % 4 * 256 + (y 2 : ℕ) := by
    blk_simp [idx t] <;> try omega
  have e3 : ((((cfg0.win 8).blk t).view.emb y) 3 : ℕ) = (y 3 : ℕ) := by
    blk_simp [idx t] <;> try omega
  generalize ((cfg0.win 8).blk t).view.emb y = j at *
  have hy0 : (y 0).val < 1 := (y 0).isLt
  have hy2 : (y 2).val < 256 := (y 2).isLt
  have hy3 : (y 3).val < 128 := (y 3).isLt
  blk_simp
  rw [after0_8, at8]
  unfold REFdo
  refine congrArg (fun a : EReal => a * _) (Finset.sum_congr rfl fun n _ => congrArg₂ (fun a b : EReal => a * b) ?_ ?_)
  · rw [bp_row m c t (y 2) _ (show (⟨(j 0).val * 1024 + (j 2).val, by omega⟩ : Fin 2048).val = _ by simp; omega),
      row3 m c t (y 2) _ (show (⟨(j 0).val * 1024 + (j 2).val, by omega⟩ : Fin 2048).val = _ by simp; omega), row4]
    rfl
  · exact read1 m c t _ _ (by simp; omega) (by simp; omega) rfl

/-- The gradient of the scale: the kernel's array is the reference's function of the argument arrays. -/
theorem final9 (c : Dev nD) : (dats m 0 c).arrAt 9 (cfgs 0).N
    = REFdg (m ((c : Thread nD τ).loc main_arg0)) (m ((c : Thread nD τ).loc main_arg1)) (m ((c : Thread nD τ).loc main_arg3)) := by
  refine (dats m 0 c).arrAt_eq_of_after_last 9 t0_7 (by decide +kernel) _ fun y => ?_
  have e1 : ((((cfg0.win 9).blk t0_7).view.emb y) 1 : ℕ) = (y 1 : ℕ) := by
    blk_simp [idx t0_7] <;> try omega
  generalize ((cfg0.win 9).blk t0_7).view.emb y = j at *
  blk_simp
  rw [after0_9]
  refine (Pipeline.eq_sum_fin_of_reset_step_apply_last (fun n h => (outsAt0 m c n h).2.2.2.1) 8 (fun _ => (0 : EReal)) _
    (fun t h i => at9_A m c t h i) (fun t h i => at9_B m c t h i) (le_of_eq N_0) t0_7 rfl y).trans ?_
  refine (zero_add _).trans ?_
  unfold REFdg
  refine Fin.sum_mul_add_congr (fun t a hl => ?_) (by show 2048 = grid0.N * 256; rw [N_0])
  rw [bp_row m c t a ⟨t.val * 256 + a.val, hl⟩ rfl, row3 m c t a ⟨t.val * 256 + a.val, hl⟩ rfl]

/-- The gradient of the shift: the kernel's array is the reference's function of the argument arrays. -/
theorem final10 (c : Dev nD) : (dats m 0 c).arrAt 10 (cfgs 0).N
    = REFdb (m ((c : Thread nD τ).loc main_arg3)) := by
  refine (dats m 0 c).arrAt_eq_of_after_last 10 t0_7 (by decide +kernel) _ fun y => ?_
  have e1 : ((((cfg0.win 10).blk t0_7).view.emb y) 1 : ℕ) = (y 1 : ℕ) := by
    blk_simp [idx t0_7] <;> try omega
  generalize ((cfg0.win 10).blk t0_7).view.emb y = j at *
  blk_simp
  rw [after0_10]
  refine (Pipeline.eq_sum_fin_of_reset_step_apply_last (fun n h => (outsAt0 m c n h).2.2.2.2) 8 (fun _ => (0 : EReal)) _
    (fun t h i => at10_A m c t h i) (fun t h i => at10_B m c t h i) (le_of_eq N_0) t0_7 rfl y).trans ?_
  refine (zero_add _).trans ?_
  unfold REFdb
  refine Fin.sum_mul_add_congr (fun t a hl => ?_) (by show 2048 = grid0.N * 256; rw [N_0])
  rw [row3 m c t a ⟨t.val * 256 + a.val, hl⟩ rfl]

end Cert.KLnIdeal.Hand
-- ==== Proof.LnRuns.lean ====
module

public import proofs.«01_k».proof.Proof.Gen.KLnIdeal.Frame
public import proofs.«01_k».proof.Proof.Gen.RLnIdeal.Frame
public import proofs.«01_k».proof.Proof.LnRef
public import proofs.«01_k».proof.Proof.LnValue
public import Idealize.ShloMosaic.Lib.Claim

@[expose] public section

noncomputable section

open Idealize.ShloMosaic Idealize.ShloMosaic.TcCoe Idealize.SL.Sem

namespace Cert.KLnIdeal.Hand
open Cert.KLnIdeal Cert.KLnIdeal.Gen Cert.Ln

/-- Every run ends with the five results at their values and the six arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = REFy (m ((c : Thread nD τ).loc main_arg0)) (m ((c : Thread nD τ).loc main_arg1)) (m ((c : Thread nD τ).loc main_arg2)) (m ((c : Thread nD τ).loc main_arg4)) (m ((c : Thread nD τ).loc main_arg5)) ∧
      r.2.mem ((c.tc : Thread nD τ).loc main_v5_1) = REFgb (m ((c : Thread nD τ).loc main_arg0)) (m ((c : Thread nD τ).loc main_arg1)) (m ((c : Thread nD τ).loc main_arg3)) (m ((c : Thread nD τ).loc main_arg4)) ∧
      r.2.mem ((c.tc : Thread nD τ).loc main_v5_2) = REFdo (m ((c : Thread nD τ).loc main_arg0)) (m ((c : Thread nD τ).loc main_arg1)) (m ((c : Thread nD τ).loc main_arg3)) (m ((c : Thread nD τ).loc main_arg4)) ∧
      r.2.mem ((c.tc : Thread nD τ).loc main_v5_3) = REFdg (m ((c : Thread nD τ).loc main_arg0)) (m ((c : Thread nD τ).loc main_arg1)) (m ((c : Thread nD τ).loc main_arg3)) ∧
      r.2.mem ((c.tc : Thread nD τ).loc main_v5_4) = REFdb (m ((c : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) := by
  refine θ_run_mono (θ_run_and (Gen.run_main m g) (Gen.unchanged m g)) fun r h c => ?_
  obtain ⟨hr, hu⟩ := h
  exact ⟨((hr c).1 6).trans (final6 m c), ((hr c).1 7).trans (final7 m c), ((hr c).1 8).trans (final8 m c), ((hr c).1 9).trans (final9 m c), ((hr c).1 10).trans (final10 m c), hu c⟩

end Cert.KLnIdeal.Hand

namespace Cert.RLnIdeal.Hand
open Cert.RLnIdeal Cert.RLnIdeal.Gen Cert.Ln

/-- Every run ends with the five results at their values and the six arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = REFy (m ((c : Thread nD τ).loc main_arg0)) (m ((c : Thread nD τ).loc main_arg1)) (m ((c : Thread nD τ).loc main_arg2)) (m ((c : Thread nD τ).loc main_arg4)) (m ((c : Thread nD τ).loc main_arg5)) ∧
      r.2.mem ((c.tc : Thread nD τ).loc main_v5_1) = REFgb (m ((c : Thread nD τ).loc main_arg0)) (m ((c : Thread nD τ).loc main_arg1)) (m ((c : Thread nD τ).loc main_arg3)) (m ((c : Thread nD τ).loc main_arg4)) ∧
      r.2.mem ((c.tc : Thread nD τ).loc main_v5_2) = REFdo (m ((c : Thread nD τ).loc main_arg0)) (m ((c : Thread nD τ).loc main_arg1)) (m ((c : Thread nD τ).loc main_arg3)) (m ((c : Thread nD τ).loc main_arg4)) ∧
      r.2.mem ((c.tc : Thread nD τ).loc main_v5_3) = REFdg (m ((c : Thread nD τ).loc main_arg0)) (m ((c : Thread nD τ).loc main_arg1)) (m ((c : Thread nD τ).loc main_arg3)) ∧
      r.2.mem ((c.tc : Thread nD τ).loc main_v5_4) = REFdb (m ((c : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) := by
  refine θ_run_mono (θ_run_and (Gen.run_main m g) (Gen.unchanged m g)) fun r h c => ?_
  obtain ⟨hr, hu⟩ := h
  exact ⟨((hr c).1 6).trans (final6 m c), ((hr c).1 7).trans (final7 m c), ((hr c).1 8).trans (final8 m c), ((hr c).1 9).trans (final9 m c), ((hr c).1 10).trans (final10 m c), hu c⟩

end Cert.RLnIdeal.Hand
-- ==== Proof.QkvRef.lean ====
module

public import proofs.«01_k».proof.Proof.Gen.RQkvIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Qkv

/-- An activation as its fp8 code: kept within the format's range. -/
def code (x : EReal) : EReal := min (Ideal.ofBits .f32 0x43E00000#32) (max (Ideal.ofBits .f32 0xC3E00000#32) x)

/-- The projection of the token `s` of batch `b` to channel `d` of head `n`, scaled. -/
def proj (X : FVec Ideal Cert.RQkvIdeal.S2x1024x3072 .bf16) (W : FVec Ideal Cert.RQkvIdeal.S3072x36x128 .fp8e4m3)
    (b : Fin 2) (s : Fin 1024) (n : Fin 36) (d : Fin 128) : EReal :=
  (∑ k : Fin 3072, code (X (ix3 b s k)) * (W (ix3 k n d) : EReal)) * Ideal.ofBits .f32 0x3C93CD3A#32

/-- The channel half a head away from channel `d`. -/
def other (d : Fin 128) : Fin 128 := ⟨(d.val + 64) % 128, Nat.mod_lt _ (by decide)⟩

/-- The angle's index for channel `d`. -/
def half (d : Fin 128) : Fin 64 := ⟨d.val % 64, Nat.mod_lt _ (by decide)⟩

/-- A head's channel turned with the channel half a head away, by the angle whose cosine and sine are `c` and `s`. -/
def turn (v : Fin 128 → EReal) (c s : Fin 64 → EReal) (d : Fin 128) : EReal :=
  if d.val < 64 then v d * c (half d) - v (other d) * s (half d) else v d * c (half d) + v (other d) * s (half d)

/-- The projected heads: the first thirty are turned, the others left. -/
def REFrot (X : FVec Ideal Cert.RQkvIdeal.S2x1024x3072 .bf16) (W : FVec Ideal Cert.RQkvIdeal.S3072x36x128 .fp8e4m3)
    (C S : FVec Ideal Cert.RQkvIdeal.S2x1024x64 .f32) : FVec Ideal Cert.RQkvIdeal.S2x36x1024x128 .bf16 :=
  fun j => if (j 1).val < 30 then turn (proj X W (j 0) (j 2) (j 1)) (fun e => C (ix3 (j 0) (j 2) e)) (fun e => S (ix3 (j 0) (j 2) e)) (j 3)
    else proj X W (j 0) (j 2) (j 1) (j 3)

/-- The codes of the activations, one row for each token. -/
def REFcodes (X : FVec Ideal Cert.RQkvIdeal.S2x1024x3072 .bf16) : FVec Ideal Cert.RQkvIdeal.S2048x3072 .fp8e4m3 :=
  fun j => code (X (ix3 (⟨(j 0).val / 1024, by have := (j 0).isLt; change (j 0).val < 2048 at this; omega⟩ : Fin 2)
    (⟨(j 0).val % 1024, Nat.mod_lt _ (by decide)⟩ : Fin 1024) (j 1)))

end Cert.Qkv

namespace Cert.RQkvIdeal.Hand
open Cert.RQkvIdeal Cert.RQkvIdeal.Gen Cert.Qkv

variable (m : (ℓ : Loc nD τ sig) → Buf (Elt Ideal) ℓ)

/-- The codes, entry by entry. -/
theorem q1 (x : FVec Ideal S2048x3072 .bf16) (r : Fin 2048) (k : Fin 3072) :
    k0_pay1 (F := Ideal) x (ix2 r k) = code (x (ix2 r k)) := by
  pointwise [k0_pay1]
  rfl

/-- The projection of row `r`, scaled. -/
def prow (x : FVec Ideal S2048x3072 .bf16) (w : FVec Ideal S3072x4608 .fp8e4m3) (r : Fin 2048) (l : Fin 4608) : EReal :=
  (∑ k : Fin 3072, code (x (ix2 r k)) * (w (ix2 k l) : EReal)) * Ideal.ofBits .f32 0x3C93CD3A#32

/-- The heads, entry by entry, as the payload's layout operations leave them. -/
theorem q2 (x : FVec Ideal S2048x3072 .bf16) (w : FVec Ideal S3072x4608 .fp8e4m3) (C S : FVec Ideal S2x1024x64 .f32)
    (b : Fin 2) (n : Fin 36) (s : Fin 1024) (d : Fin 128) :
    k0_pay2 (F := Ideal) x w C S (ix4 b n s d)
      = if h : n.val < 30 then
          if h' : d.val < 64 then
            prow x w ⟨b.val * 1024 + s.val, by omega⟩ ⟨n.val * 128 + d.val, by omega⟩ * C (ix3 b s (⟨d.val, h'⟩ : Fin 64))
              - prow x w ⟨b.val * 1024 + s.val, by omega⟩ ⟨n.val * 128 + (64 + d.val), by omega⟩ * S (ix3 b s (⟨d.val, h'⟩ : Fin 64))
          else
            prow x w ⟨b.val * 1024 + s.val, by omega⟩ ⟨n.val * 128 + (64 + (d.val - 64)), by omega⟩ * C (ix3 b s (⟨d.val - 64, by omega⟩ : Fin 64))
              + prow x w ⟨b.val * 1024 + s.val, by omega⟩ ⟨n.val * 128 + (d.val - 64), by omega⟩ * S (ix3 b s (⟨d.val - 64, by omega⟩ : Fin 64))
        else prow x w ⟨b.val * 1024 + s.val, by omega⟩ ⟨(30 + (n.val - 30)) * 128 + d.val, by omega⟩ := by
  pointwise [k0_pay2, q1, prow]

/-- The heads, entry by entry. -/
theorem turned (P : Fin 4608 → EReal) (C S : Fin 64 → EReal) (n : Fin 36) (d : Fin 128) :
    (if h : n.val < 30 then
      if h' : d.val < 64 then
        P ⟨n.val * 128 + d.val, by omega⟩ * C ⟨d.val, h'⟩ - P ⟨n.val * 128 + (64 + d.val), by omega⟩ * S ⟨d.val, h'⟩
      else
        P ⟨n.val * 128 + (64 + (d.val - 64)), by omega⟩ * C ⟨d.val - 64, by omega⟩ + P ⟨n.val * 128 + (d.val - 64), by omega⟩ * S ⟨d.val - 64, by omega⟩
    else P ⟨(30 + (n.val - 30)) * 128 + d.val, by omega⟩)
      = if n.val < 30 then turn (fun e => P ⟨n.val * 128 + e.val, by omega⟩) C S d else P ⟨n.val * 128 + d.val, by omega⟩ := by
  have hc : ∀ {a a' : ℕ} (h : a < 64) (h' : a' < 64) (T : Fin 64 → EReal), a = a' → T ⟨a, h⟩ = T ⟨a', h'⟩ := by
    intro a a' h h' T e; subst e; rfl
  have hp : ∀ {a a' : ℕ} (h : a < 4608) (h' : a' < 4608), a = a' → P ⟨a, h⟩ = P ⟨a', h'⟩ := by
    intro a a' h h' e; subst e; rfl
  by_cases hn : n.val < 30
  · rw [dif_pos hn, if_pos hn]
    unfold turn half other
    by_cases hd : d.val < 64
    · rw [dif_pos hd, if_pos hd]
      exact congrArg₂ (fun a b : EReal => a - b) (congrArg₂ (fun a b : EReal => a * b) rfl (hc _ _ C (by omega)))
        (congrArg₂ (fun a b : EReal => a * b) (hp _ _ (by dsimp only; omega)) (hc _ _ S (by omega)))
    · rw [dif_neg hd, if_neg hd]
      exact congrArg₂ (fun a b : EReal => a + b) (congrArg₂ (fun a b : EReal => a * b) (hp _ _ (by omega)) (hc _ _ C (by omega)))
        (congrArg₂ (fun a b : EReal => a * b) (hp _ _ (by dsimp only; omega)) (hc _ _ S (by omega)))
  · rw [dif_neg hn, if_neg hn]
    exact hp _ _ (by omega)

/-- The call's one point stages every array whole. -/
theorem idx : win0_0.index t0_0 = ![0, 0] ∧ win0_1.index t0_0 = ![0, 0] ∧ win0_2.index t0_0 = ![0, 0, 0] ∧ win0_3.index t0_0 = ![0, 0, 0]
    ∧ win0_4.index t0_0 = ![0, 0, 0, 0] ∧ win0_5.index t0_0 = ![0, 0] := by
  decide +kernel

/-- The activations' rows, one for each token. -/
theorem V_v0 (c : Dev nD) : V m c main_v0 = shapeCast S2048x3072 (m ((c : Thread nD τ).loc main_arg0)) shapeCasts_S2x1024x3072_S2048x3072 := by
  entry_read
  rfl

/-- The weights as one matrix. -/
theorem V_v1 (c : Dev nD) : V m c main_v1 = shapeCast S3072x4608 (m ((c : Thread nD τ).loc main_arg1)) shapeCasts_S3072x36x128_S3072x4608 := by
  entry_read
  rfl

/-- The block staged for operand 0 is the whole operand. -/
theorem ib0 (c : Dev nD) : iblk m c 0 t0_0 = V m c main_v0 := by
  funext z
  blk_ext [iblk, idx]

/-- The block staged for operand 1 is the whole operand. -/
theorem ib1 (c : Dev nD) : iblk m c 1 t0_0 = V m c main_v1 := by
  funext z
  blk_ext [iblk, idx]

/-- The block staged for operand 2 is the whole operand. -/
theorem ib2 (c : Dev nD) : iblk m c 2 t0_0 = V m c main_arg2 := by
  funext z
  blk_ext [iblk, idx]

/-- The block staged for operand 3 is the whole operand. -/
theorem ib3 (c : Dev nD) : iblk m c 3 t0_0 = V m c main_arg3 := by
  funext z
  blk_ext [iblk, idx]

/-- What the body leaves as the heads: one payload over its operands. -/
theorem out4 (x0 : FVec Ideal S2048x3072 .bf16) (x1 : FVec Ideal S3072x4608 .fp8e4m3) (x2 x3 : FVec Ideal S2x1024x64 .f32) :
    out0_4 (F := Ideal) x0 x1 x2 x3 = k0_pay2 (F := Ideal) x0 x1 x2 x3 := by
  funext y
  frame_out

/-- What the body leaves as the codes: one payload over its operands. -/
theorem out5 (x0 : FVec Ideal S2048x3072 .bf16) (x1 : FVec Ideal S3072x4608 .fp8e4m3) (x2 x3 : FVec Ideal S2x1024x64 .f32) :
    out0_5 (F := Ideal) x0 x1 x2 x3 = k0_pay1 (F := Ideal) x0 := by
  funext y
  frame_out

/-- The array of the heads: its one payload over the whole operands. -/
theorem final_pay4 (c : Dev nD) : (dats m 0 c).arrAt 4 (cfgs 0).N
    = k0_pay2 (V m c main_v0) (V m c main_v1) (V m c main_arg2) (V m c main_arg3) := by
  refine (dats m 0 c).arrAt_eq_of_after_last 4 t0_0 (by decide +kernel) _ fun j => ?_
  blk_simp
  rw [after0_4, out4]
  simp only [ib0, ib1, ib2, ib3]
  blk_ext [idx]

/-- The array of the codes: its one payload over the whole operands. -/
theorem final_pay5 (c : Dev nD) : (dats m 0 c).arrAt 5 (cfgs 0).N = k0_pay1 (V m c main_v0) := by
  refine (dats m 0 c).arrAt_eq_of_after_last 5 t0_0 (by decide +kernel) _ fun j => ?_
  blk_simp
  rw [after0_5, out5]
  simp only [ib0]
  blk_ext [idx]

/-- A row of the projection, from the argument arrays. -/
theorem prow_eq (X : FVec Ideal S2x1024x3072 .bf16) (W : FVec Ideal S3072x36x128 .fp8e4m3) (b : Fin 2) (s : Fin 1024) (n : Fin 36) (d : Fin 128)
    (hr : b.val * 1024 + s.val < 2048) (hl : n.val * 128 + d.val < 4608) :
    prow (shapeCast S2048x3072 X shapeCasts_S2x1024x3072_S2048x3072) (shapeCast S3072x4608 W shapeCasts_S3072x36x128_S3072x4608)
      ⟨b.val * 1024 + s.val, hr⟩ ⟨n.val * 128 + d.val, hl⟩ = proj X W b s n d := by
  pointwise [prow, proj]

/-- The heads' payload over the operands, entry by entry. -/
theorem q2t (x : FVec Ideal S2048x3072 .bf16) (w : FVec Ideal S3072x4608 .fp8e4m3) (C S : FVec Ideal S2x1024x64 .f32)
    (b : Fin 2) (n : Fin 36) (s : Fin 1024) (d : Fin 128) (hr : b.val * 1024 + s.val < 2048) :
    k0_pay2 (F := Ideal) x w C S (ix4 b n s d)
      = if n.val < 30 then turn (fun e => prow x w ⟨b.val * 1024 + s.val, hr⟩ ⟨n.val * 128 + e.val, by omega⟩)
          (fun e => C (ix3 b s e)) (fun e => S (ix3 b s e)) d
        else prow x w ⟨b.val * 1024 + s.val, hr⟩ ⟨n.val * 128 + d.val, by omega⟩ := by
  rw [q2]
  exact turned (fun l => prow x w ⟨b.val * 1024 + s.val, hr⟩ l) (fun e => C (ix3 b s e)) (fun e => S (ix3 b s e)) n d

/-- The heads' payload over the argument arrays. -/
theorem q3 (X : FVec Ideal S2x1024x3072 .bf16) (W : FVec Ideal S3072x36x128 .fp8e4m3) (C S : FVec Ideal S2x1024x64 .f32) :
    k0_pay2 (F := Ideal) (shapeCast S2048x3072 X shapeCasts_S2x1024x3072_S2048x3072) (shapeCast S3072x4608 W shapeCasts_S3072x36x128_S3072x4608) C S
      = REFrot X W C S := by
  have key : ∀ (b : Fin 2) (n : Fin 36) (s : Fin 1024) (d : Fin 128),
      k0_pay2 (F := Ideal) (shapeCast S2048x3072 X shapeCasts_S2x1024x3072_S2048x3072) (shapeCast S3072x4608 W shapeCasts_S3072x36x128_S3072x4608) C S (ix4 b n s d)
      = if n.val < 30 then turn (proj X W b s n) (fun e => C (ix3 b s e)) (fun e => S (ix3 b s e)) d else proj X W b s n d := by
    intro b n s d
    rw [q2t _ _ C S b n s d (by omega)]
    simp only [prow_eq]
  funext j
  idx_vars j
  exact key _ _ _ _

/-- The codes' payload over the argument array. -/
theorem q4 (X : FVec Ideal S2x1024x3072 .bf16) :
    k0_pay1 (F := Ideal) (shapeCast S2048x3072 X shapeCasts_S2x1024x3072_S2048x3072) = REFcodes X := by
  funext j
  idx_vars j
  rw [q1]
  refine congrArg code ?_
  pointwise

/-- The heads, of the argument arrays. -/
theorem final4 (c : Dev nD) : (dats m 0 c).arrAt 4 (cfgs 0).N
    = REFrot (m ((c : Thread nD τ).loc main_arg0)) (m ((c : Thread nD τ).loc main_arg1)) (m ((c : Thread nD τ).loc main_arg2)) (m ((c : Thread nD τ).loc main_arg3)) := by
  rw [final_pay4, V_main_arg2, V_main_arg3, V_v0, V_v1]
  exact q3 _ _ _ _

/-- The codes, of the argument arrays. -/
theorem final5 (c : Dev nD) : (dats m 0 c).arrAt 5 (cfgs 0).N = REFcodes (m ((c : Thread nD τ).loc main_arg0)) := by
  rw [final_pay5, V_v0]
  exact q4 _

end Cert.RQkvIdeal.Hand
-- ==== Proof.QkvPoints.lean ====
/- The points of the projection call. The body stores the codes of the activations at the first point only (`cond0_0`);
   what follows says which windows a point stores into, and names the staging buffers of a point. -/
module

public import proofs.«01_k».proof.Proof.Gen.KQkvIdeal.Skeleton
public import proofs.«01_k».proof.Proof.Gen.KQkvIdeal.Frame
public import Idealize.ShloMosaic.Lib.Pipeline.TableIdle

@[expose] public section

-- membership in a rectangle of production extents (`View.cover_of_tiled`): the elaborator's structural look
-- recurses once per coordinate of the long axes
set_option maxRecDepth 16384

noncomputable section

namespace Cert.KQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkvIdeal Cert.KQkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- After the first point the codes' window is idle: the body stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S2x2x1024x128 .bf16 := (Memref.whole cc0_stg4_0 : Memref sig .tc .vmem S2x2x1024x128 .bf16).view
/-- One staging buffer of output window 5, through which its contents are stated (`View.read_writes_of_cover`: the
    choice does not matter). -/
abbrev VO0_5 : View sig .tc .vmem S2048x3072 .fp8e4m3 := (Memref.whole cc0_stg5_0 : Memref sig .tc .vmem S2048x3072 .fp8e4m3).view
/-- Each window's current staging memref at point `t`, spelled as the pipeline passes it (`bodyAt0`), and its wholeness. -/
abbrev ms0_0 (t : Fin cfg0.N) : Memref sig .tc .vmem S2048x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x3072x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2x1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x3072 .fp8e4m3 := win0_5.stage (cfg0.slots t 5)
abbrev hs0_5 (t : Fin cfg0.N) : (ms0_5 t).IsWhole := hstage0_5 ((cfg0.slots t 5).cast nbuf0_5)

end Cert.KQkvIdeal.Hand

end
-- ==== Proof.QkvRunA.lean ====
/- The body of the projection call at the first point, where it also stores the codes of the activations: the body run
   once, with the pieces its stores leave in the two output buffers. -/
module

public import proofs.«01_k».proof.Proof.QkvPoints

@[expose] public section

-- membership in a rectangle of production extents (`View.cover_of_tiled`): the elaborator's structural look
-- recurses once per coordinate of the long axes
set_option maxRecDepth 16384

noncomputable section

namespace Cert.KQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkvIdeal Cert.KQkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) :
    Σ' (L4 : List (View.Piece (Elt F) S2x2x1024x128 .bf16)), { L5 : List (View.Piece (Elt F) S2048x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_qkv_rope i arg1 harg1 arg2 harg2 arg3 harg3 arg4 harg4 arg5 harg5 arg6 harg6) K } := by
  refine ⟨?_, ?_, fun E K => ?run⟩
  case run =>
    simp only [cc0_qkv_rope_eq_skeleton]; unfold cc0_qkv_rope_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KQkvIdeal.Hand

end
-- ==== Proof.QkvRunB.lean ====
/- The body of the projection call at a later point, where it leaves the codes alone: the body run once, with the pieces
   its stores leave in the buffer of the projections. -/
module

public import proofs.«01_k».proof.Proof.QkvRunA

@[expose] public section

-- membership in a rectangle of production extents (`View.cover_of_tiled`): the elaborator's structural look
-- recurses once per coordinate of the long axes
set_option maxRecDepth 16384

noncomputable section

namespace Cert.KQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkvIdeal Cert.KQkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 17: 17 of 18), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) :
    Σ' (L4 : List (View.Piece (Elt F) S2x2x1024x128 .bf16)), { L5 : List (View.Piece (Elt F) S2048x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5) -∗ K ⟨⟩))
          ⊢ wp frame (wpE (defs₀ (F := F)) Variants.none c none) E (cc0_qkv_rope i arg1 harg1 arg2 harg2 arg3 harg3 arg4 harg4 arg5 harg5 arg6 harg6) K } := by
  refine ⟨?_, [], fun E K => ?run⟩
  case run =>
    simp only [cc0_qkv_rope_eq_skeleton]; unfold cc0_qkv_rope_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.KQkvIdeal.Hand

end
-- ==== Proof.QkvFrame.lean ====
/- The run of the projection call. What the two output buffers hold after each point (`outsAt0`), the body at any point
   (`sound_body`), the run of the whole call (`run_main`) and that it leaves its arguments unchanged (`frame`). -/
module

public import proofs.«01_k».proof.Proof.QkvRunB
public import Idealize.ShloMosaic.Lib.Claim

@[expose] public section

-- membership in a rectangle of production extents (`View.cover_of_tiled`): the elaborator's structural look
-- recurses once per coordinate of the long axes
set_option maxRecDepth 16384

noncomputable section

namespace Cert.KQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkvIdeal Cert.KQkvIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (8 stores of `S1x1x512x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) (y : S2x2x1024x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1x1x512x128.size (by sl_kernel_rfl) y

/-- What case A leaves in output 4's staging buffer: its pieces read back over junk. -/
def out0_A_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) : Vec F S2x2x1024x128 .bf16 :=
  VO0_4.read (Elt F) (VO0_4.writes (Elt F) VO0_4.junk (kernelRun0_A c i arg1 harg1 arg2 harg2 arg3 harg3 arg4 harg4 arg5 harg5 arg6 harg6 hc0 x0 x1 x2 x3).1)

/-- Case A's pieces for output 5 tile its block (1 store of `S2048x3072`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) (y : S2048x3072.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S2048x3072.size (by sl_kernel_rfl) y

/-- What case A leaves in output 5's staging buffer: its pieces read back over junk. -/
def out0_A_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) : Vec F S2048x3072 .fp8e4m3 :=
  VO0_5.read (Elt F) (VO0_5.writes (Elt F) VO0_5.junk (kernelRun0_A c i arg1 harg1 arg2 harg2 arg3 harg3 arg4 harg4 arg5 harg5 arg6 harg6 hc0 x0 x1 x2 x3).2.1)

/-- Case B's pieces for output 4 tile its block (8 stores of `S1x1x512x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) (y : S2x2x1024x128.Idx) :
    ∃ pc ∈ (kernelRun0_B c i arg1 harg1 arg2 harg2 arg3 harg3 arg4 harg4 arg5 harg5 arg6 harg6 hc0 x0 x1 x2 x3 xo5).1, y ∈ pc.1.set :=
  View.cover_of_tiledL (kernelRun0_B c i arg1 harg1 arg2 harg2 arg3 harg3 arg4 harg4 arg5 harg5 arg6 harg6 hc0 x0 x1 x2 x3 xo5).1 S1x1x512x128.size (by sl_kernel_rfl) y

/-- What case B leaves in output 4's staging buffer: its pieces read back over junk. -/
def out0_B_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) : Vec F S2x2x1024x128 .bf16 :=
  VO0_4.read (Elt F) (VO0_4.writes (Elt F) VO0_4.junk (kernelRun0_B c i arg1 harg1 arg2 harg2 arg3 harg3 arg4 harg4 arg5 harg5 arg6 harg6 hc0 x0 x1 x2 x3 xo5).1)

/-- Case B stores nothing into output 5, a live window: its staging buffer holds what the point before left. -/
def out0_B_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) : Vec F S2048x3072 .fp8e4m3 := xo5

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2x2x1024x128 .bf16 × Vec F S2048x3072 .fp8e4m3
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 18 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 18 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the body stores nothing there; the first point, which stores, is not idle) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 18 := lt_of_lt_of_eq t.isLt (show cfg0.N = 18 from N_0)
  rw [after0_5, after0_5]
  by_cases h0 : t.val % 18 = 0
  · rw [liveAt0_5_A t ((hcond0_0 t).mpr h0)] at hi
    exact absurd hi Bool.false_ne_true
  · rw [outsAt0_B m c t h0]; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 18 = 0) (d) :
    (dats m 0 c).before 5 t d = (outsAt0 m c (t.val - 1) (Nat.lt_of_le_of_lt (Nat.sub_le _ _) t.isLt)).2 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- After the first point the codes' buffer is left as the point before left it: that is what the pipeline asks of an
    idle window, whether it writes the buffer back at this point or not. -/
theorem leaves0_5_B (c : Dev nD) (t : Fin cfg0.N) (h0 : ¬t.val % 18 = 0) :
    (owns (c : Thread nD τ) (ms0_5 t) fullShare (outsAt0 m c (t.val - 1) (Nat.lt_of_le_of_lt (Nat.sub_le _ _) t.isLt)).2 : sProp 𝕄)
      ⊢ (dats m 0 c).leavesExact 5 t := by
  have hi := idleAt0_5_B t (fun h => h0 ((hcond0_0 t).mp h))
  cases hf : (cfg0.win 5).flush t with
  | false =>
    rw [(dats m 0 c).leavesExact_idle 5 t hi hf]
    simp only [before0_5_B m c t h0]
    iintro H
    iexists (fun _ => default); iexact H
  | true =>
    rw [show (dats m 0 c).leavesExact 5 t = owns (c : Thread nD τ) (ms0_5 t) fullShare ((dats m 0 c).after 5 t) from by
      unfold Dat.leavesExact; rw [hi, hf], after0_5, outsAt0_B m c t h0]
    exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 18 := lt_of_lt_of_eq t.isLt (show cfg0.N = 18 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [outsAt0_A m c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [outsAt0_B m c t h0]
    simp only [before0_5_B m c t h0]
    unfold out0_B_4; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    iapply (leaves0_5_B m c t h0)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KQkvIdeal`'s statement (Defs.lean) at any `F` — Proof.lean cites it at `Bits`:
    `theorem Cert.Proof.claim : Cert.Claim := ⟨Cert.KQkvIdeal.Gen.facts, fun m ρ _ => Cert.KQkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KQkvIdeal.Hand

end
-- ==== Proof.QkvBlocks.lean ====
module

public import proofs.«01_k».proof.Proof.QkvFrame
public import proofs.«01_k».proof.Proof.QkvRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KQkvIdeal.Hand
open Cert.KQkvIdeal Cert.KQkvIdeal.Gen Cert.Qkv

/-- Row `r` of the codes times channel `d` of head `h` of the weights, scaled. -/
def lin (Z : FVec Ideal S2048x3072 .fp8e4m3) (x1 : FVec Ideal S2x3072x128 .fp8e4m3) (h : Fin 2) (r : Fin 2048) (d : Fin 128) : EReal :=
  (∑ k : Fin 3072, (Z (ix2 r k) : EReal) * (x1 (ix3 h k d) : EReal)) * Ideal.ofBits .f32 0x3C93CD3A#32

/-- A head's channel: left as it is, or turned with the channel half a head away. -/
def mixed (u : Prop) [Decidable u] (v : Fin 128 → EReal) (c s : Fin 128 → EReal) (d : Fin 128) : EReal :=
  if u then v d else v d * c d + v (other d) * s d

/-- The same from equal parts. -/
theorem mixed_congr (u : Prop) [Decidable u] {v v' c c' s s' : Fin 128 → EReal} (d : Fin 128) (hv : ∀ e, v e = v' e) (hc : ∀ e, c e = c' e)
    (hs : ∀ e, s e = s' e) : mixed u v c s d = mixed u v' c' s' d := by
  rw [funext hv, funext hc, funext hs]

/-- The block of heads a point leaves, as a function of the codes, the weights' block, the cosines and the signed sines. -/
def heads (u : Prop) [Decidable u] (Z : FVec Ideal S2048x3072 .fp8e4m3) (x1 : FVec Ideal S2x3072x128 .fp8e4m3)
    (x2 x3 : FVec Ideal S2048x128 .f32) (b : Fin 2) (h : Fin 2) (s : Fin 1024) (d : Fin 128) : EReal :=
  mixed u (lin Z x1 h ⟨b.val * 1024 + s.val, by omega⟩) (fun e => x2 (ix2 (⟨b.val * 1024 + s.val, by omega⟩ : Fin 2048) e))
    (fun e => x3 (ix2 (⟨b.val * 1024 + s.val, by omega⟩ : Fin 2048) e)) d

/-- The body's choice between turning and leaving, over one entry: the cosine one and the sine zero leave it. -/
theorem choice (u : Prop) [Decidable u] (v w c s : EReal) :
    v * Scalar.select (if u then 1#1 else 0#1) 1 c + Scalar.select (if u then 1#1 else 0#1) 0 (w * s) = if u then v else v * c + w * s := by
  by_cases hu : u <;> simp [Scalar.select, hu]

/-- The first of the two heads of a piece, entry by entry. -/
theorem first_at (v7 : FVec Ideal S3072x256 .fp8e4m3) (u : Prop) [Decidable u] (z : FVec Ideal S512x3072 .fp8e4m3)
    (c s : FVec Ideal S512x128 .f32) (a : Fin 512) (d : Fin 128) :
    k0_pay4 (F := Ideal) v7 (if u then 1#1 else 0#1) z c s (ix4 0 0 a d)
      = mixed u (fun e => (∑ k : Fin 3072, (z (ix2 a k) : EReal) * (v7 (ix2 k (⟨e.val, by omega⟩ : Fin 256)) : EReal)) * Ideal.ofBits .f32 0x3C93CD3A#32)
          (fun e => c (ix2 a e)) (fun e => s (ix2 a e)) d := by
  unfold mixed other
  rw [← choice]
  pointwise [k0_pay4, k0_pay1, k0_pay2, k0_pay3]
  rfl

/-- The second of the two heads of a piece, entry by entry. -/
theorem second_at (v7 : FVec Ideal S3072x256 .fp8e4m3) (u : Prop) [Decidable u] (z : FVec Ideal S512x3072 .fp8e4m3)
    (c s : FVec Ideal S512x128 .f32) (a : Fin 512) (d : Fin 128) :
    k0_pay5 (F := Ideal) v7 (if u then 1#1 else 0#1) z c s (ix4 0 0 a d)
      = mixed u (fun e => (∑ k : Fin 3072, (z (ix2 a k) : EReal) * (v7 (ix2 k (⟨128 + e.val, by omega⟩ : Fin 256)) : EReal)) * Ideal.ofBits .f32 0x3C93CD3A#32)
          (fun e => c (ix2 a e)) (fun e => s (ix2 a e)) d := by
  unfold mixed other
  rw [← choice]
  pointwise [k0_pay5, k0_pay1, k0_pay2, k0_pay3]
  rfl

/-- The weights of the two heads of a block, side by side. -/
abbrev sideBySide (x1 : Vec Ideal S2x3072x128 .fp8e4m3) : FVec Ideal S3072x256 .fp8e4m3 :=
  k0_pay7 (F := Ideal) (View.ld x1 (Rect.unit ![0, 0, 0] ![1, 3072, 128] inb_S2x3072x128_S1x3072x128_0_0_0))
    (View.ld x1 (Rect.unit ![1, 0, 0] ![1, 3072, 128] inb_S2x3072x128_S1x3072x128_1_0_0))

/-- The left half is the first head. -/
theorem left_at (x1 : Vec Ideal S2x3072x128 .fp8e4m3) (k : Fin 3072) (e : Fin 128) :
    sideBySide x1 (ix2 k (⟨e.val, by omega⟩ : Fin 256)) = x1 (ix3 (0 : Fin 2) k e) := by
  pointwise [k0_pay7]
  blk_ext []

/-- The right half is the second head. -/
theorem right_at (x1 : Vec Ideal S2x3072x128 .fp8e4m3) (k : Fin 3072) (e : Fin 128) :
    sideBySide x1 (ix2 k (⟨128 + e.val, by omega⟩ : Fin 256)) = x1 (ix3 (1 : Fin 2) k e) := by
  pointwise [k0_pay7]
  blk_ext []

/-- Rows `r0` to `r0 + 511` of the codes. -/
abbrev zrows (Z : Vec Ideal S2048x3072 .fp8e4m3) (r0 : ℕ) (hin : ∀ a, (![r0, 0] : Fin 2 → Nat) a + S512x3072.size a ≤ S2048x3072.size a) :
    FVec Ideal S512x3072 .fp8e4m3 := View.ld Z (Rect.unit (s := S2048x3072) ![r0, 0] S512x3072.size hin)

/-- Rows `r0` to `r0 + 511` of the cosines or sines. -/
abbrev crows (x : Vec Ideal S2048x128 .f32) (r0 : ℕ) (hin : ∀ a, (![r0, 0] : Fin 2 → Nat) a + S512x128.size a ≤ S2048x128.size a) :
    FVec Ideal S512x128 .f32 := View.ld x (Rect.unit (s := S2048x128) ![r0, 0] S512x128.size hin)

/-- A row of a piece is a row of the codes. -/
theorem zrows_at (Z : Vec Ideal S2048x3072 .fp8e4m3) (r0 : ℕ) (hin) (a : Fin 512) (r : Fin 2048) (hr : r.val = r0 + a.val) (k : Fin 3072) :
    zrows Z r0 hin (ix2 a k) = Z (ix2 r k) := by
  show View.ld Z (Rect.unit (s := S2048x3072) ![r0, 0] S512x3072.size hin) (ix2 a k) = _
  pointwise
  blk_ext []

/-- A row of a piece is a row of the cosines or sines. -/
theorem crows_at (x : Vec Ideal S2048x128 .f32) (r0 : ℕ) (hin) (a : Fin 512) (r : Fin 2048) (hr : r.val = r0 + a.val) (k : Fin 128) :
    crows x r0 hin (ix2 a k) = x (ix2 r k) := by
  show View.ld x (Rect.unit (s := S2048x128) ![r0, 0] S512x128.size hin) (ix2 a k) = _
  pointwise
  blk_ext []

/-- An index of one head's piece is its last two coordinates. -/
theorem unit_ix (x : S1x1x512x128.Idx) : x = ix4 0 0 (x 2) (x 3) := by
  have hx0 : (x 0).val < 1 := (x 0).isLt
  have hx1 : (x 1).val < 1 := (x 1).isLt
  funext d; apply Fin.ext; fin_cases d
  · show (x 0).val = 0; omega
  · show (x 1).val = 0; omega
  · rfl
  · rfl

/-- A piece of the block's first head is its part of the block. -/
theorem piece_first (P : FVec Ideal S1x1x512x128 .bf16) (u : Prop) [Decidable u] (v8 : BitVec 1) (hv : v8 = if u then 1#1 else 0#1)
    (Z : Vec Ideal S2048x3072 .fp8e4m3) (x1 : Vec Ideal S2x3072x128 .fp8e4m3) (x2 x3 : Vec Ideal S2048x128 .f32) (b s0 r0 : ℕ) (hz hc)
    (hP : P = k0_pay4 (F := Ideal) (sideBySide x1) v8 (zrows Z r0 hz) (crows x2 r0 hc) (crows x3 r0 hc)) (hb : b * 1024 + s0 = r0)
    (x : S1x1x512x128.Idx) (y : S2x2x1024x128.Idx)
    (h0 : (y 0).val = b + (x 0).val) (h1 : (y 1).val = 0 + (x 1).val) (h2 : (y 2).val = s0 + (x 2).val) (h3 : (y 3).val = (x 3).val) :
    P x = heads u Z x1 x2 x3 (y 0) (y 1) (y 2) (y 3) := by
  subst hP hv
  rw [unit_ix x]
  have hx0 : (x 0).val < 1 := (x 0).isLt
  have hx1 : (x 1).val < 1 := (x 1).isLt
  refine (first_at _ u _ _ _ (x 2) (x 3)).trans ?_
  have e1 : y 1 = (0 : Fin 2) := Fin.ext (by show (y 1).val = 0; omega)
  have e3 : y 3 = x 3 := Fin.ext h3
  have hr : ∀ h, (⟨(y 0).val * 1024 + (y 2).val, h⟩ : Fin 2048).val = r0 + (x 2).val := fun h => by dsimp only; omega
  unfold heads lin
  rw [e1, e3]
  refine mixed_congr u _ (fun e => ?_) (fun e => crows_at x2 r0 hc (x 2) _ (hr _) e) (fun e => crows_at x3 r0 hc (x 2) _ (hr _) e)
  exact congrArg (fun p : EReal => p * _) (Finset.sum_congr rfl fun k _ =>
    congrArg₂ (fun p q : EReal => p * q) (zrows_at Z r0 hz (x 2) _ (hr _) k) (left_at x1 k e))

/-- A piece of the block's second head is its part of the block. -/
theorem piece_second (P : FVec Ideal S1x1x512x128 .bf16) (u : Prop) [Decidable u] (v8 : BitVec 1) (hv : v8 = if u then 1#1 else 0#1)
    (Z : Vec Ideal S2048x3072 .fp8e4m3) (x1 : Vec Ideal S2x3072x128 .fp8e4m3) (x2 x3 : Vec Ideal S2048x128 .f32) (b s0 r0 : ℕ) (hz hc)
    (hP : P = k0_pay5 (F := Ideal) (sideBySide x1) v8 (zrows Z r0 hz) (crows x2 r0 hc) (crows x3 r0 hc)) (hb : b * 1024 + s0 = r0)
    (x : S1x1x512x128.Idx) (y : S2x2x1024x128.Idx)
    (h0 : (y 0).val = b + (x 0).val) (h1 : (y 1).val = 1 + (x 1).val) (h2 : (y 2).val = s0 + (x 2).val) (h3 : (y 3).val = (x 3).val) :
    P x = heads u Z x1 x2 x3 (y 0) (y 1) (y 2) (y 3) := by
  subst hP hv
  rw [unit_ix x]
  have hx0 : (x 0).val < 1 := (x 0).isLt
  have hx1 : (x 1).val < 1 := (x 1).isLt
  refine (second_at _ u _ _ _ (x 2) (x 3)).trans ?_
  have e1 : y 1 = (1 : Fin 2) := Fin.ext (by show (y 1).val = 1; omega)
  have e3 : y 3 = x 3 := Fin.ext h3
  have hr : ∀ h, (⟨(y 0).val * 1024 + (y 2).val, h⟩ : Fin 2048).val = r0 + (x 2).val := fun h => by dsimp only; omega
  unfold heads lin
  rw [e1, e3]
  refine mixed_congr u _ (fun e => ?_) (fun e => crows_at x2 r0 hc (x 2) _ (hr _) e) (fun e => crows_at x3 r0 hc (x 2) _ (hr _) e)
  exact congrArg (fun p : EReal => p * _) (Finset.sum_congr rfl fun k _ =>
    congrArg₂ (fun p q : EReal => p * q) (zrows_at Z r0 hz (x 2) _ (hr _) k) (right_at x1 k e))

variable (m : (ℓ : Loc nD τ sig) → Buf (Elt Ideal) ℓ)

/-- The body's condition for leaving the heads as they are: the last three points. -/
theorem sel : ∀ t : Fin cfg0.N, Scalar.cmpi .sge (BitVec.ofNat 32 (grid0.coords t 0).val) 15#32 = if 15 ≤ t.val then 1#1 else 0#1 :=
  (by decide +kernel : ∀ t : Fin grid0.N, Scalar.cmpi .sge (BitVec.ofNat 32 (grid0.coords t 0).val) 15#32 = if 15 ≤ t.val then 1#1 else 0#1)

/-- What the first point leaves of the codes: every activation's code. -/
theorem at5_A (c : Dev nD) (t : Fin cfg0.N) (h : t.val % 18 = 0) (y : S2048x3072.Idx) :
    (outsAt0 m c t.val t.isLt).2 y = code (iblk m c 0 t y) := by
  rw [outsAt0_A m c t h]
  frame_open
  frame_out
  idx_vars y
  pointwise [k0_pay6]
  rfl

/-- What a later point leaves of the codes: what the point before left. -/
theorem at5_B (c : Dev nD) (t : Fin cfg0.N) (h : ¬ t.val % 18 = 0) :
    (outsAt0 m c t.val t.isLt).2 = (outsAt0 m c (t.val - 1) (lt_of_le_of_lt (Nat.sub_le _ _) t.isLt)).2 := by
  rw [outsAt0_B m c t h]
  rfl

/-- What a point leaves of the heads: the block of the codes it leaves. -/
theorem at4 (c : Dev nD) (t : Fin cfg0.N) (y : S2x2x1024x128.Idx) : (outsAt0 m c t.val t.isLt).1 y
    = heads (15 ≤ t.val) (outsAt0 m c t.val t.isLt).2 (iblk m c 1 t) (iblk m c 2 t) (iblk m c 3 t) (y 0) (y 1) (y 2) (y 3) := by
  by_cases h : t.val % 18 = 0
  · have hZ : (outsAt0 m c t.val t.isLt).2 = k0_pay6 (F := Ideal) (iblk m c 0 t) := by
      funext y
      rw [outsAt0_A m c t h]
      frame_open
      frame_out
    rw [hZ, outsAt0_A m c t h]
    frame_open
    simp (disch := decide) only [↓ View.readCov_skip, ↓ View.readCov_cons_toLoadRect, ↓ View.readCov_fill]
    frame_out
    generalize k0_pay6 (F := Ideal) _ = Z
    canon_tiles x h
    case piece0 => exact piece_second _ _ _ (sel t) Z _ _ _ 1 512 1536 _ _ rfl rfl x y (by omega) (by omega) (by omega) (by omega)
    case piece1 => exact piece_first _ _ _ (sel t) Z _ _ _ 1 512 1536 _ _ rfl rfl x y (by omega) (by omega) (by omega) (by omega)
    case piece2 => exact piece_second _ _ _ (sel t) Z _ _ _ 1 0 1024 _ _ rfl rfl x y (by omega) (by omega) (by omega) (by omega)
    case piece3 => exact piece_first _ _ _ (sel t) Z _ _ _ 1 0 1024 _ _ rfl rfl x y (by omega) (by omega) (by omega) (by omega)
    case piece4 => exact piece_second _ _ _ (sel t) Z _ _ _ 0 512 512 _ _ rfl rfl x y (by omega) (by omega) (by omega) (by omega)
    case piece5 => exact piece_first _ _ _ (sel t) Z _ _ _ 0 512 512 _ _ rfl rfl x y (by omega) (by omega) (by omega) (by omega)
    case piece6 => exact piece_second _ _ _ (sel t) Z _ _ _ 0 0 0 _ _ rfl rfl x y (by omega) (by omega) (by omega) (by omega)
    case piece7 => exact piece_first _ _ _ (sel t) Z _ _ _ 0 0 0 _ _ rfl rfl x y (by omega) (by omega) (by omega) (by omega)
  · rw [at5_B m c t h, outsAt0_B m c t h]
    generalize (outsAt0 m c (t.val - 1) _).2 = Z
    frame_open
    simp (disch := decide) only [↓ View.readCov_skip, ↓ View.readCov_cons_toLoadRect, ↓ View.readCov_fill]
    frame_out
    canon_tiles x h
    case piece0 => exact piece_second _ _ _ (sel t) Z _ _ _ 1 512 1536 _ _ rfl rfl x y (by omega) (by omega) (by omega) (by omega)
    case piece1 => exact piece_first _ _ _ (sel t) Z _ _ _ 1 512 1536 _ _ rfl rfl x y (by omega) (by omega) (by omega) (by omega)
    case piece2 => exact piece_second _ _ _ (sel t) Z _ _ _ 1 0 1024 _ _ rfl rfl x y (by omega) (by omega) (by omega) (by omega)
    case piece3 => exact piece_first _ _ _ (sel t) Z _ _ _ 1 0 1024 _ _ rfl rfl x y (by omega) (by omega) (by omega) (by omega)
    case piece4 => exact piece_second _ _ _ (sel t) Z _ _ _ 0 512 512 _ _ rfl rfl x y (by omega) (by omega) (by omega) (by omega)
    case piece5 => exact piece_first _ _ _ (sel t) Z _ _ _ 0 512 512 _ _ rfl rfl x y (by omega) (by omega) (by omega) (by omega)
    case piece6 => exact piece_second _ _ _ (sel t) Z _ _ _ 0 0 0 _ _ rfl rfl x y (by omega) (by omega) (by omega) (by omega)
    case piece7 => exact piece_first _ _ _ (sel t) Z _ _ _ 0 0 0 _ _ rfl rfl x y (by omega) (by omega) (by omega) (by omega)

end Cert.KQkvIdeal.Hand
-- ==== Proof.QkvValue.lean ====
module

public import proofs.«01_k».proof.Proof.QkvBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KQkvIdeal.Hand
open Cert.KQkvIdeal Cert.KQkvIdeal.Gen Cert.Qkv

variable (m : (ℓ : Loc nD τ sig) → Buf (Elt Ideal) ℓ)

/-- The blocks the points stage: two heads of the weights and of the result at a time, the other arrays whole. -/
theorem idx : ∀ t : Fin cfg0.N, win0_0.index t = ![0, 0] ∧ win0_1.index t = ![t.val, 0, 0] ∧ win0_2.index t = ![0, 0]
    ∧ win0_3.index t = ![0, 0] ∧ win0_4.index t = ![0, t.val, 0, 0] ∧ win0_5.index t = ![0, 0] :=
  (by decide +kernel : ∀ t : Fin grid0.N, _)

/-- The activations' rows. -/
theorem V_v0 (c : Dev nD) : V m c main_v0 = shapeCast S2048x3072 (m ((c : Thread nD τ).loc main_arg0)) shapeCasts_S2x1024x3072_S2048x3072 := by
  entry_read
  rfl

/-- The weights, heads first. -/
theorem V_v1 (c : Dev nD) : V m c main_v1
    = transpose S36x3072x128 [1, 0, 2] (m ((c : Thread nD τ).loc main_arg1)) transposes_S3072x36x128_S36x3072x128_1_0_2 := by
  entry_read
  rfl

/-- The cosines for a whole head, one row for each token. -/
def cosRows (C : FVec Ideal S2x1024x64 .f32) : FVec Ideal S2048x128 .f32 :=
  shapeCast S2048x128 (concatenate S2x1024x128 2 [⟨S2x1024x64, C⟩, ⟨S2x1024x64, C⟩] concatenates_S2x1024x64_S2x1024x64_S2x1024x128_d2)
    shapeCasts_S2x1024x128_S2048x128

/-- The signed sines for a whole head, one row for each token. -/
def sinRows (S : FVec Ideal S2x1024x64 .f32) : FVec Ideal S2048x128 .f32 :=
  Host.negf (shapeCast S2048x128 (concatenate S2x1024x128 2 [⟨S2x1024x64, S⟩, ⟨S2x1024x64, Host.negf S⟩]
    concatenates_S2x1024x64_S2x1024x64_S2x1024x128_d2) shapeCasts_S2x1024x128_S2048x128)

/-- The cosines the call reads. -/
theorem V_v5 (c : Dev nD) : V m c main_v5 = cosRows (m ((c : Thread nD τ).loc main_arg2)) := by
  entry_read
  rfl

/-- The signed sines the call reads. -/
theorem V_v7 (c : Dev nD) : V m c main_v7 = sinRows (m ((c : Thread nD τ).loc main_arg3)) := by
  entry_read
  rfl

/-- A matrix of two batches' rows, entry by entry. -/
theorem flatX (Y : FVec Ideal S2x1024x3072 .bf16) (r : Fin 2048) (k : Fin 3072) (b : Fin 2) (s : Fin 1024) (hr : r.val = b.val * 1024 + s.val) :
    shapeCast S2048x3072 Y shapeCasts_S2x1024x3072_S2048x3072 (ix2 r k) = Y (ix3 b s k) := by
  pointwise
  blk_ext []

/-- The weights, heads first, entry by entry. -/
theorem flatW (Y : FVec Ideal S3072x36x128 .fp8e4m3) (n : Fin 36) (k : Fin 3072) (d : Fin 128) :
    transpose S36x3072x128 [1, 0, 2] Y transposes_S3072x36x128_S36x3072x128_1_0_2 (ix3 n k d) = Y (ix3 k n d) := by
  pointwise

/-- A cosine of the whole head is the half head's. -/
theorem cos_at (C : FVec Ideal S2x1024x64 .f32) (r : Fin 2048) (d : Fin 128) (b : Fin 2) (s : Fin 1024) (hr : r.val = b.val * 1024 + s.val) :
    cosRows C (ix2 r d) = C (ix3 b s (half d)) := by
  unfold half
  pointwise [cosRows]
  by_cases hd : d.val < 64
  · rw [dif_pos hd]
    blk_ext []
  · rw [dif_neg hd]
    blk_ext []

/-- A signed sine of the whole head is the half head's, negated in the first half. -/
theorem sin_at (S : FVec Ideal S2x1024x64 .f32) (r : Fin 2048) (d : Fin 128) (b : Fin 2) (s : Fin 1024) (hr : r.val = b.val * 1024 + s.val) :
    sinRows S (ix2 r d) = if d.val < 64 then -(S (ix3 b s (half d)) : EReal) else S (ix3 b s (half d)) := by
  unfold half
  pointwise [sinRows]
  by_cases hd : d.val < 64
  · rw [dif_pos hd, if_pos hd]
    refine congrArg (fun x : EReal => -x) ?_
    blk_ext []
  · rw [dif_neg hd, if_neg hd]
    refine (neg_neg (_ : EReal)).trans ?_
    blk_ext []

/-- The block of the activations is the activations. -/
theorem iblk0 (c : Dev nD) (t : Fin cfg0.N) (z : S2048x3072.Idx) : iblk m c 0 t z = (V m c main_v0 : FVec Ideal S2048x3072 .bf16) z := by
  blk_ext [iblk, idx t]

/-- The block of the weights is two heads. -/
theorem iblk1 (c : Dev nD) (t : Fin cfg0.N) (h : Fin 2) (k : Fin 3072) (d : Fin 128) (n : Fin 36) (hn : n.val = t.val * 2 + h.val) :
    iblk m c 1 t (ix3 h k d) = (V m c main_v1 : FVec Ideal S36x3072x128 .fp8e4m3) (ix3 n k d) := by
  blk_ext [iblk, idx t]

/-- The block of the cosines is the cosines. -/
theorem iblk2 (c : Dev nD) (t : Fin cfg0.N) (z : S2048x128.Idx) : iblk m c 2 t z = (V m c main_v5 : FVec Ideal S2048x128 .f32) z := by
  blk_ext [iblk, idx t]

/-- The block of the signed sines is the signed sines. -/
theorem iblk3 (c : Dev nD) (t : Fin cfg0.N) (z : S2048x128.Idx) : iblk m c 3 t z = (V m c main_v7 : FVec Ideal S2048x128 .f32) z := by
  blk_ext [iblk, idx t]

/-- After every point the codes are those of the activations. -/
theorem codes (c : Dev nD) : ∀ (n : ℕ) (hn : n < cfg0.N), (outsAt0 m c n hn).2 = REFcodes (m ((c : Thread nD τ).loc main_arg0))
  | 0, hn => by
    funext y
    rw [at5_A m c ⟨0, hn⟩ rfl y, iblk0, V_v0]
    idx_vars y
    exact congrArg code (flatX _ _ _ _ _ (by show y0.val = y0.val / 1024 * 1024 + y0.val % 1024; omega))
  | n + 1, hn => by
    have h18 : n + 1 < 18 := lt_of_lt_of_eq hn N_0
    rw [at5_B m c ⟨n + 1, hn⟩ (by dsimp only; omega)]
    exact codes c n _

/-- A head's channel: turning by the signed sines is turning by the sines. -/
theorem mixed_turn (u : Prop) [Decidable u] (q : Prop) [Decidable q] (huq : u ↔ ¬ q) (v : Fin 128 → EReal) (c s : Fin 64 → EReal) (d : Fin 128) :
    mixed u v (fun e => c (half e)) (fun e => if e.val < 64 then -(s (half e)) else s (half e)) d = if q then turn v c s d else v d := by
  unfold mixed turn
  by_cases hq : q
  · rw [if_neg (by rw [huq]; exact not_not.mpr hq), if_pos hq]
    by_cases hd : d.val < 64
    · simp only [if_pos hd]
      rw [mul_neg, sub_eq_add_neg]
    · simp only [if_neg hd]
  · rw [if_pos (huq.mpr hq), if_neg hq]

/-- The heads of a block are the reference's, as functions of the argument arrays. -/
theorem heads_ref (c : Dev nD) (t : Fin cfg0.N) (b h : Fin 2) (s : Fin 1024) (d : Fin 128) (n : Fin 36) (hn : n.val = t.val * 2 + h.val) :
    heads (15 ≤ t.val) (REFcodes (m ((c : Thread nD τ).loc main_arg0))) (iblk m c 1 t) (iblk m c 2 t) (iblk m c 3 t) b h s d
      = REFrot (m ((c : Thread nD τ).loc main_arg0)) (m ((c : Thread nD τ).loc main_arg1)) (m ((c : Thread nD τ).loc main_arg2))
          (m ((c : Thread nD τ).loc main_arg3)) (ix4 b n s d) := by
  refine Eq.trans ?_ (mixed_turn (15 ≤ t.val) (n.val < 30) (by omega) _ _ _ d)
  unfold heads
  refine mixed_congr _ d (fun e => ?_) (fun e => ?_) (fun e => ?_)
  · refine congrArg (fun p : EReal => p * _) (Finset.sum_congr rfl fun k _ => congrArg₂ (fun p q : EReal => p * q) ?_ ?_)
    · unfold REFcodes
      refine congrArg (fun z => code (m ((c : Thread nD τ).loc main_arg0) z)) ?_
      blk_ext []
    · rw [iblk1 m c t h k e n hn, V_v1]
      exact flatW _ _ _ _
  · rw [iblk2, V_v5]
    exact cos_at _ _ _ _ _ rfl
  · rw [iblk3, V_v7]
    exact sin_at _ _ _ _ _ rfl

/-- The heads: the kernel's array is the reference's function of the argument arrays. -/
theorem final4 (c : Dev nD) : (dats m 0 c).arrAt 4 (cfgs 0).N
    = REFrot (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have e0 : ((((cfg0.win 4).blk t).view.emb y) 0 : ℕ) = (y 0 : ℕ) := by
    blk_simp [idx t] <;> try omega
  have e1 : ((((cfg0.win 4).blk t).view.emb y) 1 : ℕ) = t.val * 2 + (y 1 : ℕ) := by
    blk_simp [idx t] <;> try omega
  have e2 : ((((cfg0.win 4).blk t).view.emb y) 2 : ℕ) = (y 2 : ℕ) := by
    blk_simp [idx t] <;> try omega
  have e3 : ((((cfg0.win 4).blk t).view.emb y) 3 : ℕ) = (y 3 : ℕ) := by
    blk_simp [idx t] <;> try omega
  generalize ((cfg0.win 4).blk t).view.emb y = j at *
  blk_simp
  rw [after0_4, at4, codes]
  refine (heads_ref m c t (y 0) (y 1) (y 2) (y 3) (j 1) e1).trans (congrArg _ ?_)
  funext d; apply Fin.ext; fin_cases d
  · exact e0.symm
  · rfl
  · exact e2.symm
  · exact e3.symm

/-- The last point. -/
abbrev tLast : Fin cfg0.N := ⟨17, by decide +kernel⟩

/-- The codes: the kernel's array is the reference's function of the argument array. -/
theorem final5 (c : Dev nD) : (dats m 0 c).arrAt 5 (cfgs 0).N = REFcodes (m ((c : Thread nD τ).loc main_arg0)) := by
  refine (dats m 0 c).arrAt_eq_of_after_last 5 tLast (by decide +kernel) _ fun y => ?_
  have e0 : ((((cfg0.win 5).blk tLast).view.emb y) 0 : ℕ) = (y 0 : ℕ) := by
    blk_simp [idx tLast] <;> try omega
  have e1 : ((((cfg0.win 5).blk tLast).view.emb y) 1 : ℕ) = (y 1 : ℕ) := by
    blk_simp [idx tLast] <;> try omega
  generalize ((cfg0.win 5).blk tLast).view.emb y = j at *
  blk_simp
  rw [after0_5, codes]

end Cert.KQkvIdeal.Hand
-- ==== Proof.QkvRuns.lean ====
module

public import proofs.«01_k».proof.Proof.QkvRef
public import proofs.«01_k».proof.Proof.QkvValue
public import Idealize.ShloMosaic.Lib.Claim

@[expose] public section

noncomputable section

open Idealize.ShloMosaic Idealize.ShloMosaic.TcCoe Idealize.SL.Sem

namespace Cert.KQkvIdeal.Hand
open Cert.KQkvIdeal Cert.KQkvIdeal.Gen Cert.Qkv

/-- Every run ends with the two results at their values and the four arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = REFrot (m ((c : Thread nD τ).loc main_arg0)) (m ((c : Thread nD τ).loc main_arg1)) (m ((c : Thread nD τ).loc main_arg2)) (m ((c : Thread nD τ).loc main_arg3)) ∧
      r.2.mem ((c.tc : Thread nD τ).loc main_v8_1) = REFcodes (m ((c : Thread nD τ).loc main_arg0)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) := by
  refine θ_run_mono (θ_run_and (Hand.run_main m g) (Hand.unchanged m g)) fun r h c => ?_
  obtain ⟨hr, hu⟩ := h
  exact ⟨((hr c).1 4).trans (final4 m c), ((hr c).1 5).trans (final5 m c), hu c⟩

end Cert.KQkvIdeal.Hand

namespace Cert.RQkvIdeal.Hand
open Cert.RQkvIdeal Cert.RQkvIdeal.Gen Cert.Qkv

/-- Every run ends with the two results at their values and the four arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = REFrot (m ((c : Thread nD τ).loc main_arg0)) (m ((c : Thread nD τ).loc main_arg1)) (m ((c : Thread nD τ).loc main_arg2)) (m ((c : Thread nD τ).loc main_arg3)) ∧
      r.2.mem ((c.tc : Thread nD τ).loc main_v2_1) = REFcodes (m ((c : Thread nD τ).loc main_arg0)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) := by
  refine θ_run_mono (θ_run_and (Gen.run_main m g) (Gen.unchanged m g)) fun r h c => ?_
  obtain ⟨hr, hu⟩ := h
  exact ⟨((hr c).1 4).trans (final4 m c), ((hr c).1 5).trans (final5 m c), hu c⟩

end Cert.RQkvIdeal.Hand
-- ==== Proof.FwdMath.lean ====
/- One row of causal attention whose weights are normalised by the square root of a sum, stated twice and shown equal:
   over all keys with the hidden ones at minus infinity, and over the first keys only with the scores halved beforehand. -/
module

public import Idealize.ShloMosaic.Lib.IdealHost
public import Idealize.ShloMosaic.Lib.ValueIdx

@[expose] public section

set_option maxRecDepth 16384

noncomputable section

open Idealize.ShloMosaic Idealize.ShloMosaic.TcCoe Idealize.SL.Sem

namespace Cert.Fwd

/-- One half, as the literal writes it. -/
abbrev half : EReal := Ideal.ofBits .f32 0x3F000000#32

/-- Two, as the literal writes it. -/
abbrev two : EReal := Ideal.ofBits .f32 0x40000000#32

/-- Minus infinity, as the literal writes it. -/
abbrev ninf : EReal := Ideal.ofBits .f32 0xFF800000#32

/-- The scale of the scores, in powers of two. -/
abbrev cfull : EReal := Ideal.ofBits .f32 0x3E0293EE#32

/-- Half that scale. -/
abbrev chalf : EReal := Ideal.ofBits .f32 0x3D8293EE#32

theorem half_eq : half = ((1 / 2 : ℝ) : EReal) := by
  simp [half, Ideal.ofBits, Ideal.ieee, -EReal.coe_mul]
  norm_num

theorem two_eq : two = ((2 : ℝ) : EReal) := by
  simp [two, Ideal.ofBits, Ideal.ieee, -EReal.coe_mul]
  norm_num

theorem ninf_eq : ninf = ⊥ := by
  simp [ninf, Ideal.ofBits, Ideal.ieee]

/-- The one scale is exactly half the other. -/
theorem chalf_eq : chalf = cfull * half := by
  rw [half_eq]
  simp [chalf, cfull, Ideal.ofBits, Ideal.ieee]
  norm_cast
  norm_num

/-! ## The row over all keys -/

/-- The reference point of a row of scores: an even integer at least the largest. -/
def rmax (a : Fin 1024 → EReal) : EReal := two * Ideal.liftRound Int.ceil (half * Finset.fold max ninf a Finset.univ)

/-- The row's weights times a channel of the values, over the square root of the sum of the weights' squares. -/
def rrow (a v : Fin 1024 → EReal) : EReal :=
  Ideal.div (∑ t, Ideal.pow two ((a t - rmax a) * half) * v t) (Ideal.sqrt (∑ t, Ideal.pow two (a t - rmax a)))

/-! ## The row over the first keys -/

/-- The reference point of a row of halved scores. -/
def kmax {n : ℕ} (a : Fin n → EReal) : EReal := Ideal.liftRound Int.ceil (Finset.fold max ninf a Finset.univ)

/-- The same quotient from the halved scores of the first keys. -/
def krow {n : ℕ} (a v : Fin n → EReal) : EReal :=
  Ideal.div (∑ t, v t * Ideal.exp2 (a t - kmax a)) (Ideal.sqrt (∑ t, Ideal.exp2 (a t - kmax a) * Ideal.exp2 (a t - kmax a)))

/-! ## They agree -/

/-- Two to a power. -/
theorem pow_two (x : EReal) : Ideal.pow two x = Ideal.exp2 x := by
  rw [two_eq]
  cases x with
  | bot => show (if (2 : ℝ) < 0 then (⊥ : EReal) else if (1 : ℝ) < 2 then 0 else if (2 : ℝ) = 1 then 1 else ⊤) = 0; norm_num
  | top => show (if (2 : ℝ) < 0 then (⊥ : EReal) else if (1 : ℝ) < 2 then ⊤ else if (2 : ℝ) = 1 then 1 else 0) = ⊤; norm_num
  | coe r => rfl

theorem half_mul_two (x : EReal) : x * half * two = x := by
  rw [mul_assoc, half_eq, two_eq, ← EReal.coe_mul]
  norm_num

theorem two_mul_half (x : EReal) : two * x * half = x := by
  rw [mul_comm two x, mul_assoc, half_eq, two_eq, ← EReal.coe_mul]
  norm_num

/-- Halving distributes over a difference. -/
theorem sub_half (x y : EReal) : (x - y) * half = x * half - y * half := by
  rw [half_eq, sub_eq_add_neg, sub_eq_add_neg, EReal.right_distrib_of_nonneg_of_ne_top (by exact_mod_cast (by norm_num : (0 : ℝ) ≤ 1 / 2)) (EReal.coe_ne_top _), EReal.neg_mul]

/-- The square of a power of two, from half the exponent. -/
theorem exp2_sq (x : EReal) : Ideal.exp2 (x * half) * Ideal.exp2 (x * half) = Ideal.exp2 x := by
  rw [half_eq]
  cases x with
  | bot => rw [EReal.bot_mul_coe_of_pos (by norm_num)]; simp
  | top => rw [EReal.top_mul_coe_of_pos (by norm_num)]; simp
  | coe r =>
    rw [← EReal.coe_mul, Ideal.exp2_coe, Ideal.exp2_coe, ← EReal.coe_mul]
    congr 1
    show (2 : ℝ) ^ (r * (1 / 2)) * (2 : ℝ) ^ (r * (1 / 2)) = (2 : ℝ) ^ r
    rw [← Real.rpow_add (by norm_num)]
    congr 1
    ring

/-- Halving keeps the larger of two. -/
theorem max_half (x y : EReal) : max x y * half = max (x * half) (y * half) := by
  have hm : Monotone fun z : EReal => z * half := fun a b h =>
    mul_le_mul_of_nonneg_right h (by rw [half_eq]; exact_mod_cast (by norm_num : (0 : ℝ) ≤ 1 / 2))
  exact hm.map_max

theorem ninf_half : ninf * half = ninf := by
  rw [ninf_eq, half_eq, EReal.bot_mul_coe_of_pos (by norm_num)]

/-- The largest of a family is its least upper bound. -/
theorem fold_eq_sup {ι : Type} (s : Finset ι) (a : ι → EReal) : Finset.fold max ninf a s = s.sup a := by
  rw [ninf_eq]
  rfl

/-- The largest of the halved scores of the first keys is half the largest of all, the others being minus infinity. -/
theorem fold_half {n : ℕ} (hn : n ≤ 1024) (a : Fin 1024 → EReal) (a' : Fin n → EReal)
    (h : ∀ t : Fin n, a' t = a (t.castLE hn) * half) (h' : ∀ t : Fin 1024, n ≤ t.val → a t = ⊥) :
    Finset.fold max ninf a' Finset.univ = half * Finset.fold max ninf a Finset.univ := by
  rw [fold_eq_sup, fold_eq_sup, mul_comm]
  have hb : (Finset.univ.sup a) * half = Finset.univ.sup fun t => a t * half :=
    Finset.comp_sup_eq_sup_comp (fun x : EReal => x * half) max_half (by rw [← ninf_eq]; exact ninf_half)
  rw [hb]
  apply le_antisymm
  · refine Finset.sup_le fun t _ => ?_
    rw [h t]
    exact Finset.le_sup (f := fun t => a t * half) (Finset.mem_univ _)
  · refine Finset.sup_le fun t _ => ?_
    by_cases ht : t.val < n
    · have e := h ⟨t.val, ht⟩
      rw [show a t * half = a' ⟨t.val, ht⟩ from e.symm]
      exact Finset.le_sup (Finset.mem_univ _)
    · rw [h' t (by omega), ← ninf_eq, ninf_half, ninf_eq]
      exact bot_le

/-- A sum over all keys whose terms vanish past the first ones. -/
theorem sum_first {n : ℕ} (hn : n ≤ 1024) (f : Fin 1024 → EReal) (h : ∀ t : Fin 1024, n ≤ t.val → f t = 0) :
    ∑ t, f t = ∑ t : Fin n, f (t.castLE hn) := by
  rw [show (∑ t : Fin n, f (t.castLE hn)) = ∑ t ∈ Finset.univ.map (Fin.castLEEmb hn), f t from
    (Finset.sum_map Finset.univ (Fin.castLEEmb hn) f).symm]
  refine (Finset.sum_subset (Finset.subset_univ _) fun t _ ht => h t ?_).symm
  by_contra hc
  exact ht (Finset.mem_map.mpr ⟨⟨t.val, by omega⟩, Finset.mem_univ _, Fin.ext rfl⟩)

/-- The two statements of a row agree. -/
theorem row_eq {n : ℕ} (hn : n ≤ 1024) (a v : Fin 1024 → EReal) (a' v' : Fin n → EReal)
    (h : ∀ t : Fin n, a' t = a (t.castLE hn) * half) (h' : ∀ t : Fin 1024, n ≤ t.val → a t = ⊥)
    (hv : ∀ t : Fin n, v' t = v (t.castLE hn)) : krow a' v' = rrow a v := by
  have hM : rmax a * half = kmax a' := by
    unfold rmax kmax
    rw [two_mul_half, fold_half hn a a' h h']
  have hz : ∀ t : Fin 1024, n ≤ t.val → Ideal.exp2 (a t - rmax a) = 0 := fun t ht => by
    rw [h' t ht, sub_eq_add_neg, EReal.bot_add, Ideal.exp2_bot]
  have hz' : ∀ t : Fin 1024, n ≤ t.val → Ideal.exp2 ((a t - rmax a) * half) = 0 := fun t ht => by
    rw [h' t ht, sub_eq_add_neg, EReal.bot_add, ← ninf_eq, ninf_half, ninf_eq, Ideal.exp2_bot]
  have he : ∀ t : Fin n, Ideal.exp2 (a' t - kmax a') = Ideal.exp2 ((a (t.castLE hn) - rmax a) * half) := fun t => by
    rw [sub_half, hM, h t]
  unfold krow rrow
  simp only [pow_two]
  rw [sum_first hn (fun t => Ideal.exp2 ((a t - rmax a) * half) * v t) (fun t ht => by rw [hz' t ht, zero_mul]),
    sum_first hn (fun t => Ideal.exp2 (a t - rmax a)) hz]
  simp only [he, hv, exp2_sq]
  congr 1
  exact Finset.sum_congr rfl fun t _ => mul_comm _ _

end Cert.Fwd
-- ==== Proof.FwdRef.lean ====
/- The attention forward step's reference: its three results as functions of the projected heads, index by index. -/
module

public import proofs.«01_k».proof.Proof.FwdMath
public import proofs.«01_k».proof.Proof.Gen.RFwdIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fwd

/-- The scores of the query at position `s` of head `h`: scaled where the key is not after the query, minus infinity
    elsewhere. Four heads of queries share one head of keys. -/
def score (Q : FVec Ideal Cert.RFwdIdeal.S2x36x1024x128 .bf16) (b : Fin 2) (h : Fin 24) (s t : Fin 1024) : EReal :=
  if t.val ≤ s.val then
    (∑ d : Fin 128, (Q (ix4 b (⟨h.val, by omega⟩ : Fin 36) s d) : EReal) * (Q (ix4 b (⟨24 + h.val / 4, by omega⟩ : Fin 36) t d) : EReal)) * cfull
  else ninf

/-- Channel `d` of the values that head `h` of the queries uses. -/
def value (Q : FVec Ideal Cert.RFwdIdeal.S2x36x1024x128 .bf16) (b : Fin 2) (h : Fin 24) (d : Fin 128) (t : Fin 1024) : EReal :=
  Q (ix4 b (⟨30 + h.val / 4, by omega⟩ : Fin 36) t d)

/-- The attention output. -/
def REFo (Q : FVec Ideal Cert.RFwdIdeal.S2x36x1024x128 .bf16) : FVec Ideal Cert.RFwdIdeal.S2x24x1024x128 .f32 :=
  fun j => rrow (score Q (j 0) (j 1) (j 2)) (value Q (j 0) (j 1) (j 3))

/-- The attention output in the shorter format. -/
def REFb (Q : FVec Ideal Cert.RFwdIdeal.S2x36x1024x128 .bf16) : FVec Ideal Cert.RFwdIdeal.S2x24x1024x128 .bf16 :=
  fun j => REFo Q j

/-- Small naturals compare as they do before they are written in 32 bits. -/
theorem sle_small (a b : ℕ) (ha : a < 4096) (hb : b < 4096) : IntOp.cmpi .sle (BitVec.ofNat 32 a) (BitVec.ofNat 32 b) = if a ≤ b then 1#1 else 0#1 := by
  have e1 : (BitVec.ofNat 32 a).toInt = (a : Int) := by simp [BitVec.toInt_ofNat', Int.bmod_def]; omega
  have e2 : (BitVec.ofNat 32 b).toInt = (b : Int) := by simp [BitVec.toInt_ofNat', Int.bmod_def]; omega
  simp only [IntOp.cmpi, BitVec.sle, e1, e2]
  by_cases h : a ≤ b <;> simp [h]

/-- A value kept within the range of the fp8 format. -/
def code (x : EReal) : EReal := min (Ideal.ofBits .f32 0x43E00000#32) (max (Ideal.ofBits .f32 0xC3E00000#32) x)

/-- The attention output's codes. -/
def REFc (Q : FVec Ideal Cert.RFwdIdeal.S2x36x1024x128 .bf16) : FVec Ideal Cert.RFwdIdeal.S2x24x1024x128 .fp8e4m3 :=
  fun j => code (REFo Q j)

end Cert.Fwd

namespace Cert.RFwdIdeal.Hand
open Cert.RFwdIdeal Cert.RFwdIdeal.Gen Cert.Fwd

variable (m : (ℓ : Loc nD τ sig) → Buf (Elt Ideal) ℓ)

/-! ## The host lines, in stages -/

/-- The hidden and scaled scores. -/
def hS (Q : FVec Ideal S2x36x1024x128 .bf16) : FVec Ideal S2x6x4x1024x1024 .f32 :=
  select (broadcastInDim S2x6x4x1024x1024 ![3, 4] bcast_S1024x1024_S2x6x4x1024x1024_3_4
      (cmpi .sle (broadcastInDim S1024x1024 ![0, 1] bcast_S1x1024_S1024x1024_0_1 (broadcastInDim S1x1024 ![1] bcast_S1024_S1x1024_1 (iotaInDim S1024 32 0)))
        (broadcastInDim S1024x1024 ![0, 1] bcast_S1024x1_S1024x1024_0_1 (broadcastInDim S1024x1 ![0] bcast_S1024_S1024x1_0 (iotaInDim S1024 32 0)))))
    (mulf (Host.dotGeneral dot_S2x6x4x1024x128_S2x6x1024x128_S2x6x4x1024x1024_4_3_23_2_01_01 none
        (shapeCast S2x6x4x1024x128 (extractStridedSlice S2x24x1024x128 ![0, 0, 0, 0] Q slices_S2x36x1024x128_S2x24x1024x128_0_0_0_0) shapeCasts_S2x24x1024x128_S2x6x4x1024x128)
        (extractStridedSlice S2x6x1024x128 ![0, 24, 0, 0] Q slices_S2x36x1024x128_S2x6x1024x128_0_24_0_0))
      (broadcastInDim S2x6x4x1024x1024 ![] bcast_S_S2x6x4x1024x1024 (constant (F := Ideal) S_ .f32 0x3E0293EE#32)))
    (broadcastInDim S2x6x4x1024x1024 ![] bcast_S_S2x6x4x1024x1024 (constant (F := Ideal) S_ .f32 0xFF800000#32))

/-- The rows' largest scores. -/
def hR (X : FVec Ideal S2x6x4x1024x1024 .f32) : FVec Ideal S2x6x4x1024 .f32 :=
  Host.reduce FloatOps.maximumf X (constant (F := Ideal) S_ .f32 0xFF800000#32) reducesTo_S2x6x4x1024x1024_S2x6x4x1024_d4 h_S_

/-- The rows' reference points. -/
def hM (X : FVec Ideal S2x6x4x1024x1024 .f32) : FVec Ideal S2x6x4x1024x1 .f32 :=
  mulf (broadcastInDim S2x6x4x1024x1 ![] bcast_S_S2x6x4x1024x1 (constant (F := Ideal) S_ .f32 0x40000000#32))
    (Host.ceil (mulf (broadcastInDim S2x6x4x1024x1 ![] bcast_S_S2x6x4x1024x1 (constant (F := Ideal) S_ .f32 0x3F000000#32))
      (broadcastInDim S2x6x4x1024x1 ![0, 1, 2, 3] bcast_S2x6x4x1024_S2x6x4x1024x1_0_1_2_3 (hR X))))

/-- The scores less the reference points. -/
def hT (X : FVec Ideal S2x6x4x1024x1024 .f32) : FVec Ideal S2x6x4x1024x1024 .f32 :=
  subf X (broadcastInDim S2x6x4x1024x1024 ![0, 1, 2, 3, 4] bcast_S2x6x4x1024x1_S2x6x4x1024x1024_0_1_2_3_4 (hM X))

/-- The weights, before their division. -/
def hE (X : FVec Ideal S2x6x4x1024x1024 .f32) : FVec Ideal S2x6x4x1024x1024 .f32 :=
  Host.powf (broadcastInDim S2x6x4x1024x1024 ![] bcast_S_S2x6x4x1024x1024 (constant (F := Ideal) S_ .f32 0x40000000#32))
    (mulf (hT X) (broadcastInDim S2x6x4x1024x1024 ![] bcast_S_S2x6x4x1024x1024 (constant (F := Ideal) S_ .f32 0x3F000000#32)))

/-- The sums of their squares. -/
def hD (X : FVec Ideal S2x6x4x1024x1024 .f32) : FVec Ideal S2x6x4x1024 .f32 :=
  Host.reduceAdd (Host.powf (broadcastInDim S2x6x4x1024x1024 ![] bcast_S_S2x6x4x1024x1024 (constant (F := Ideal) S_ .f32 0x40000000#32)) (hT X))
    (constant (F := Ideal) S_ .f32 0x00000000#32) reducesTo_S2x6x4x1024x1024_S2x6x4x1024_d4 h_S_

/-- The attention output. -/
def hO (Q : FVec Ideal S2x36x1024x128 .bf16) : FVec Ideal S2x24x1024x128 .f32 :=
  shapeCast S2x24x1024x128 (Host.divf
    (Host.dotGeneral dot_S2x6x4x1024x1024_S2x6x1024x128_S2x6x4x1024x128_4_2_23_3_01_01 none (truncf .bf16 (hE (hS Q)) bitsLt_bf16_f32)
      (extractStridedSlice S2x6x1024x128 ![0, 30, 0, 0] Q slices_S2x36x1024x128_S2x6x1024x128_0_30_0_0))
    (broadcastInDim S2x6x4x1024x128 ![0, 1, 2, 3, 4] bcast_S2x6x4x1024x1_S2x6x4x1024x128_0_1_2_3_4
      (broadcastInDim S2x6x4x1024x1 ![0, 1, 2, 3] bcast_S2x6x4x1024_S2x6x4x1024x1_0_1_2_3 (Host.sqrt (hD (hS Q))))))
    shapeCasts_S2x6x4x1024x128_S2x24x1024x128

/-- The program's first result is the last stage. -/
theorem V_v40 (c : Dev nD) : V m c main_v40 = hO (m ((c : Thread nD τ).loc main_arg0)) := by
  entry_read
  rfl

/-- The second result is the first in the shorter format. -/
theorem V_v41 (c : Dev nD) : V m c main_v41 = (truncf .bf16 (hO (m ((c : Thread nD τ).loc main_arg0))) bitsLt_bf16_f32 : FVec Ideal S2x24x1024x128 .bf16) := by
  entry_read
  rfl

/-! ## The stages, entry by entry -/

/-- The scores. -/
theorem hS_at (Q : FVec Ideal S2x36x1024x128 .bf16) (b : Fin 2) (k : Fin 6) (g : Fin 4) (s t : Fin 1024) :
    hS Q (ix5 b k g s t) = score Q b ⟨k.val * 4 + g.val, by omega⟩ s t := by
  pointwise [hS]
  unfold score
  rw [sle_small _ _ (by omega) (by omega)]
  have e : (⟨24 + (k.val * 4 + g.val) / 4, by omega⟩ : Fin 36) = ⟨24 + k.val, by omega⟩ := Fin.ext (by dsimp only; omega)
  by_cases h : t.val ≤ s.val
  · rw [if_pos h, if_pos h]
    simp only [e]
    rfl
  · rw [if_neg h, if_neg h]
    rfl

/-- The largest scores. -/
theorem hR_at (X : FVec Ideal S2x6x4x1024x1024 .f32) (b : Fin 2) (k : Fin 6) (g : Fin 4) (s : Fin 1024) :
    hR X (ix4 b k g s) = Finset.fold max ninf (fun t => X (ix5 b k g s t)) Finset.univ := by
  unfold hR
  simp only [pointwise]

/-- An axis of length one put last. -/
theorem unit_last (R : FVec Ideal S2x6x4x1024 .f32) (b : Fin 2) (k : Fin 6) (g : Fin 4) (s : Fin 1024) (o : Fin 1) :
    broadcastInDim S2x6x4x1024x1 ![0, 1, 2, 3] bcast_S2x6x4x1024_S2x6x4x1024x1_0_1_2_3 R (ix5 b k g s o) = R (ix4 b k g s) := by
  pointwise

/-- Twice the least integers above. -/
theorem two_ceil_at (R : FVec Ideal S2x6x4x1024x1 .f32) (b : Fin 2) (k : Fin 6) (g : Fin 4) (s : Fin 1024) (o : Fin 1) :
    mulf (broadcastInDim S2x6x4x1024x1 ![] bcast_S_S2x6x4x1024x1 (constant (F := Ideal) S_ .f32 0x40000000#32)) (Host.ceil R) (ix5 b k g s o)
      = two * Ideal.liftRound Int.ceil (R (ix5 b k g s o)) := rfl

/-- Half of each. -/
theorem half_mul_at (R : FVec Ideal S2x6x4x1024x1 .f32) (b : Fin 2) (k : Fin 6) (g : Fin 4) (s : Fin 1024) (o : Fin 1) :
    mulf (broadcastInDim S2x6x4x1024x1 ![] bcast_S_S2x6x4x1024x1 (constant (F := Ideal) S_ .f32 0x3F000000#32)) R (ix5 b k g s o)
      = half * R (ix5 b k g s o) := rfl

/-- The reference points. -/
theorem hM_at (X : FVec Ideal S2x6x4x1024x1024 .f32) (b : Fin 2) (k : Fin 6) (g : Fin 4) (s : Fin 1024) (o : Fin 1) :
    hM X (ix5 b k g s o) = rmax (fun t => X (ix5 b k g s t)) := by
  unfold hM rmax
  rw [two_ceil_at, half_mul_at, unit_last, hR_at]

/-- The differences. -/
theorem hT_at (X : FVec Ideal S2x6x4x1024x1024 .f32) (b : Fin 2) (k : Fin 6) (g : Fin 4) (s t : Fin 1024) :
    hT X (ix5 b k g s t) = X (ix5 b k g s t) - rmax (fun t => X (ix5 b k g s t)) := by
  pointwise [hT, hM_at]

/-- The weights. -/
theorem hE_at (X : FVec Ideal S2x6x4x1024x1024 .f32) (b : Fin 2) (k : Fin 6) (g : Fin 4) (s t : Fin 1024) :
    hE X (ix5 b k g s t) = Ideal.pow two ((X (ix5 b k g s t) - rmax (fun t => X (ix5 b k g s t))) * half) := by
  pointwise [hE, hT_at]

/-- The sums. -/
theorem hD_at (X : FVec Ideal S2x6x4x1024x1024 .f32) (b : Fin 2) (k : Fin 6) (g : Fin 4) (s : Fin 1024) :
    hD X (ix4 b k g s) = ∑ t, Ideal.pow two (X (ix5 b k g s t) - rmax (fun t => X (ix5 b k g s t))) := by
  pointwise [hD, hT_at]

/-- The output. -/
theorem hO_at (Q : FVec Ideal S2x36x1024x128 .bf16) (b : Fin 2) (h : Fin 24) (s : Fin 1024) (d : Fin 128) :
    hO Q (ix4 b h s d) = rrow (score Q b h s) (value Q b h d) := by
  pointwise [hO, hE_at, hD_at, hS_at]
  have e : (⟨h.val / 4 * 4 + h.val % 4, by omega⟩ : Fin 24) = h := Fin.ext (by simp only []; omega)
  simp only [e]
  rfl

end Cert.RFwdIdeal.Hand
-- ==== Proof.FwdRun.lean ====
/- The body of the attention forward call (idealized program), run once at any grid point: its loop over the four heads of a
   group goes by the loop's invariant, and what it leaves in the output buffers is the list of the pieces of all trips. -/
module

public import proofs.«01_k».proof.Proof.Gen.KFwdIdeal.Frame
public import proofs.«01_k».proof.Proof.Gen.KFwdIdeal.Loops

@[expose] public section

-- membership in a rectangle of production extents (`View.cover_of_tiled`): the elaborator's structural look
-- recurses once per coordinate of the long axes
set_option maxRecDepth 16384

noncomputable section

namespace Cert.KFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KFwdIdeal Cert.KFwdIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 3, through which its contents are stated (`View.read_writes_of_cover`: the
    choice does not matter). -/
abbrev VO0_3 : View sig .tc .vmem S1x4x1024x128 .f32 := (Memref.whole cc0_stg3_0 : Memref sig .tc .vmem S1x4x1024x128 .f32).view
/-- One staging buffer of output window 4, through which its contents are stated (`View.read_writes_of_cover`: the
    choice does not matter). -/
abbrev VO0_4 : View sig .tc .vmem S1x4x1024x128 .bf16 := (Memref.whole cc0_stg4_0 : Memref sig .tc .vmem S1x4x1024x128 .bf16).view
/-- One staging buffer of output window 5, through which its contents are stated (`View.read_writes_of_cover`: the
    choice does not matter). -/
abbrev VO0_5 : View sig .tc .vmem S1x4x1024x128 .fp8e4m3 := (Memref.whole cc0_stg5_0 : Memref sig .tc .vmem S1x4x1024x128 .fp8e4m3).view
/-- One staging buffer of output window 6, through which its contents are stated (`View.read_writes_of_cover`: the
    choice does not matter). -/
abbrev VO0_6 : View sig .tc .vmem S1x24x1024 .f32 := (Memref.whole cc0_stg6_0 : Memref sig .tc .vmem S1x24x1024 .f32).view
/-- One staging buffer of output window 7, through which its contents are stated (`View.read_writes_of_cover`: the
    choice does not matter). -/
abbrev VO0_7 : View sig .tc .vmem S1x24x1024 .f32 := (Memref.whole cc0_stg7_0 : Memref sig .tc .vmem S1x24x1024 .f32).view
/-- Each window's current staging memref at point `t`, spelled as the pipeline passes it (`bodyAt0`), and its wholeness. -/
abbrev ms0_0 (t : Fin cfg0.N) : Memref sig .tc .vmem S1x4x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x24x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x24x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- The body run once on whole staging memrefs: the inputs at their contents, the outputs and the scratch at anything.
    It leaves the inputs as they were, the scratch at some contents, and each output with a list of pieces written into it;
    the lists are what the run finds. -/
noncomputable def kernelRun (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) :
    Σ' (L3 : List (View.Piece (Elt F) S1x4x1024x128 .f32)), Σ' (L4 : List (View.Piece (Elt F) S1x4x1024x128 .bf16)), Σ' (L5 : List (View.Piece (Elt F) S1x4x1024x128 .fp8e4m3)), Σ' (L6 : List (View.Piece (Elt F) S1x24x1024 .f32)), { L7 : List (View.Piece (Elt F) S1x24x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_attn_fwd i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_attn_fwd_eq_skeleton]; unfold cc0_attn_fwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

end Cert.KFwdIdeal.Hand

end
-- ==== Proof.FwdFrame.lean ====
/- The attention forward call (idealized program): what a grid point leaves in the three blocks of attention outputs, the
   proof data of its pipeline, and its run. The pieces of the four trips of the loop cover each block, so a block does not
   depend on what its buffer held. The two arrays of log-sum-exps gather rows over six points; nothing is claimed of them
   here, and their windows are forgotten. -/
module

public import proofs.«01_k».proof.Proof.FwdRun
public import Idealize.ShloMosaic.Lib.Claim

@[expose] public section

-- membership in a rectangle of production extents (`View.cover_of_tiled`): the elaborator's structural look
-- recurses once per coordinate of the long axes
set_option maxRecDepth 16384

noncomputable section

namespace Cert.KFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KFwdIdeal Cert.KFwdIdeal.Gen
open Idealize.ShloMosaic.Pipeline (Dat Cfg Window BodyObligation cellOf)

variable {F : FTy → Type} [FloatOps F]

local notation "𝕄" => MT nD τ sig Unit (Elt F) ℕ (UR sig nD τ) ℕ

/-! ## The pieces of all trips -/

section Pieces

variable (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
  (w : BitVec 32) (X2 : BufTy.Contents (Elt F) arg2.view.ty) (X3 : BufTy.Contents (Elt F) arg3.view.ty) (X10 : BufTy.Contents (Elt F) arg10.view.ty)

/-- The loop runs four times. -/
theorem trips_eq : k0_t1_loop.trips = 4 := by decide +kernel

/-- The pieces of one trip, as the loop's invariant lists them. -/
abbrev trip (k : Fin k0_t1_loop.trips) := tripL_k0_t1 (F := F) Variants.none c none i arg2 harg2 arg3 harg3 arg4 harg4 arg5 harg5 arg6 harg6 arg7 harg7 arg8 harg8 arg9 harg9 arg10 harg10 w X2 X3 X10 k

/-- The pieces of the trips before `n`. -/
abbrev pcs (n : ℕ) := pb_k0_t1 (F := F) Variants.none c none i arg2 harg2 arg3 harg3 arg4 harg4 arg5 harg5 arg6 harg6 arg7 harg7 arg8 harg8 arg9 harg9 arg10 harg10 w X2 X3 X10 n

/-- Every piece of a trip is among the pieces of the trips before any later one (array 3). -/
theorem mem_pcs3 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).1, q ∈ (pcs c i arg2 harg2 arg3 harg3 arg4 harg4 arg5 harg5 arg6 harg6 arg7 harg7 arg8 harg8 arg9 harg9 arg10 harg10 w X2 X3 X10 n).1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs3 k n h' (Nat.le_of_succ_le hn) q hq)
    · exact List.mem_append_left _ ((Fin.ext h' : k = ⟨n, hn⟩) ▸ hq)

/-- A piece of the trips before `n` is a piece of one trip (array 3). -/
theorem of_mem_pcs3 : ∀ n, n ≤ k0_t1_loop.trips → ∀ q ∈ (pcs c i arg2 harg2 arg3 harg3 arg4 harg4 arg5 harg5 arg6 harg6 arg7 harg7 arg8 harg8 arg9 harg9 arg10 harg10 w X2 X3 X10 n).1, ∃ k : Fin k0_t1_loop.trips, q ∈ (trip c i arg2 harg2 arg3 harg3 arg4 harg4 arg5 harg5 arg6 harg6 arg7 harg7 arg8 harg8 arg9 harg9 arg10 harg10 w X2 X3 X10 k).1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs3 n (Nat.le_of_succ_le hn) q h

/-- The pieces of a trip hold every row of the trip's head (array 3). -/
theorem trip_cover3 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 3). -/
theorem pcs_cover3 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).1, y ∈ q.1.set := by
  have hy : (y 1).val < k0_t1_loop.trips := trips_eq ▸ (y 1).isLt
  obtain ⟨q, hq, hs⟩ := trip_cover3 c i arg2 harg2 arg3 harg3 arg4 harg4 arg5 harg5 arg6 harg6 arg7 harg7 arg8 harg8 arg9 harg9 arg10 harg10 w X2 X3 X10 ⟨(y 1).val, hy⟩ y rfl
  exact ⟨q, mem_pcs3 c i arg2 harg2 arg3 harg3 arg4 harg4 arg5 harg5 arg6 harg6 arg7 harg7 arg8 harg8 arg9 harg9 arg10 harg10 w X2 X3 X10 ⟨(y 1).val, hy⟩ _ hy le_rfl q hq, hs⟩

/-- Every piece of a trip is among the pieces of the trips before any later one (array 4). -/
theorem mem_pcs4 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).2.1, q ∈ (pcs c i arg2 harg2 arg3 harg3 arg4 harg4 arg5 harg5 arg6 harg6 arg7 harg7 arg8 harg8 arg9 harg9 arg10 harg10 w X2 X3 X10 n).2.1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs4 k n h' (Nat.le_of_succ_le hn) q hq)
    · exact List.mem_append_left _ ((Fin.ext h' : k = ⟨n, hn⟩) ▸ hq)

/-- A piece of the trips before `n` is a piece of one trip (array 4). -/
theorem of_mem_pcs4 : ∀ n, n ≤ k0_t1_loop.trips → ∀ q ∈ (pcs c i arg2 harg2 arg3 harg3 arg4 harg4 arg5 harg5 arg6 harg6 arg7 harg7 arg8 harg8 arg9 harg9 arg10 harg10 w X2 X3 X10 n).2.1, ∃ k : Fin k0_t1_loop.trips, q ∈ (trip c i arg2 harg2 arg3 harg3 arg4 harg4 arg5 harg5 arg6 harg6 arg7 harg7 arg8 harg8 arg9 harg9 arg10 harg10 w X2 X3 X10 k).2.1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs4 n (Nat.le_of_succ_le hn) q h

/-- The pieces of a trip hold every row of the trip's head (array 4). -/
theorem trip_cover4 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).2.1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 4). -/
theorem pcs_cover4 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).2.1, y ∈ q.1.set := by
  have hy : (y 1).val < k0_t1_loop.trips := trips_eq ▸ (y 1).isLt
  obtain ⟨q, hq, hs⟩ := trip_cover4 c i arg2 harg2 arg3 harg3 arg4 harg4 arg5 harg5 arg6 harg6 arg7 harg7 arg8 harg8 arg9 harg9 arg10 harg10 w X2 X3 X10 ⟨(y 1).val, hy⟩ y rfl
  exact ⟨q, mem_pcs4 c i arg2 harg2 arg3 harg3 arg4 harg4 arg5 harg5 arg6 harg6 arg7 harg7 arg8 harg8 arg9 harg9 arg10 harg10 w X2 X3 X10 ⟨(y 1).val, hy⟩ _ hy le_rfl q hq, hs⟩

/-- Every piece of a trip is among the pieces of the trips before any later one (array 5). -/
theorem mem_pcs5 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).2.2.1, q ∈ (pcs c i arg2 harg2 arg3 harg3 arg4 harg4 arg5 harg5 arg6 harg6 arg7 harg7 arg8 harg8 arg9 harg9 arg10 harg10 w X2 X3 X10 n).2.2.1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs5 k n h' (Nat.le_of_succ_le hn) q hq)
    · exact List.mem_append_left _ ((Fin.ext h' : k = ⟨n, hn⟩) ▸ hq)

/-- A piece of the trips before `n` is a piece of one trip (array 5). -/
theorem of_mem_pcs5 : ∀ n, n ≤ k0_t1_loop.trips → ∀ q ∈ (pcs c i arg2 harg2 arg3 harg3 arg4 harg4 arg5 harg5 arg6 harg6 arg7 harg7 arg8 harg8 arg9 harg9 arg10 harg10 w X2 X3 X10 n).2.2.1, ∃ k : Fin k0_t1_loop.trips, q ∈ (trip c i arg2 harg2 arg3 harg3 arg4 harg4 arg5 harg5 arg6 harg6 arg7 harg7 arg8 harg8 arg9 harg9 arg10 harg10 w X2 X3 X10 k).2.2.1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs5 n (Nat.le_of_succ_le hn) q h

/-- The pieces of a trip hold every row of the trip's head (array 5). -/
theorem trip_cover5 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).2.2.1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 5). -/
theorem pcs_cover5 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).2.2.1, y ∈ q.1.set := by
  have hy : (y 1).val < k0_t1_loop.trips := trips_eq ▸ (y 1).isLt
  obtain ⟨q, hq, hs⟩ := trip_cover5 c i arg2 harg2 arg3 harg3 arg4 harg4 arg5 harg5 arg6 harg6 arg7 harg7 arg8 harg8 arg9 harg9 arg10 harg10 w X2 X3 X10 ⟨(y 1).val, hy⟩ y rfl
  exact ⟨q, mem_pcs5 c i arg2 harg2 arg3 harg3 arg4 harg4 arg5 harg5 arg6 harg6 arg7 harg7 arg8 harg8 arg9 harg9 arg10 harg10 w X2 X3 X10 ⟨(y 1).val, hy⟩ _ hy le_rfl q hq, hs⟩

end Pieces

/-! ## What a point leaves in the three blocks -/

/-- The run's pieces are those of the loop's trips, so they cover block 3. -/
theorem cover3 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).1, y ∈ q.1.set := by
  unfold kernelRun
  exact pcs_cover3 c i arg2 harg2 arg3 harg3 arg4 harg4 arg5 harg5 arg6 harg6 arg7 harg7 arg8 harg8 arg9 harg9 arg10 harg10 _ _ _ _ y

/-- What a point leaves in block 3: the pieces of the run. -/
def out3 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .f32 :=
  VO0_3.read (Elt F) (VO0_3.writes (Elt F) VO0_3.junk (kernelRun c i arg2 harg2 arg3 harg3 arg4 harg4 arg5 harg5 arg6 harg6 arg7 harg7 arg8 harg8 arg9 harg9 arg10 harg10 x0 x1 x2).1)

/-- The run's pieces are those of the loop's trips, so they cover block 4. -/
theorem cover4 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).2.1, y ∈ q.1.set := by
  unfold kernelRun
  exact pcs_cover4 c i arg2 harg2 arg3 harg3 arg4 harg4 arg5 harg5 arg6 harg6 arg7 harg7 arg8 harg8 arg9 harg9 arg10 harg10 _ _ _ _ y

/-- What a point leaves in block 4: the pieces of the run. -/
def out4 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .bf16 :=
  VO0_4.read (Elt F) (VO0_4.writes (Elt F) VO0_4.junk (kernelRun c i arg2 harg2 arg3 harg3 arg4 harg4 arg5 harg5 arg6 harg6 arg7 harg7 arg8 harg8 arg9 harg9 arg10 harg10 x0 x1 x2).2.1)

/-- The run's pieces are those of the loop's trips, so they cover block 5. -/
theorem cover5 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).2.2.1, y ∈ q.1.set := by
  unfold kernelRun
  exact pcs_cover5 c i arg2 harg2 arg3 harg3 arg4 harg4 arg5 harg5 arg6 harg6 arg7 harg7 arg8 harg8 arg9 harg9 arg10 harg10 _ _ _ _ y

/-- What a point leaves in block 5: the pieces of the run. -/
def out5 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .fp8e4m3 :=
  VO0_5.read (Elt F) (VO0_5.writes (Elt F) VO0_5.junk (kernelRun c i arg2 harg2 arg3 harg3 arg4 harg4 arg5 harg5 arg6 harg6 arg7 harg7 arg8 harg8 arg9 harg9 arg10 harg10 x0 x1 x2).2.2.1)

/-! ## The pipeline's proof data -/

variable (m : (ℓ : Loc nD τ sig) → Buf (Elt F) ℓ) (ρ : Dev nD → PrngReg)

/-- The windows of the two arrays of log-sum-exps, of which nothing is said. -/
def fgt (w : Fin cfg0.W) : Bool := match w with
  | ⟨6, _⟩ => true
  | ⟨7, _⟩ => true
  | _ => false

/-- The proof data on core `c`: the arrays as the region finds them, after the body each input's buffer at its block and
    the three attention outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨4, _⟩ => out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨5, _⟩ => out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨6, h⟩ => Dat.unnamed ⟨6, h⟩ t
    | ⟨7, h⟩ => Dat.unnamed ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]
theorem after0_4 (c : Dev nD) (t : Fin cfg0.N) : (dats m 0 c).after 4 t = out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]
theorem after0_5 (c : Dev nD) (t : Fin cfg0.N) : (dats m 0 c).after 5 t = out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-! ## The body obligation, at a generic point -/

/-- What the body is called with at point `t` the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks, so the run applies; the pieces it leaves cover the three
    attention blocks, whatever these held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out3 out4 out5; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk m c 0 t) (iblk m c 1 t) (iblk m c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  iintro ⟨H0, H1, H2, ⟨%e3, H3⟩, ⟨%e4, H4⟩, ⟨%e5, H5⟩, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover3 c _ _ _ _ _ _ _ _ _ _ _ _ _ _ _ _ _ _ _ _ _ _)
  isplitl [H4]
  · unfold owns; iexists _; isplitr
    swap; · iexact H4
    ipureintro; exact View.read_writes_of_cover _ _ _ _ _ (cover4 c _ _ _ _ _ _ _ _ _ _ _ _ _ _ _ _ _ _ _ _ _ _)
  isplitl [H5]
  · unfold owns; iexists _; isplitr
    swap; · iexact H5
    ipureintro; exact View.read_writes_of_cover _ _ _ _ _ (cover5 c _ _ _ _ _ _ _ _ _ _ _ _ _ _ _ _ _ _ _ _ _ _)
  isplitl [H6]
  · unfold owns; iexists _, _; isplitr
    swap; · iexact H6
    ipureintro; rfl
  unfold owns; iexists _, _; isplitr
  swap; · iexact H7
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the two windows of log-sum-exps forgotten. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

-- the implicit arguments of the launch theorem are found by unification, which unfolds plain definitions
set_option backward.isDefEq.respectTransparency.types false in
/-- The launch, with every semaphore at zero in the end. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- The launch: every array of the pipeline ends at what the proof data allow. -/
theorem run_main : θ_run defs (onTc (τ := τ) (main (F := F))) (s₀ m ρ) (Pipeline.RDat.FramePost cfg0 (fun c => (dats m 0 c).toRForget fgt) (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((congrFun (((dats m 0 c).toRForget fgt).ArrAt_in 2 rfl _) _).mp ((h c).1 2)).trans ((A_eq m c 2).trans (V_main_arg0 m c))) (run_main m ρ)

/-- The frame: the argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KFwdIdeal.Hand

end
-- ==== Proof.FwdPay.lean ====
/- The attention forward step's body, entry by entry: each of its four sizes of block of queries against the keys up to its
   end is one row of halved scores, a quotient of sums. -/
module

public import proofs.«01_k».proof.Proof.FwdRef
public import proofs.«01_k».proof.Proof.FwdFrame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KFwdIdeal.Hand
open Cert.KFwdIdeal Cert.KFwdIdeal.Gen Cert.Fwd

/-- The body's choice by positions, over one entry. -/
theorem pick (a b o : ℕ) (ha : a < 2048) (hb : b < 2048) (ho : o < 2048) (x y : EReal) :
    Scalar.select (IntOp.cmpi .sle (BitVec.ofNat 32 a) (IntOp.addi (BitVec.ofNat 32 b) (BitVec.ofNat 32 o))) x y = if a ≤ b + o then x else y := by
  rw [show IntOp.addi (BitVec.ofNat 32 b) (BitVec.ofNat 32 o) = BitVec.ofNat 32 (b + o) from (BitVec.ofNat_add b o).symm,
    sle_small _ _ (by omega) (by omega)]
  by_cases h : a ≤ b + o <;> simp [Scalar.select, h]

/-- The halved score of a query `s` of a block that begins at `o` against a key. -/
def kscore {n : ℕ} (o : ℕ) (q : Fin 128 → EReal) (k : Fin n → Fin 128 → EReal) (s : Fin 256) (t : Fin n) : EReal :=
  if t.val ≤ s.val + o then (∑ x, k t x * q x) * chalf else ninf

/-! ## 256 keys -/

/-- The scores. -/
theorem score256 (q : FVec Ideal S1x1x256x128 .bf16) (k : FVec Ideal S1x1x256x128 .bf16) (t : Fin 256) (s : Fin 256) : k0_pay5 (F := Ideal) q k (ix2 t s) = kscore 0 (fun x => (q (ix4 0 0 s x) : EReal)) (fun t x => (k (ix4 0 0 t x) : EReal)) s t := by
  unfold kscore
  rw [← pick t.val s.val 0 (by omega) (by omega) (by omega)]
  pointwise [k0_pay5]

/-- The reference points. -/
theorem max256 (q : FVec Ideal S1x1x256x128 .bf16) (k : FVec Ideal S1x1x256x128 .bf16) (s : Fin 256) : k0_pay6 (F := Ideal) q k (ix2 0 s) = kmax (kscore 0 (fun x => (q (ix4 0 0 s x) : EReal)) (fun t x => (k (ix4 0 0 t x) : EReal)) s) := by
  unfold kmax
  pointwise [k0_pay6, score256]

/-- The weights. -/
theorem exp256 (q : FVec Ideal S1x1x256x128 .bf16) (k : FVec Ideal S1x1x256x128 .bf16) (t : Fin 256) (s : Fin 256) : k0_pay7 (F := Ideal) q k (ix2 t s) = Ideal.exp2 (kscore 0 (fun x => (q (ix4 0 0 s x) : EReal)) (fun t x => (k (ix4 0 0 t x) : EReal)) s t - kmax (kscore 0 (fun x => (q (ix4 0 0 s x) : EReal)) (fun t x => (k (ix4 0 0 t x) : EReal)) s)) := by
  pointwise [k0_pay7, score256, max256]
  rfl

/-- The sums of squares. -/
theorem sum256 (q : FVec Ideal S1x1x256x128 .bf16) (k : FVec Ideal S1x1x256x128 .bf16) (s : Fin 256) : k0_pay8 (F := Ideal) q k (ix2 0 s)
    = ∑ t : Fin 256, Ideal.exp2 (kscore 0 (fun x => (q (ix4 0 0 s x) : EReal)) (fun t x => (k (ix4 0 0 t x) : EReal)) s t - kmax (kscore 0 (fun x => (q (ix4 0 0 s x) : EReal)) (fun t x => (k (ix4 0 0 t x) : EReal)) s)) * Ideal.exp2 (kscore 0 (fun x => (q (ix4 0 0 s x) : EReal)) (fun t x => (k (ix4 0 0 t x) : EReal)) s t - kmax (kscore 0 (fun x => (q (ix4 0 0 s x) : EReal)) (fun t x => (k (ix4 0 0 t x) : EReal)) s)) := by
  pointwise [k0_pay8, exp256]

/-- The outputs. -/
theorem row256 (q : FVec Ideal S1x1x256x128 .bf16) (k : FVec Ideal S1x1x256x128 .bf16) (v : FVec Ideal S128x256 .bf16) (s : Fin 256) (d : Fin 128) : k0_pay9 (F := Ideal) q k v (ix2 s d)
    = krow (kscore 0 (fun x => (q (ix4 0 0 s x) : EReal)) (fun t x => (k (ix4 0 0 t x) : EReal)) s) (fun t : Fin 256 => (v (ix2 d t) : EReal)) := by
  unfold krow
  pointwise [k0_pay9, exp256, sum256]

/-! ## 512 keys -/

/-- The scores. -/
theorem score512 (q : FVec Ideal S1x1x256x128 .bf16) (k : FVec Ideal S1x1x512x128 .bf16) (t : Fin 512) (s : Fin 256) : k0_pay17 (F := Ideal) q k (ix2 t s) = kscore 256 (fun x => (q (ix4 0 0 s x) : EReal)) (fun t x => (k (ix4 0 0 t x) : EReal)) s t := by
  unfold kscore
  rw [← pick t.val s.val 256 (by omega) (by omega) (by omega)]
  pointwise [k0_pay17]

/-- The reference points. -/
theorem max512 (q : FVec Ideal S1x1x256x128 .bf16) (k : FVec Ideal S1x1x512x128 .bf16) (s : Fin 256) : k0_pay18 (F := Ideal) q k (ix2 0 s) = kmax (kscore 256 (fun x => (q (ix4 0 0 s x) : EReal)) (fun t x => (k (ix4 0 0 t x) : EReal)) s) := by
  unfold kmax
  pointwise [k0_pay18, score512]

/-- The weights. -/
theorem exp512 (q : FVec Ideal S1x1x256x128 .bf16) (k : FVec Ideal S1x1x512x128 .bf16) (t : Fin 512) (s : Fin 256) : k0_pay19 (F := Ideal) q k (ix2 t s) = Ideal.exp2 (kscore 256 (fun x => (q (ix4 0 0 s x) : EReal)) (fun t x => (k (ix4 0 0 t x) : EReal)) s t - kmax (kscore 256 (fun x => (q (ix4 0 0 s x) : EReal)) (fun t x => (k (ix4 0 0 t x) : EReal)) s)) := by
  pointwise [k0_pay19, score512, max512]
  rfl

/-- The sums of squares. -/
theorem sum512 (q : FVec Ideal S1x1x256x128 .bf16) (k : FVec Ideal S1x1x512x128 .bf16) (s : Fin 256) : k0_pay20 (F := Ideal) q k (ix2 0 s)
    = ∑ t : Fin 512, Ideal.exp2 (kscore 256 (fun x => (q (ix4 0 0 s x) : EReal)) (fun t x => (k (ix4 0 0 t x) : EReal)) s t - kmax (kscore 256 (fun x => (q (ix4 0 0 s x) : EReal)) (fun t x => (k (ix4 0 0 t x) : EReal)) s)) * Ideal.exp2 (kscore 256 (fun x => (q (ix4 0 0 s x) : EReal)) (fun t x => (k (ix4 0 0 t x) : EReal)) s t - kmax (kscore 256 (fun x => (q (ix4 0 0 s x) : EReal)) (fun t x => (k (ix4 0 0 t x) : EReal)) s)) := by
  pointwise [k0_pay20, exp512]

/-- The outputs. -/
theorem row512 (q : FVec Ideal S1x1x256x128 .bf16) (k : FVec Ideal S1x1x512x128 .bf16) (v : FVec Ideal S128x512 .bf16) (s : Fin 256) (d : Fin 128) : k0_pay21 (F := Ideal) q k v (ix2 s d)
    = krow (kscore 256 (fun x => (q (ix4 0 0 s x) : EReal)) (fun t x => (k (ix4 0 0 t x) : EReal)) s) (fun t : Fin 512 => (v (ix2 d t) : EReal)) := by
  unfold krow
  pointwise [k0_pay21, exp512, sum512]

/-! ## 768 keys -/

/-- The scores. -/
theorem score768 (q : FVec Ideal S1x1x256x128 .bf16) (k : FVec Ideal S1x1x768x128 .bf16) (t : Fin 768) (s : Fin 256) : k0_pay30 (F := Ideal) (k0_pay28 (F := Ideal) q) (k0_pay29 (F := Ideal) k) (ix2 t s) = kscore 512 (fun x => (q (ix4 0 0 s x) : EReal)) (fun t x => (k (ix4 0 0 t x) : EReal)) s t := by
  unfold kscore
  rw [← pick t.val s.val 512 (by omega) (by omega) (by omega)]
  pointwise [k0_pay30, k0_pay28, k0_pay29]

/-- The reference points. -/
theorem max768 (q : FVec Ideal S1x1x256x128 .bf16) (k : FVec Ideal S1x1x768x128 .bf16) (s : Fin 256) : k0_pay31 (F := Ideal) (k0_pay28 (F := Ideal) q) (k0_pay29 (F := Ideal) k) (ix2 0 s) = kmax (kscore 512 (fun x => (q (ix4 0 0 s x) : EReal)) (fun t x => (k (ix4 0 0 t x) : EReal)) s) := by
  unfold kmax
  pointwise [k0_pay31, score768]

/-- The weights. -/
theorem exp768 (q : FVec Ideal S1x1x256x128 .bf16) (k : FVec Ideal S1x1x768x128 .bf16) (t : Fin 768) (s : Fin 256) : k0_pay32 (F := Ideal) (k0_pay28 (F := Ideal) q) (k0_pay29 (F := Ideal) k) (ix2 t s) = Ideal.exp2 (kscore 512 (fun x => (q (ix4 0 0 s x) : EReal)) (fun t x => (k (ix4 0 0 t x) : EReal)) s t - kmax (kscore 512 (fun x => (q (ix4 0 0 s x) : EReal)) (fun t x => (k (ix4 0 0 t x) : EReal)) s)) := by
  pointwise [k0_pay32, score768, max768]
  rfl

/-- The sums of squares. -/
theorem sum768 (q : FVec Ideal S1x1x256x128 .bf16) (k : FVec Ideal S1x1x768x128 .bf16) (s : Fin 256) : k0_pay33 (F := Ideal) (k0_pay28 (F := Ideal) q) (k0_pay29 (F := Ideal) k) (ix2 0 s)
    = ∑ t : Fin 768, Ideal.exp2 (kscore 512 (fun x => (q (ix4 0 0 s x) : EReal)) (fun t x => (k (ix4 0 0 t x) : EReal)) s t - kmax (kscore 512 (fun x => (q (ix4 0 0 s x) : EReal)) (fun t x => (k (ix4 0 0 t x) : EReal)) s)) * Ideal.exp2 (kscore 512 (fun x => (q (ix4 0 0 s x) : EReal)) (fun t x => (k (ix4 0 0 t x) : EReal)) s t - kmax (kscore 512 (fun x => (q (ix4 0 0 s x) : EReal)) (fun t x => (k (ix4 0 0 t x) : EReal)) s)) := by
  pointwise [k0_pay33, exp768]

/-- The outputs. -/
theorem row768 (q : FVec Ideal S1x1x256x128 .bf16) (k : FVec Ideal S1x1x768x128 .bf16) (v : FVec Ideal S128x768 .bf16) (s : Fin 256) (d : Fin 128) : k0_pay34 (F := Ideal) (k0_pay28 (F := Ideal) q) (k0_pay29 (F := Ideal) k) v (ix2 s d)
    = krow (kscore 512 (fun x => (q (ix4 0 0 s x) : EReal)) (fun t x => (k (ix4 0 0 t x) : EReal)) s) (fun t : Fin 768 => (v (ix2 d t) : EReal)) := by
  unfold krow
  pointwise [k0_pay34, exp768, sum768]

/-! ## 1024 keys -/

/-- The scores. -/
theorem score1024 (q : FVec Ideal S1x1x256x128 .bf16) (k : FVec Ideal S1x1x1024x128 .bf16) (t : Fin 1024) (s : Fin 256) : k0_pay43 (F := Ideal) (k0_pay42 (F := Ideal) q k) trip_k0_t1.sl.v233 trip_k0_t1.sl.v234 768#32 (ix2 t s) = kscore 768 (fun x => (q (ix4 0 0 s x) : EReal)) (fun t x => (k (ix4 0 0 t x) : EReal)) s t := by
  unfold kscore
  rw [← pick t.val s.val 768 (by omega) (by omega) (by omega)]
  pointwise [k0_pay43, k0_pay42, trip_k0_t1.sl.v233, trip_k0_t1.sl.v234]

/-- The reference points. -/
theorem max1024 (q : FVec Ideal S1x1x256x128 .bf16) (k : FVec Ideal S1x1x1024x128 .bf16) (s : Fin 256) : k0_pay44 (F := Ideal) (k0_pay42 (F := Ideal) q k) trip_k0_t1.sl.v233 trip_k0_t1.sl.v234 768#32 (ix2 0 s) = kmax (kscore 768 (fun x => (q (ix4 0 0 s x) : EReal)) (fun t x => (k (ix4 0 0 t x) : EReal)) s) := by
  unfold kmax
  pointwise [k0_pay44, score1024]

/-- The weights. -/
theorem exp1024 (q : FVec Ideal S1x1x256x128 .bf16) (k : FVec Ideal S1x1x1024x128 .bf16) (t : Fin 1024) (s : Fin 256) : k0_pay45 (F := Ideal) (k0_pay42 (F := Ideal) q k) trip_k0_t1.sl.v233 trip_k0_t1.sl.v234 768#32 (ix2 t s) = Ideal.exp2 (kscore 768 (fun x => (q (ix4 0 0 s x) : EReal)) (fun t x => (k (ix4 0 0 t x) : EReal)) s t - kmax (kscore 768 (fun x => (q (ix4 0 0 s x) : EReal)) (fun t x => (k (ix4 0 0 t x) : EReal)) s)) := by
  pointwise [k0_pay45, score1024, max1024]
  rfl

/-- The sums of squares. -/
theorem sum1024 (q : FVec Ideal S1x1x256x128 .bf16) (k : FVec Ideal S1x1x1024x128 .bf16) (s : Fin 256) : k0_pay46 (F := Ideal) (k0_pay42 (F := Ideal) q k) trip_k0_t1.sl.v233 trip_k0_t1.sl.v234 768#32 (ix2 0 s)
    = ∑ t : Fin 1024, Ideal.exp2 (kscore 768 (fun x => (q (ix4 0 0 s x) : EReal)) (fun t x => (k (ix4 0 0 t x) : EReal)) s t - kmax (kscore 768 (fun x => (q (ix4 0 0 s x) : EReal)) (fun t x => (k (ix4 0 0 t x) : EReal)) s)) * Ideal.exp2 (kscore 768 (fun x => (q (ix4 0 0 s x) : EReal)) (fun t x => (k (ix4 0 0 t x) : EReal)) s t - kmax (kscore 768 (fun x => (q (ix4 0 0 s x) : EReal)) (fun t x => (k (ix4 0 0 t x) : EReal)) s)) := by
  pointwise [k0_pay46, exp1024]

/-- The outputs. -/
theorem row1024 (q : FVec Ideal S1x1x256x128 .bf16) (k : FVec Ideal S1x1x1024x128 .bf16) (v : FVec Ideal S128x1024 .bf16) (s : Fin 256) (d : Fin 128) : k0_pay47 (F := Ideal) (k0_pay42 (F := Ideal) q k) trip_k0_t1.sl.v233 trip_k0_t1.sl.v234 768#32 v (ix2 s d)
    = krow (kscore 768 (fun x => (q (ix4 0 0 s x) : EReal)) (fun t x => (k (ix4 0 0 t x) : EReal)) s) (fun t : Fin 1024 => (v (ix2 d t) : EReal)) := by
  unfold krow
  pointwise [k0_pay47, exp1024, sum1024]

end Cert.KFwdIdeal.Hand
-- ==== Proof.FwdBlocks.lean ====
/- The attention forward step's blocks: what a grid point leaves of the outputs is, entry by entry, the row of attention of
   that query over the point's keys and values. -/
module

public import proofs.«01_k».proof.Proof.FwdPay
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.KFwdIdeal.Hand
open Cert.KFwdIdeal Cert.KFwdIdeal.Gen Cert.Fwd

/-! ## A row of a block -/

/-- The scores of query `s` of the block's head `g`: scaled where the key is not after the query, minus infinity elsewhere. -/
def bscore (x0 : Vec Ideal S1x4x1024x128 .bf16) (x1 : Vec Ideal S1x1x1024x128 .bf16) (g : Fin 4) (s t : Fin 1024) : EReal :=
  if t.val ≤ s.val then (∑ d : Fin 128, (x0 (ix4 0 g s d) : EReal) * (x1 (ix4 0 0 t d) : EReal)) * cfull else ninf

/-- Channel `d` of the output of query `s` of the block's head `g`. -/
def brow (x0 : Vec Ideal S1x4x1024x128 .bf16) (x1 x2 : Vec Ideal S1x1x1024x128 .bf16) (g : Fin 4) (s : Fin 1024) (d : Fin 128) : EReal :=
  rrow (bscore x0 x1 g s) (fun t => x2 (ix4 0 0 t d))

/-- A block of queries against the keys up to its end leaves that row. -/
theorem block_row {n : ℕ} (o : ℕ) (hn : n = o + 256) (hn1 : n ≤ 1024) (x0 : Vec Ideal S1x4x1024x128 .bf16) (x1 x2 : Vec Ideal S1x1x1024x128 .bf16)
    (g : Fin 4) (s : Fin 256) (r : Fin 1024) (hr : r.val = o + s.val) (d : Fin 128) (q : Fin 128 → EReal) (k : Fin n → Fin 128 → EReal) (v : Fin n → EReal)
    (hq : ∀ x, q x = x0 (ix4 0 g r x)) (hk : ∀ t x, k t x = x1 (ix4 0 0 (t.castLE hn1) x)) (hv : ∀ t, v t = x2 (ix4 0 0 (t.castLE hn1) d)) :
    krow (kscore o q k s) v = brow x0 x1 x2 g r d := by
  refine row_eq hn1 _ _ _ _ (fun t => ?_) (fun t ht => ?_) hv
  · unfold kscore bscore
    have e : (t.val ≤ s.val + o) ↔ ((t.castLE hn1).val ≤ r.val) := by rw [hr, Fin.val_castLE]; omega
    by_cases h : t.val ≤ s.val + o
    · rw [if_pos h, if_pos (e.mp h), chalf_eq, mul_assoc]
      refine congrArg (fun x : EReal => x * _) (Finset.sum_congr rfl fun x _ => ?_)
      rw [hk, hq, mul_comm]
    · rw [if_neg h, if_neg (fun h' => h (e.mpr h')), ninf_half]
  · unfold bscore
    rw [if_neg (by have := s.isLt; omega), ninf_eq]

/-! ## What the body loads -/

/-- A block of queries of a head. -/
theorem load_q {sp : Space} (arg2 : Memref sig .tc sp S1x4x1024x128 .bf16) (harg2 : arg2.IsWhole) (x0 : Vec Ideal S1x4x1024x128 .bf16) (off : Fin 4 → ℕ)
    (g : Fin 4) (o : ℕ) (hoff : off = ![0, g.val, o, 0]) (inb) (s : Fin 256) (r : Fin 1024) (hr : r.val = o + s.val) (x : Fin 128) :
    View.readAt (Elt Ideal) arg2.view (Rect.unit (s := S1x4x1024x128) off ![1, 1, 256, 128] inb).toLoadRect (harg2.unread x0) (ix4 0 0 s x) = x0 (ix4 0 g r x) := by
  subst hoff
  rw [View.readAt_eq_ld, Memref.IsWhole.read_unread]
  pointwise
  blk_ext []

/-- The first keys. -/
theorem load_k {sp : Space} (arg3 : Memref sig .tc sp S1x1x1024x128 .bf16) (harg3 : arg3.IsWhole) (x1 : Vec Ideal S1x1x1024x128 .bf16) (n : ℕ) (hn : n ≤ 1024)
    (inb) (t : Fin n) (x : Fin 128) :
    View.readAt (Elt Ideal) arg3.view (Rect.unit (s := S1x1x1024x128) ![0, 0, 0, 0] ![1, 1, n, 128] inb).toLoadRect (harg3.unread x1)
      (ix4 (0 : Fin 1) (0 : Fin 1) t x) = x1 (ix4 0 0 (t.castLE hn) x) := by
  rw [View.readAt_eq_ld, Memref.IsWhole.read_unread]
  pointwise
  blk_ext []
  rfl

/-- The scratch buffer as the body fills it. -/
abbrev filled (c : Dev nD) (arg4 : Memref sig .tc .vmem S1x1x1024x128 .bf16) (harg4 : arg4.IsWhole) (arg10 : Memref sig .tc .vmem S128x1024 .bf16)
    (x2 : Vec Ideal S1x1x1024x128 .bf16) : BufTy.Contents (Elt Ideal) arg10.view.ty :=
  arg10.view.writes (Elt Ideal) arg10.view.junk (kernelRun.sl.HS0_1 c arg4 harg4 x2)

/-- It holds the values turned, channels first. -/
theorem filled_at (c : Dev nD) (arg4 : Memref sig .tc .vmem S1x1x1024x128 .bf16) (harg4 : arg4.IsWhole) (arg10 : Memref sig .tc .vmem S128x1024 .bf16)
    (x2 : Vec Ideal S1x1x1024x128 .bf16) (d : Fin 128) (t : Fin 1024) :
    arg10.view.read (Elt Ideal) (filled c arg4 harg4 arg10 x2) (ix2 d t) = x2 (ix4 0 0 t d) := by
  have hp : k0_pay1 (F := Ideal) x2 (ix2 d t) = x2 (ix4 0 0 t d) := by
    pointwise [k0_pay1]
  refine Eq.trans ?_ hp
  refine View.read_writes_apply_of_pieces (Val := Elt Ideal) (e := .bf16) arg10.view arg10.view.junk (k0_pay1 (F := Ideal) x2) _ (fun p hq x => ?_) (ix2 d t) ?_
  · unfold kernelRun.sl.HS0_1 at hq
    rw [List.mem_singleton] at hq
    subst hq
    dsimp only
    have hld : View.readAt (Elt Ideal) arg4.view (Rect.unit (s := S1x1x1024x128) ![0, 0, 0, 0] S1x1x1024x128.size inb_S1x1x1024x128_S1x1x1024x128_0_0_0_0).toLoadRect
        (harg4.unread x2) = x2 := (View.readAt_full _ _ _).trans (harg4.read_unread x2)
    rw [hld]
    generalize k0_pay1 (F := Ideal) x2 = Y
    blk_ext []
  · unfold kernelRun.sl.HS0_1
    refine ⟨_, List.mem_cons_self, ?_⟩
    rw [Rect.mem_set_unit]
    intro a
    match a with
    | 0 => exact ⟨Nat.zero_le _, d.isLt⟩
    | 1 => exact ⟨Nat.zero_le _, t.isLt⟩

/-- The first of the values turned. -/
theorem load_v (c : Dev nD) (arg4 : Memref sig .tc .vmem S1x1x1024x128 .bf16) (harg4 : arg4.IsWhole) (arg10 : Memref sig .tc .vmem S128x1024 .bf16)
    (x2 : Vec Ideal S1x1x1024x128 .bf16) (n : ℕ) (hn : n ≤ 1024) (inb) (d : Fin 128) (t : Fin n) :
    View.readAt (Elt Ideal) arg10.view (Rect.unit (s := S128x1024) ![0, 0] ![128, n] inb).toLoadRect (filled c arg4 harg4 arg10 x2) (ix2 d t)
      = x2 (ix4 0 0 (t.castLE hn) d) := by
  rw [← filled_at c arg4 harg4 arg10 x2, View.readAt_eq_ld]
  pointwise
  blk_ext []
  rfl

end Cert.KFwdIdeal.Hand
-- ==== Proof.FwdTrips.lean ====
/- The attention forward step's blocks: the pieces of every trip of the loop hold rows of attention, so the three blocks of
   outputs a grid point leaves are those rows. -/
module

public import proofs.«01_k».proof.Proof.FwdBlocks

@[expose] public section

set_option maxRecDepth 16384

noncomputable section

open Idealize.ShloMosaic Idealize.ShloMosaic.TcCoe Idealize.SL.Sem
open Idealize.ShloMosaic.Pipeline (Dat)

namespace Cert.KFwdIdeal.Hand
open Cert.KFwdIdeal Cert.KFwdIdeal.Gen Cert.Fwd

/-! ## A piece in its block -/

/-- An index of one head's piece is its last two coordinates. -/
theorem unit_ix (x : S1x1x256x128.Idx) : x = ix4 0 0 (x 2) (x 3) := by
  have hx0 : (x 0).val < 1 := (x 0).isLt
  have hx1 : (x 1).val < 1 := (x 1).isLt
  funext d; apply Fin.ext; fin_cases d
  · show (x 0).val = 0; omega
  · show (x 1).val = 0; omega
  · rfl
  · rfl

/-- A piece that holds, row by row, a function of the head, the position and the channel holds it at its place in the block. -/
theorem at_piece (off : Fin 4 → ℕ) (g : Fin 4) (o : ℕ) (ho : o ≤ 768) (hoff : off = ![0, g.val, o, 0]) (inb) (P : S1x1x256x128.Idx → EReal)
    (G : Fin 4 → Fin 1024 → Fin 128 → EReal) (h : ∀ (a : Fin 256) (d : Fin 128) (r : Fin 1024), r.val = o + a.val → P (ix4 0 0 a d) = G g r d)
    (x : S1x1x256x128.Idx) :
    P x = G ((Rect.unit (s := S1x4x1024x128) off ![1, 1, 256, 128] inb).emb x 1) ((Rect.unit (s := S1x4x1024x128) off ![1, 1, 256, 128] inb).emb x 2)
      ((Rect.unit (s := S1x4x1024x128) off ![1, 1, 256, 128] inb).emb x 3) := by
  subst hoff
  have hx1 : (x 1).val < 1 := (x 1).isLt
  have hx2 : (x 2).val < 256 := (x 2).isLt
  refine (congrArg P (unit_ix x)).trans ((h (x 2) (x 3) ⟨o + (x 2).val, by omega⟩ rfl).trans ?_)
  have e1 : g = (Rect.unit (s := S1x4x1024x128) ![0, g.val, o, 0] ![1, 1, 256, 128] inb).emb x 1 := Fin.ext (by show g.val = g.val + 1 * (x 1).val; omega)
  have e2 : (⟨o + (x 2).val, by omega⟩ : Fin 1024) = (Rect.unit (s := S1x4x1024x128) ![0, g.val, o, 0] ![1, 1, 256, 128] inb).emb x 2 :=
    Fin.ext (by show o + (x 2).val = o + 1 * (x 2).val; omega)
  have e3 : x 3 = (Rect.unit (s := S1x4x1024x128) ![0, g.val, o, 0] ![1, 1, 256, 128] inb).emb x 3 := Fin.ext (by show (x 3).val = 0 + 1 * (x 3).val; omega)
  rw [← e1, ← e2, ← e3]

/-! ## 256 keys -/

/-- The outputs. -/
theorem val256 (x0 : Vec Ideal S1x4x1024x128 .bf16) (x1 x2 : Vec Ideal S1x1x1024x128 .bf16) (g : Fin 4)
    (q : FVec Ideal S1x1x256x128 .bf16) (k : FVec Ideal S1x1x256x128 .bf16) (v : FVec Ideal S128x256 .bf16)
    (hq : ∀ (a : Fin 256) (r : Fin 1024), r.val = 0 + a.val → ∀ x, q (ix4 0 0 a x) = x0 (ix4 0 g r x))
    (hk : ∀ (t : Fin 256) x, k (ix4 0 0 t x) = x1 (ix4 0 0 (t.castLE (by omega)) x))
    (hv : ∀ (d : Fin 128) (t : Fin 256), v (ix2 d t) = x2 (ix4 0 0 (t.castLE (by omega)) d))
    (a : Fin 256) (d : Fin 128) (r : Fin 1024) (hr : r.val = 0 + a.val) : k0_pay9 (F := Ideal) q k v (ix2 a d) = brow x0 x1 x2 g r d :=
  (row256 q k v a d).trans (block_row 0 rfl (by omega) x0 x1 x2 g a r hr d _ _ _ (fun x => hq a r hr x) (fun t x => hk t x) (fun t => hv d t))

/-- The piece of outputs. -/
theorem o256 (x0 : Vec Ideal S1x4x1024x128 .bf16) (x1 x2 : Vec Ideal S1x1x1024x128 .bf16) (g : Fin 4)
    (q : FVec Ideal S1x1x256x128 .bf16) (k : FVec Ideal S1x1x256x128 .bf16) (v : FVec Ideal S128x256 .bf16)
    (hq : ∀ (a : Fin 256) (r : Fin 1024), r.val = 0 + a.val → ∀ x, q (ix4 0 0 a x) = x0 (ix4 0 g r x))
    (hk : ∀ (t : Fin 256) x, k (ix4 0 0 t x) = x1 (ix4 0 0 (t.castLE (by omega)) x))
    (hv : ∀ (d : Fin 128) (t : Fin 256), v (ix2 d t) = x2 (ix4 0 0 (t.castLE (by omega)) d))
    (a : Fin 256) (d : Fin 128) (r : Fin 1024) (hr : r.val = 0 + a.val) : k0_pay10 (F := Ideal) q k v (ix4 0 0 a d) = brow x0 x1 x2 g r d := by
  rw [← val256 x0 x1 x2 g q k v hq hk hv a d r hr]
  generalize ho : k0_pay9 (F := Ideal) q k v = O
  pointwise [k0_pay10, ho]

/-- The piece of outputs in the shorter format. -/
theorem b256 (x0 : Vec Ideal S1x4x1024x128 .bf16) (x1 x2 : Vec Ideal S1x1x1024x128 .bf16) (g : Fin 4)
    (q : FVec Ideal S1x1x256x128 .bf16) (k : FVec Ideal S1x1x256x128 .bf16) (v : FVec Ideal S128x256 .bf16)
    (hq : ∀ (a : Fin 256) (r : Fin 1024), r.val = 0 + a.val → ∀ x, q (ix4 0 0 a x) = x0 (ix4 0 g r x))
    (hk : ∀ (t : Fin 256) x, k (ix4 0 0 t x) = x1 (ix4 0 0 (t.castLE (by omega)) x))
    (hv : ∀ (d : Fin 128) (t : Fin 256), v (ix2 d t) = x2 (ix4 0 0 (t.castLE (by omega)) d))
    (a : Fin 256) (d : Fin 128) (r : Fin 1024) (hr : r.val = 0 + a.val) : k0_pay12 (F := Ideal) (k0_pay11 (F := Ideal) q k v) (ix4 0 0 a d) = brow x0 x1 x2 g r d := by
  rw [← val256 x0 x1 x2 g q k v hq hk hv a d r hr]
  generalize ho : k0_pay9 (F := Ideal) q k v = O
  pointwise [k0_pay12, k0_pay11, ho]

/-- The piece of codes. -/
theorem c256 (x0 : Vec Ideal S1x4x1024x128 .bf16) (x1 x2 : Vec Ideal S1x1x1024x128 .bf16) (g : Fin 4)
    (q : FVec Ideal S1x1x256x128 .bf16) (k : FVec Ideal S1x1x256x128 .bf16) (v : FVec Ideal S128x256 .bf16)
    (hq : ∀ (a : Fin 256) (r : Fin 1024), r.val = 0 + a.val → ∀ x, q (ix4 0 0 a x) = x0 (ix4 0 g r x))
    (hk : ∀ (t : Fin 256) x, k (ix4 0 0 t x) = x1 (ix4 0 0 (t.castLE (by omega)) x))
    (hv : ∀ (d : Fin 128) (t : Fin 256), v (ix2 d t) = x2 (ix4 0 0 (t.castLE (by omega)) d))
    (a : Fin 256) (d : Fin 128) (r : Fin 1024) (hr : r.val = 0 + a.val) : k0_pay13 (F := Ideal) (k0_pay9 (F := Ideal) q k v) (ix4 0 0 a d) = code (brow x0 x1 x2 g r d) := by
  rw [← val256 x0 x1 x2 g q k v hq hk hv a d r hr]
  generalize ho : k0_pay9 (F := Ideal) q k v = O
  unfold code
  pointwise [k0_pay13, ho]

/-! ## 512 keys -/

/-- The outputs. -/
theorem val512 (x0 : Vec Ideal S1x4x1024x128 .bf16) (x1 x2 : Vec Ideal S1x1x1024x128 .bf16) (g : Fin 4)
    (q : FVec Ideal S1x1x256x128 .bf16) (k : FVec Ideal S1x1x512x128 .bf16) (v : FVec Ideal S128x512 .bf16)
    (hq : ∀ (a : Fin 256) (r : Fin 1024), r.val = 256 + a.val → ∀ x, q (ix4 0 0 a x) = x0 (ix4 0 g r x))
    (hk : ∀ (t : Fin 512) x, k (ix4 0 0 t x) = x1 (ix4 0 0 (t.castLE (by omega)) x))
    (hv : ∀ (d : Fin 128) (t : Fin 512), v (ix2 d t) = x2 (ix4 0 0 (t.castLE (by omega)) d))
    (a : Fin 256) (d : Fin 128) (r : Fin 1024) (hr : r.val = 256 + a.val) : k0_pay21 (F := Ideal) q k v (ix2 a d) = brow x0 x1 x2 g r d :=
  (row512 q k v a d).trans (block_row 256 rfl (by omega) x0 x1 x2 g a r hr d _ _ _ (fun x => hq a r hr x) (fun t x => hk t x) (fun t => hv d t))

/-- The piece of outputs. -/
theorem o512 (x0 : Vec Ideal S1x4x1024x128 .bf16) (x1 x2 : Vec Ideal S1x1x1024x128 .bf16) (g : Fin 4)
    (q : FVec Ideal S1x1x256x128 .bf16) (k : FVec Ideal S1x1x512x128 .bf16) (v : FVec Ideal S128x512 .bf16)
    (hq : ∀ (a : Fin 256) (r : Fin 1024), r.val = 256 + a.val → ∀ x, q (ix4 0 0 a x) = x0 (ix4 0 g r x))
    (hk : ∀ (t : Fin 512) x, k (ix4 0 0 t x) = x1 (ix4 0 0 (t.castLE (by omega)) x))
    (hv : ∀ (d : Fin 128) (t : Fin 512), v (ix2 d t) = x2 (ix4 0 0 (t.castLE (by omega)) d))
    (a : Fin 256) (d : Fin 128) (r : Fin 1024) (hr : r.val = 256 + a.val) : k0_pay22 (F := Ideal) q k v (ix4 0 0 a d) = brow x0 x1 x2 g r d := by
  rw [← val512 x0 x1 x2 g q k v hq hk hv a d r hr]
  generalize ho : k0_pay21 (F := Ideal) q k v = O
  pointwise [k0_pay22, ho]

/-- The piece of outputs in the shorter format. -/
theorem b512 (x0 : Vec Ideal S1x4x1024x128 .bf16) (x1 x2 : Vec Ideal S1x1x1024x128 .bf16) (g : Fin 4)
    (q : FVec Ideal S1x1x256x128 .bf16) (k : FVec Ideal S1x1x512x128 .bf16) (v : FVec Ideal S128x512 .bf16)
    (hq : ∀ (a : Fin 256) (r : Fin 1024), r.val = 256 + a.val → ∀ x, q (ix4 0 0 a x) = x0 (ix4 0 g r x))
    (hk : ∀ (t : Fin 512) x, k (ix4 0 0 t x) = x1 (ix4 0 0 (t.castLE (by omega)) x))
    (hv : ∀ (d : Fin 128) (t : Fin 512), v (ix2 d t) = x2 (ix4 0 0 (t.castLE (by omega)) d))
    (a : Fin 256) (d : Fin 128) (r : Fin 1024) (hr : r.val = 256 + a.val) : k0_pay23 (F := Ideal) q k v (ix4 0 0 a d) = brow x0 x1 x2 g r d := by
  rw [← val512 x0 x1 x2 g q k v hq hk hv a d r hr]
  generalize ho : k0_pay21 (F := Ideal) q k v = O
  pointwise [k0_pay23, ho]

/-- The piece of codes. -/
theorem c512 (x0 : Vec Ideal S1x4x1024x128 .bf16) (x1 x2 : Vec Ideal S1x1x1024x128 .bf16) (g : Fin 4)
    (q : FVec Ideal S1x1x256x128 .bf16) (k : FVec Ideal S1x1x512x128 .bf16) (v : FVec Ideal S128x512 .bf16)
    (hq : ∀ (a : Fin 256) (r : Fin 1024), r.val = 256 + a.val → ∀ x, q (ix4 0 0 a x) = x0 (ix4 0 g r x))
    (hk : ∀ (t : Fin 512) x, k (ix4 0 0 t x) = x1 (ix4 0 0 (t.castLE (by omega)) x))
    (hv : ∀ (d : Fin 128) (t : Fin 512), v (ix2 d t) = x2 (ix4 0 0 (t.castLE (by omega)) d))
    (a : Fin 256) (d : Fin 128) (r : Fin 1024) (hr : r.val = 256 + a.val) : k0_pay24 (F := Ideal) (k0_pay21 (F := Ideal) q k v) (ix4 0 0 a d) = code (brow x0 x1 x2 g r d) := by
  rw [← val512 x0 x1 x2 g q k v hq hk hv a d r hr]
  generalize ho : k0_pay21 (F := Ideal) q k v = O
  unfold code
  pointwise [k0_pay24, ho]

/-! ## 768 keys -/

/-- The outputs. -/
theorem val768 (x0 : Vec Ideal S1x4x1024x128 .bf16) (x1 x2 : Vec Ideal S1x1x1024x128 .bf16) (g : Fin 4)
    (q : FVec Ideal S1x1x256x128 .bf16) (k : FVec Ideal S1x1x768x128 .bf16) (v : FVec Ideal S128x768 .bf16)
    (hq : ∀ (a : Fin 256) (r : Fin 1024), r.val = 512 + a.val → ∀ x, q (ix4 0 0 a x) = x0 (ix4 0 g r x))
    (hk : ∀ (t : Fin 768) x, k (ix4 0 0 t x) = x1 (ix4 0 0 (t.castLE (by omega)) x))
    (hv : ∀ (d : Fin 128) (t : Fin 768), v (ix2 d t) = x2 (ix4 0 0 (t.castLE (by omega)) d))
    (a : Fin 256) (d : Fin 128) (r : Fin 1024) (hr : r.val = 512 + a.val) : k0_pay34 (F := Ideal) (k0_pay28 (F := Ideal) q) (k0_pay29 (F := Ideal) k) v (ix2 a d) = brow x0 x1 x2 g r d :=
  (row768 q k v a d).trans (block_row 512 rfl (by omega) x0 x1 x2 g a r hr d _ _ _ (fun x => hq a r hr x) (fun t x => hk t x) (fun t => hv d t))

/-- The piece of outputs. -/
theorem o768 (x0 : Vec Ideal S1x4x1024x128 .bf16) (x1 x2 : Vec Ideal S1x1x1024x128 .bf16) (g : Fin 4)
    (q : FVec Ideal S1x1x256x128 .bf16) (k : FVec Ideal S1x1x768x128 .bf16) (v : FVec Ideal S128x768 .bf16)
    (hq : ∀ (a : Fin 256) (r : Fin 1024), r.val = 512 + a.val → ∀ x, q (ix4 0 0 a x) = x0 (ix4 0 g r x))
    (hk : ∀ (t : Fin 768) x, k (ix4 0 0 t x) = x1 (ix4 0 0 (t.castLE (by omega)) x))
    (hv : ∀ (d : Fin 128) (t : Fin 768), v (ix2 d t) = x2 (ix4 0 0 (t.castLE (by omega)) d))
    (a : Fin 256) (d : Fin 128) (r : Fin 1024) (hr : r.val = 512 + a.val) : k0_pay35 (F := Ideal) (k0_pay28 (F := Ideal) q) (k0_pay29 (F := Ideal) k) v (ix4 0 0 a d) = brow x0 x1 x2 g r d := by
  rw [← val768 x0 x1 x2 g q k v hq hk hv a d r hr]
  generalize ho : k0_pay34 (F := Ideal) (k0_pay28 (F := Ideal) q) (k0_pay29 (F := Ideal) k) v = O
  pointwise [k0_pay35, ho]

/-- The piece of outputs in the shorter format. -/
theorem b768 (x0 : Vec Ideal S1x4x1024x128 .bf16) (x1 x2 : Vec Ideal S1x1x1024x128 .bf16) (g : Fin 4)
    (q : FVec Ideal S1x1x256x128 .bf16) (k : FVec Ideal S1x1x768x128 .bf16) (v : FVec Ideal S128x768 .bf16)
    (hq : ∀ (a : Fin 256) (r : Fin 1024), r.val = 512 + a.val → ∀ x, q (ix4 0 0 a x) = x0 (ix4 0 g r x))
    (hk : ∀ (t : Fin 768) x, k (ix4 0 0 t x) = x1 (ix4 0 0 (t.castLE (by omega)) x))
    (hv : ∀ (d : Fin 128) (t : Fin 768), v (ix2 d t) = x2 (ix4 0 0 (t.castLE (by omega)) d))
    (a : Fin 256) (d : Fin 128) (r : Fin 1024) (hr : r.val = 512 + a.val) : k0_pay36 (F := Ideal) (k0_pay28 (F := Ideal) q) (k0_pay29 (F := Ideal) k) v (ix4 0 0 a d) = brow x0 x1 x2 g r d := by
  rw [← val768 x0 x1 x2 g q k v hq hk hv a d r hr]
  generalize ho : k0_pay34 (F := Ideal) (k0_pay28 (F := Ideal) q) (k0_pay29 (F := Ideal) k) v = O
  pointwise [k0_pay36, ho]

/-- The piece of codes. -/
theorem c768 (x0 : Vec Ideal S1x4x1024x128 .bf16) (x1 x2 : Vec Ideal S1x1x1024x128 .bf16) (g : Fin 4)
    (q : FVec Ideal S1x1x256x128 .bf16) (k : FVec Ideal S1x1x768x128 .bf16) (v : FVec Ideal S128x768 .bf16)
    (hq : ∀ (a : Fin 256) (r : Fin 1024), r.val = 512 + a.val → ∀ x, q (ix4 0 0 a x) = x0 (ix4 0 g r x))
    (hk : ∀ (t : Fin 768) x, k (ix4 0 0 t x) = x1 (ix4 0 0 (t.castLE (by omega)) x))
    (hv : ∀ (d : Fin 128) (t : Fin 768), v (ix2 d t) = x2 (ix4 0 0 (t.castLE (by omega)) d))
    (a : Fin 256) (d : Fin 128) (r : Fin 1024) (hr : r.val = 512 + a.val) : k0_pay38 (F := Ideal) (k0_pay37 (F := Ideal) (k0_pay28 (F := Ideal) q) (k0_pay29 (F := Ideal) k) v) (ix4 0 0 a d) = code (brow x0 x1 x2 g r d) := by
  rw [← val768 x0 x1 x2 g q k v hq hk hv a d r hr]
  generalize ho : k0_pay34 (F := Ideal) (k0_pay28 (F := Ideal) q) (k0_pay29 (F := Ideal) k) v = O
  unfold code
  pointwise [k0_pay38, k0_pay37, ho]

/-! ## 1024 keys -/

/-- The outputs. -/
theorem val1024 (x0 : Vec Ideal S1x4x1024x128 .bf16) (x1 x2 : Vec Ideal S1x1x1024x128 .bf16) (g : Fin 4)
    (q : FVec Ideal S1x1x256x128 .bf16) (k : FVec Ideal S1x1x1024x128 .bf16) (v : FVec Ideal S128x1024 .bf16)
    (hq : ∀ (a : Fin 256) (r : Fin 1024), r.val = 768 + a.val → ∀ x, q (ix4 0 0 a x) = x0 (ix4 0 g r x))
    (hk : ∀ (t : Fin 1024) x, k (ix4 0 0 t x) = x1 (ix4 0 0 (t.castLE (by omega)) x))
    (hv : ∀ (d : Fin 128) (t : Fin 1024), v (ix2 d t) = x2 (ix4 0 0 (t.castLE (by omega)) d))
    (a : Fin 256) (d : Fin 128) (r : Fin 1024) (hr : r.val = 768 + a.val) : k0_pay47 (F := Ideal) (k0_pay42 (F := Ideal) q k) trip_k0_t1.sl.v233 trip_k0_t1.sl.v234 768#32 v (ix2 a d) = brow x0 x1 x2 g r d :=
  (row1024 q k v a d).trans (block_row 768 rfl (by omega) x0 x1 x2 g a r hr d _ _ _ (fun x => hq a r hr x) (fun t x => hk t x) (fun t => hv d t))

/-- The piece of outputs. -/
theorem o1024 (x0 : Vec Ideal S1x4x1024x128 .bf16) (x1 x2 : Vec Ideal S1x1x1024x128 .bf16) (g : Fin 4)
    (q : FVec Ideal S1x1x256x128 .bf16) (k : FVec Ideal S1x1x1024x128 .bf16) (v : FVec Ideal S128x1024 .bf16)
    (hq : ∀ (a : Fin 256) (r : Fin 1024), r.val = 768 + a.val → ∀ x, q (ix4 0 0 a x) = x0 (ix4 0 g r x))
    (hk : ∀ (t : Fin 1024) x, k (ix4 0 0 t x) = x1 (ix4 0 0 (t.castLE (by omega)) x))
    (hv : ∀ (d : Fin 128) (t : Fin 1024), v (ix2 d t) = x2 (ix4 0 0 (t.castLE (by omega)) d))
    (a : Fin 256) (d : Fin 128) (r : Fin 1024) (hr : r.val = 768 + a.val) : k0_pay48 (F := Ideal) (k0_pay42 (F := Ideal) q k) trip_k0_t1.sl.v233 trip_k0_t1.sl.v234 768#32 v (ix4 0 0 a d) = brow x0 x1 x2 g r d := by
  rw [← val1024 x0 x1 x2 g q k v hq hk hv a d r hr]
  generalize ho : k0_pay47 (F := Ideal) (k0_pay42 (F := Ideal) q k) trip_k0_t1.sl.v233 trip_k0_t1.sl.v234 768#32 v = O
  pointwise [k0_pay48, ho]

/-- The piece of outputs in the shorter format. -/
theorem b1024 (x0 : Vec Ideal S1x4x1024x128 .bf16) (x1 x2 : Vec Ideal S1x1x1024x128 .bf16) (g : Fin 4)
    (q : FVec Ideal S1x1x256x128 .bf16) (k : FVec Ideal S1x1x1024x128 .bf16) (v : FVec Ideal S128x1024 .bf16)
    (hq : ∀ (a : Fin 256) (r : Fin 1024), r.val = 768 + a.val → ∀ x, q (ix4 0 0 a x) = x0 (ix4 0 g r x))
    (hk : ∀ (t : Fin 1024) x, k (ix4 0 0 t x) = x1 (ix4 0 0 (t.castLE (by omega)) x))
    (hv : ∀ (d : Fin 128) (t : Fin 1024), v (ix2 d t) = x2 (ix4 0 0 (t.castLE (by omega)) d))
    (a : Fin 256) (d : Fin 128) (r : Fin 1024) (hr : r.val = 768 + a.val) : k0_pay49 (F := Ideal) (k0_pay42 (F := Ideal) q k) trip_k0_t1.sl.v233 trip_k0_t1.sl.v234 768#32 v (ix4 0 0 a d) = brow x0 x1 x2 g r d := by
  rw [← val1024 x0 x1 x2 g q k v hq hk hv a d r hr]
  generalize ho : k0_pay47 (F := Ideal) (k0_pay42 (F := Ideal) q k) trip_k0_t1.sl.v233 trip_k0_t1.sl.v234 768#32 v = O
  pointwise [k0_pay49, ho]

/-- The piece of codes. -/
theorem c1024 (x0 : Vec Ideal S1x4x1024x128 .bf16) (x1 x2 : Vec Ideal S1x1x1024x128 .bf16) (g : Fin 4)
    (q : FVec Ideal S1x1x256x128 .bf16) (k : FVec Ideal S1x1x1024x128 .bf16) (v : FVec Ideal S128x1024 .bf16)
    (hq : ∀ (a : Fin 256) (r : Fin 1024), r.val = 768 + a.val → ∀ x, q (ix4 0 0 a x) = x0 (ix4 0 g r x))
    (hk : ∀ (t : Fin 1024) x, k (ix4 0 0 t x) = x1 (ix4 0 0 (t.castLE (by omega)) x))
    (hv : ∀ (d : Fin 128) (t : Fin 1024), v (ix2 d t) = x2 (ix4 0 0 (t.castLE (by omega)) d))
    (a : Fin 256) (d : Fin 128) (r : Fin 1024) (hr : r.val = 768 + a.val) : k0_pay50 (F := Ideal) (k0_pay42 (F := Ideal) q k) trip_k0_t1.sl.v233 trip_k0_t1.sl.v234 768#32 v (ix4 0 0 a d) = code (brow x0 x1 x2 g r d) := by
  rw [← val1024 x0 x1 x2 g q k v hq hk hv a d r hr]
  generalize ho : k0_pay47 (F := Ideal) (k0_pay42 (F := Ideal) q k) trip_k0_t1.sl.v233 trip_k0_t1.sl.v234 768#32 v = O
  unfold code
  pointwise [k0_pay50, ho]

/-- A row's codes. -/
def crow (x0 : Vec Ideal S1x4x1024x128 .bf16) (x1 x2 : Vec Ideal S1x1x1024x128 .bf16) (g : Fin 4) (r : Fin 1024) (d : Fin 128) : EReal := code (brow x0 x1 x2 g r d)

/-! ## The pieces of the trips -/

section Pieces

variable (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
  (w : BitVec 32) (x0 : Vec Ideal S1x4x1024x128 .bf16) (x1 x2 : Vec Ideal S1x1x1024x128 .bf16) (k : Fin k0_t1_loop.trips)

/-- A trip's pieces of outputs. -/
theorem trip_val3 (q) (hq : q ∈ (trip (F := Ideal) c i arg2 harg2 arg3 harg3 arg4 harg4 arg5 harg5 arg6 harg6 arg7 harg7 arg8 harg8 arg9 harg9 arg10 harg10 w (harg2.unread x0) (harg3.unread x1) (filled c arg4 harg4 arg10 x2) k).1) (x : q.1.shape.Idx) :
    q.2 x = brow x0 x1 x2 (q.1.emb x 1) (q.1.emb x 2) (q.1.emb x 3) := by
  have hk : k.val < 4 := trips_eq ▸ k.isLt
  unfold trip tripL_k0_t1 trip_k0_t1 at hq
  dsimp only at hq
  simp only [List.mem_cons, List.not_mem_nil, or_false] at hq
  rcases hq with rfl | rfl | rfl | rfl
  · exact at_piece (k0_off7 k) ⟨k.val, hk⟩ 768 (by omega) (k0_off7_eq k) (k0_off7_inb k) _ (brow x0 x1 x2) (o1024 x0 x1 x2 ⟨k.val, hk⟩ _ _ _
      (fun a r hr z => load_q arg2 harg2 x0 _ _ 768 (k0_off7_eq k) _ a r hr z) (fun t z => load_k arg3 harg3 x1 1024 (by omega) _ t z)
      (fun d t => load_v c arg4 harg4 arg10 x2 1024 (by omega) _ d t)) x
  · exact at_piece (k0_off5 k) ⟨k.val, hk⟩ 512 (by omega) (k0_off5_eq k) (k0_off5_inb k) _ (brow x0 x1 x2) (o768 x0 x1 x2 ⟨k.val, hk⟩ _ _ _
      (fun a r hr z => load_q arg2 harg2 x0 _ _ 512 (k0_off5_eq k) _ a r hr z) (fun t z => load_k arg3 harg3 x1 768 (by omega) _ t z)
      (fun d t => load_v c arg4 harg4 arg10 x2 768 (by omega) _ d t)) x
  · exact at_piece (k0_off3 k) ⟨k.val, hk⟩ 256 (by omega) (k0_off3_eq k) (k0_off3_inb k) _ (brow x0 x1 x2) (o512 x0 x1 x2 ⟨k.val, hk⟩ _ _ _
      (fun a r hr z => load_q arg2 harg2 x0 _ _ 256 (k0_off3_eq k) _ a r hr z) (fun t z => load_k arg3 harg3 x1 512 (by omega) _ t z)
      (fun d t => load_v c arg4 harg4 arg10 x2 512 (by omega) _ d t)) x
  · exact at_piece (k0_off1 k) ⟨k.val, hk⟩ 0 (by omega) (k0_off1_eq k) (k0_off1_inb k) _ (brow x0 x1 x2) (o256 x0 x1 x2 ⟨k.val, hk⟩ _ _ _
      (fun a r hr z => load_q arg2 harg2 x0 _ _ 0 (k0_off1_eq k) _ a r hr z) (fun t z => load_k arg3 harg3 x1 256 (by omega) _ t z)
      (fun d t => load_v c arg4 harg4 arg10 x2 256 (by omega) _ d t)) x

/-- A trip's pieces of outputs in the shorter format. -/
theorem trip_val4 (q) (hq : q ∈ (trip (F := Ideal) c i arg2 harg2 arg3 harg3 arg4 harg4 arg5 harg5 arg6 harg6 arg7 harg7 arg8 harg8 arg9 harg9 arg10 harg10 w (harg2.unread x0) (harg3.unread x1) (filled c arg4 harg4 arg10 x2) k).2.1) (x : q.1.shape.Idx) :
    q.2 x = brow x0 x1 x2 (q.1.emb x 1) (q.1.emb x 2) (q.1.emb x 3) := by
  have hk : k.val < 4 := trips_eq ▸ k.isLt
  unfold trip tripL_k0_t1 trip_k0_t1 at hq
  dsimp only at hq
  simp only [List.mem_cons, List.not_mem_nil, or_false] at hq
  rcases hq with rfl | rfl | rfl | rfl
  · exact at_piece (k0_off7 k) ⟨k.val, hk⟩ 768 (by omega) (k0_off7_eq k) (k0_off7_inb k) _ (brow x0 x1 x2) (b1024 x0 x1 x2 ⟨k.val, hk⟩ _ _ _
      (fun a r hr z => load_q arg2 harg2 x0 _ _ 768 (k0_off7_eq k) _ a r hr z) (fun t z => load_k arg3 harg3 x1 1024 (by omega) _ t z)
      (fun d t => load_v c arg4 harg4 arg10 x2 1024 (by omega) _ d t)) x
  · exact at_piece (k0_off5 k) ⟨k.val, hk⟩ 512 (by omega) (k0_off5_eq k) (k0_off5_inb k) _ (brow x0 x1 x2) (b768 x0 x1 x2 ⟨k.val, hk⟩ _ _ _
      (fun a r hr z => load_q arg2 harg2 x0 _ _ 512 (k0_off5_eq k) _ a r hr z) (fun t z => load_k arg3 harg3 x1 768 (by omega) _ t z)
      (fun d t => load_v c arg4 harg4 arg10 x2 768 (by omega) _ d t)) x
  · exact at_piece (k0_off3 k) ⟨k.val, hk⟩ 256 (by omega) (k0_off3_eq k) (k0_off3_inb k) _ (brow x0 x1 x2) (b512 x0 x1 x2 ⟨k.val, hk⟩ _ _ _
      (fun a r hr z => load_q arg2 harg2 x0 _ _ 256 (k0_off3_eq k) _ a r hr z) (fun t z => load_k arg3 harg3 x1 512 (by omega) _ t z)
      (fun d t => load_v c arg4 harg4 arg10 x2 512 (by omega) _ d t)) x
  · exact at_piece (k0_off1 k) ⟨k.val, hk⟩ 0 (by omega) (k0_off1_eq k) (k0_off1_inb k) _ (brow x0 x1 x2) (b256 x0 x1 x2 ⟨k.val, hk⟩ _ _ _
      (fun a r hr z => load_q arg2 harg2 x0 _ _ 0 (k0_off1_eq k) _ a r hr z) (fun t z => load_k arg3 harg3 x1 256 (by omega) _ t z)
      (fun d t => load_v c arg4 harg4 arg10 x2 256 (by omega) _ d t)) x

/-- A trip's pieces of codes. -/
theorem trip_val5 (q) (hq : q ∈ (trip (F := Ideal) c i arg2 harg2 arg3 harg3 arg4 harg4 arg5 harg5 arg6 harg6 arg7 harg7 arg8 harg8 arg9 harg9 arg10 harg10 w (harg2.unread x0) (harg3.unread x1) (filled c arg4 harg4 arg10 x2) k).2.2.1) (x : q.1.shape.Idx) :
    q.2 x = crow x0 x1 x2 (q.1.emb x 1) (q.1.emb x 2) (q.1.emb x 3) := by
  have hk : k.val < 4 := trips_eq ▸ k.isLt
  unfold trip tripL_k0_t1 trip_k0_t1 at hq
  dsimp only at hq
  simp only [List.mem_cons, List.not_mem_nil, or_false] at hq
  rcases hq with rfl | rfl | rfl | rfl
  · exact at_piece (k0_off7 k) ⟨k.val, hk⟩ 768 (by omega) (k0_off7_eq k) (k0_off7_inb k) _ (crow x0 x1 x2) (c1024 x0 x1 x2 ⟨k.val, hk⟩ _ _ _
      (fun a r hr z => load_q arg2 harg2 x0 _ _ 768 (k0_off7_eq k) _ a r hr z) (fun t z => load_k arg3 harg3 x1 1024 (by omega) _ t z)
      (fun d t => load_v c arg4 harg4 arg10 x2 1024 (by omega) _ d t)) x
  · exact at_piece (k0_off5 k) ⟨k.val, hk⟩ 512 (by omega) (k0_off5_eq k) (k0_off5_inb k) _ (crow x0 x1 x2) (c768 x0 x1 x2 ⟨k.val, hk⟩ _ _ _
      (fun a r hr z => load_q arg2 harg2 x0 _ _ 512 (k0_off5_eq k) _ a r hr z) (fun t z => load_k arg3 harg3 x1 768 (by omega) _ t z)
      (fun d t => load_v c arg4 harg4 arg10 x2 768 (by omega) _ d t)) x
  · exact at_piece (k0_off3 k) ⟨k.val, hk⟩ 256 (by omega) (k0_off3_eq k) (k0_off3_inb k) _ (crow x0 x1 x2) (c512 x0 x1 x2 ⟨k.val, hk⟩ _ _ _
      (fun a r hr z => load_q arg2 harg2 x0 _ _ 256 (k0_off3_eq k) _ a r hr z) (fun t z => load_k arg3 harg3 x1 512 (by omega) _ t z)
      (fun d t => load_v c arg4 harg4 arg10 x2 512 (by omega) _ d t)) x
  · exact at_piece (k0_off1 k) ⟨k.val, hk⟩ 0 (by omega) (k0_off1_eq k) (k0_off1_inb k) _ (crow x0 x1 x2) (c256 x0 x1 x2 ⟨k.val, hk⟩ _ _ _
      (fun a r hr z => load_q arg2 harg2 x0 _ _ 0 (k0_off1_eq k) _ a r hr z) (fun t z => load_k arg3 harg3 x1 256 (by omega) _ t z)
      (fun d t => load_v c arg4 harg4 arg10 x2 256 (by omega) _ d t)) x

end Pieces

/-! ## The blocks -/

/-- The block of outputs. -/
theorem out3_at (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec Ideal S1x4x1024x128 .bf16) (x1 x2 : Vec Ideal S1x1x1024x128 .bf16) (y : S1x4x1024x128.Idx) :
    out3 (F := Ideal) c i arg2 harg2 arg3 harg3 arg4 harg4 arg5 harg5 arg6 harg6 arg7 harg7 arg8 harg8 arg9 harg9 arg10 harg10 x0 x1 x2 y = brow x0 x1 x2 (y 1) (y 2) (y 3) := by
  unfold out3
  refine View.read_writes_apply_of_pieces (Val := Elt Ideal) VO0_3 VO0_3.junk (fun y : S1x4x1024x128.Idx => brow x0 x1 x2 (y 1) (y 2) (y 3)) _ (fun q hq x => ?_) y
    (cover3 c i arg2 harg2 arg3 harg3 arg4 harg4 arg5 harg5 arg6 harg6 arg7 harg7 arg8 harg8 arg9 harg9 arg10 harg10 x0 x1 x2 y)
  unfold kernelRun at hq
  obtain ⟨k, hk⟩ := of_mem_pcs3 c i arg2 harg2 arg3 harg3 arg4 harg4 arg5 harg5 arg6 harg6 arg7 harg7 arg8 harg8 arg9 harg9 arg10 harg10 _ _ _ _ _ le_rfl q hq
  exact trip_val3 c i arg2 harg2 arg3 harg3 arg4 harg4 arg5 harg5 arg6 harg6 arg7 harg7 arg8 harg8 arg9 harg9 arg10 harg10 _ x0 x1 x2 k q hk x

/-- The block of outputs in the shorter format. -/
theorem out4_at (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec Ideal S1x4x1024x128 .bf16) (x1 x2 : Vec Ideal S1x1x1024x128 .bf16) (y : S1x4x1024x128.Idx) :
    out4 (F := Ideal) c i arg2 harg2 arg3 harg3 arg4 harg4 arg5 harg5 arg6 harg6 arg7 harg7 arg8 harg8 arg9 harg9 arg10 harg10 x0 x1 x2 y = brow x0 x1 x2 (y 1) (y 2) (y 3) := by
  unfold out4
  refine View.read_writes_apply_of_pieces (Val := Elt Ideal) VO0_4 VO0_4.junk (fun y : S1x4x1024x128.Idx => brow x0 x1 x2 (y 1) (y 2) (y 3)) _ (fun q hq x => ?_) y
    (cover4 c i arg2 harg2 arg3 harg3 arg4 harg4 arg5 harg5 arg6 harg6 arg7 harg7 arg8 harg8 arg9 harg9 arg10 harg10 x0 x1 x2 y)
  unfold kernelRun at hq
  obtain ⟨k, hk⟩ := of_mem_pcs4 c i arg2 harg2 arg3 harg3 arg4 harg4 arg5 harg5 arg6 harg6 arg7 harg7 arg8 harg8 arg9 harg9 arg10 harg10 _ _ _ _ _ le_rfl q hq
  exact trip_val4 c i arg2 harg2 arg3 harg3 arg4 harg4 arg5 harg5 arg6 harg6 arg7 harg7 arg8 harg8 arg9 harg9 arg10 harg10 _ x0 x1 x2 k q hk x

/-- The block of codes. -/
theorem out5_at (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec Ideal S1x4x1024x128 .bf16) (x1 x2 : Vec Ideal S1x1x1024x128 .bf16) (y : S1x4x1024x128.Idx) :
    out5 (F := Ideal) c i arg2 harg2 arg3 harg3 arg4 harg4 arg5 harg5 arg6 harg6 arg7 harg7 arg8 harg8 arg9 harg9 arg10 harg10 x0 x1 x2 y = crow x0 x1 x2 (y 1) (y 2) (y 3) := by
  unfold out5
  refine View.read_writes_apply_of_pieces (Val := Elt Ideal) VO0_5 VO0_5.junk (fun y : S1x4x1024x128.Idx => crow x0 x1 x2 (y 1) (y 2) (y 3)) _ (fun q hq x => ?_) y
    (cover5 c i arg2 harg2 arg3 harg3 arg4 harg4 arg5 harg5 arg6 harg6 arg7 harg7 arg8 harg8 arg9 harg9 arg10 harg10 x0 x1 x2 y)
  unfold kernelRun at hq
  obtain ⟨k, hk⟩ := of_mem_pcs5 c i arg2 harg2 arg3 harg3 arg4 harg4 arg5 harg5 arg6 harg6 arg7 harg7 arg8 harg8 arg9 harg9 arg10 harg10 _ _ _ _ _ le_rfl q hq
  exact trip_val5 c i arg2 harg2 arg3 harg3 arg4 harg4 arg5 harg5 arg6 harg6 arg7 harg7 arg8 harg8 arg9 harg9 arg10 harg10 _ x0 x1 x2 k q hk x

end Cert.KFwdIdeal.Hand
-- ==== Proof.FwdValue.lean ====
/- The attention forward step's three arrays, as the reference's functions of its argument. -/
module

public import proofs.«01_k».proof.Proof.FwdTrips

@[expose] public section

set_option maxRecDepth 16384

noncomputable section

open Idealize.ShloMosaic Idealize.ShloMosaic.TcCoe Idealize.SL.Sem
open Idealize.ShloMosaic.Pipeline (Dat)

namespace Cert.KFwdIdeal.Hand
open Cert.KFwdIdeal Cert.KFwdIdeal.Gen Cert.Fwd

variable (m : (ℓ : Loc nD τ sig) → Buf (Elt Ideal) ℓ)

/-- The blocks of the six windows the claim reads, at every grid point. -/
theorem idx : ∀ t : Fin cfg0.N, win0_0.index t = ![t.val / 6, t.val % 6, 0, 0] ∧ win0_1.index t = ![t.val / 6, 24 + t.val % 6, 0, 0]
    ∧ win0_2.index t = ![t.val / 6, 30 + t.val % 6, 0, 0] ∧ win0_3.index t = ![t.val / 6, t.val % 6, 0, 0]
    ∧ win0_4.index t = ![t.val / 6, t.val % 6, 0, 0] ∧ win0_5.index t = ![t.val / 6, t.val % 6, 0, 0] :=
  (by decide +kernel : ∀ t : Fin grid0.N, _)

/-- The query block, over any array. -/
theorem blk_q (X : FVec Ideal S2x36x1024x128 .bf16) (t : Fin cfg0.N) (z : S1x4x1024x128.Idx) (w : S2x36x1024x128.Idx)
    (h0 : (w 0).val = t.val / 6) (h1 : (w 1).val = t.val % 6 * 4 + (z 1).val) (h2 : (w 2).val = (z 2).val) (h3 : (w 3).val = (z 3).val) :
    ((cfg0.win 0).blk t).view.read (Elt Ideal) X z = X w := by
  have hz : (z 0).val < 1 := (z 0).isLt
  blk_ext [idx t]

/-- The key block, over any array. -/
theorem blk_k (X : FVec Ideal S2x36x1024x128 .bf16) (t : Fin cfg0.N) (z : S1x1x1024x128.Idx) (w : S2x36x1024x128.Idx)
    (h0 : (w 0).val = t.val / 6) (h1 : (w 1).val = 24 + t.val % 6) (h2 : (w 2).val = (z 2).val) (h3 : (w 3).val = (z 3).val) :
    ((cfg0.win 1).blk t).view.read (Elt Ideal) X z = X w := by
  have hz : (z 0).val < 1 := (z 0).isLt
  have hz1 : (z 1).val < 1 := (z 1).isLt
  blk_ext [idx t]

/-- The value block, over any array. -/
theorem blk_v (X : FVec Ideal S2x36x1024x128 .bf16) (t : Fin cfg0.N) (z : S1x1x1024x128.Idx) (w : S2x36x1024x128.Idx)
    (h0 : (w 0).val = t.val / 6) (h1 : (w 1).val = 30 + t.val % 6) (h2 : (w 2).val = (z 2).val) (h3 : (w 3).val = (z 3).val) :
    ((cfg0.win 2).blk t).view.read (Elt Ideal) X z = X w := by
  have hz : (z 0).val < 1 := (z 0).isLt
  have hz1 : (z 1).val < 1 := (z 1).isLt
  blk_ext [idx t]

/-- A block's row of attention is the reference's row of its batch and head. -/
theorem brow_ref (c : Dev nD) (t : Fin cfg0.N) (g : Fin 4) (s : Fin 1024) (d : Fin 128) (j : S2x24x1024x128.Idx)
    (h0 : (j 0).val = t.val / 6) (h1 : (j 1).val = t.val % 6 * 4 + g.val) (h2 : (j 2).val = s.val) (h3 : (j 3).val = d.val) :
    brow (iblk m c 0 t) (iblk m c 1 t) (iblk m c 2 t) g s d = REFo (m ((c : Thread nD τ).loc main_arg0)) j := by
  have hg := g.isLt
  have hh : (j 1).val / 4 = t.val % 6 := by omega
  obtain rfl : j 2 = s := Fin.ext h2
  obtain rfl : j 3 = d := Fin.ext h3
  rw [← V_main_arg0 m c]
  unfold brow REFo iblk
  generalize V m c main_arg0 = X
  refine congrArg₂ rrow (funext fun t' => ?_) (funext fun t' => ?_)
  · unfold bscore score
    by_cases h : t'.val ≤ (j 2).val
    · rw [if_pos h, if_pos h]
      refine congrArg (fun x : EReal => x * _) (Finset.sum_congr rfl fun x _ => ?_)
      exact congrArg₂ (fun a b : EReal => a * b) (blk_q X t _ _ h0 h1 rfl rfl) (blk_k X t _ _ h0 (by show 24 + (j 1).val / 4 = _; rw [hh]) rfl rfl)
    · rw [if_neg h, if_neg h]
  · exact blk_v X t _ _ h0 (by show 30 + (j 1).val / 4 = _; rw [hh]) rfl rfl

/-- The outputs: the kernel's array is the reference's function of the argument. -/
theorem final3 (c : Dev nD) : (dats m 0 c).arrAt 3 (cfgs 0).N = REFo (m ((c : Thread nD τ).loc main_arg0)) := by
  refine (dats m 0 c).arrAt_eq_of_covers 3 _ (by decide +kernel) fun t _ y => ?_
  have hy : (y 0).val < 1 := (y 0).isLt
  have e0 : ((((cfg0.win 3).blk t).view.emb y) 0 : ℕ) = t.val / 6 := by
    blk_simp [idx t] <;> try omega
  have e1 : ((((cfg0.win 3).blk t).view.emb y) 1 : ℕ) = t.val % 6 * 4 + (y 1 : ℕ) := by
    blk_simp [idx t] <;> try omega
  have e2 : ((((cfg0.win 3).blk t).view.emb y) 2 : ℕ) = (y 2 : ℕ) := by
    blk_simp [idx t] <;> try omega
  have e3 : ((((cfg0.win 3).blk t).view.emb y) 3 : ℕ) = (y 3 : ℕ) := by
    blk_simp [idx t] <;> try omega
  generalize ((cfg0.win 3).blk t).view.emb y = j at *
  blk_simp
  rw [after0_3, out3_at]
  exact brow_ref m c t (y 1) (y 2) (y 3) j e0 e1 e2 e3

/-- The outputs in the shorter format: likewise. -/
theorem final4 (c : Dev nD) : (dats m 0 c).arrAt 4 (cfgs 0).N = REFb (m ((c : Thread nD τ).loc main_arg0)) := by
  refine (dats m 0 c).arrAt_eq_of_covers 4 _ (by decide +kernel) fun t _ y => ?_
  have hy : (y 0).val < 1 := (y 0).isLt
  have e0 : ((((cfg0.win 4).blk t).view.emb y) 0 : ℕ) = t.val / 6 := by
    blk_simp [idx t] <;> try omega
  have e1 : ((((cfg0.win 4).blk t).view.emb y) 1 : ℕ) = t.val % 6 * 4 + (y 1 : ℕ) := by
    blk_simp [idx t] <;> try omega
  have e2 : ((((cfg0.win 4).blk t).view.emb y) 2 : ℕ) = (y 2 : ℕ) := by
    blk_simp [idx t] <;> try omega
  have e3 : ((((cfg0.win 4).blk t).view.emb y) 3 : ℕ) = (y 3 : ℕ) := by
    blk_simp [idx t] <;> try omega
  generalize ((cfg0.win 4).blk t).view.emb y = j at *
  blk_simp
  rw [after0_4, out4_at]
  exact brow_ref m c t (y 1) (y 2) (y 3) j e0 e1 e2 e3

/-- The codes of the outputs: likewise. -/
theorem final5 (c : Dev nD) : (dats m 0 c).arrAt 5 (cfgs 0).N = REFc (m ((c : Thread nD τ).loc main_arg0)) := by
  refine (dats m 0 c).arrAt_eq_of_covers 5 _ (by decide +kernel) fun t _ y => ?_
  have hy : (y 0).val < 1 := (y 0).isLt
  have e0 : ((((cfg0.win 5).blk t).view.emb y) 0 : ℕ) = t.val / 6 := by
    blk_simp [idx t] <;> try omega
  have e1 : ((((cfg0.win 5).blk t).view.emb y) 1 : ℕ) = t.val % 6 * 4 + (y 1 : ℕ) := by
    blk_simp [idx t] <;> try omega
  have e2 : ((((cfg0.win 5).blk t).view.emb y) 2 : ℕ) = (y 2 : ℕ) := by
    blk_simp [idx t] <;> try omega
  have e3 : ((((cfg0.win 5).blk t).view.emb y) 3 : ℕ) = (y 3 : ℕ) := by
    blk_simp [idx t] <;> try omega
  generalize ((cfg0.win 5).blk t).view.emb y = j at *
  blk_simp
  rw [after0_5, out5_at]
  exact congrArg code (brow_ref m c t (y 1) (y 2) (y 3) j e0 e1 e2 e3)

/-- Every run ends with the three results at their values and the argument unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = REFo (m ((c : Thread nD τ).loc main_arg0)) ∧
      r.2.mem ((c.tc : Thread nD τ).loc main_v0_1) = REFb (m ((c : Thread nD τ).loc main_arg0)) ∧
      r.2.mem ((c.tc : Thread nD τ).loc main_v0_2) = REFc (m ((c : Thread nD τ).loc main_arg0)) ∧
      r.2.mem ((c.tc : Thread nD τ).loc main_arg0) = m ((c.tc : Thread nD τ).loc main_arg0)) := by
  refine θ_run_mono (θ_run_and (Hand.run_main m g) (Hand.unchanged m g)) fun r h c => ?_
  obtain ⟨hr, hu⟩ := h
  exact ⟨(((dats m 0 c).toRForget_arrAt_iff (w := 3) rfl _ _).mp ((hr c).1 3)).trans (final3 m c),
    (((dats m 0 c).toRForget_arrAt_iff (w := 4) rfl _ _).mp ((hr c).1 4)).trans (final4 m c),
    (((dats m 0 c).toRForget_arrAt_iff (w := 5) rfl _ _).mp ((hr c).1 5)).trans (final5 m c), hu c⟩

end Cert.KFwdIdeal.Hand

end
-- ==== Proof.QkvBitsPoints.lean ====
/- The points of the projection call. The body stores the codes of the activations at the first point only (`cond0_0`);
   what follows says which windows a point stores into, and names the staging buffers of a point. -/
module

public import proofs.«01_k».proof.Proof.Gen.KQkv.Skeleton
public import proofs.«01_k».proof.Proof.Gen.KQkv.Frame
public import Idealize.ShloMosaic.Lib.Pipeline.TableIdle

@[expose] public section

-- membership in a rectangle of production extents (`View.cover_of_tiled`): the elaborator's structural look
-- recurses once per coordinate of the long axes
set_option maxRecDepth 16384

noncomputable section

namespace Cert.KQkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkv Cert.KQkv.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- After the first point the codes' window is idle: the body stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S2x2x1024x128 .bf16 := (Memref.whole cc0_stg4_0 : Memref sig .tc .vmem S2x2x1024x128 .bf16).view
/-- One staging buffer of output window 5, through which its contents are stated (`View.read_writes_of_cover`: the
    choice does not matter). -/
abbrev VO0_5 : View sig .tc .vmem S2048x3072 .fp8e4m3 := (Memref.whole cc0_stg5_0 : Memref sig .tc .vmem S2048x3072 .fp8e4m3).view
/-- Each window's current staging memref at point `t`, spelled as the pipeline passes it (`bodyAt0`), and its wholeness. -/
abbrev ms0_0 (t : Fin cfg0.N) : Memref sig .tc .vmem S2048x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x3072x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2x1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x3072 .fp8e4m3 := win0_5.stage (cfg0.slots t 5)
abbrev hs0_5 (t : Fin cfg0.N) : (ms0_5 t).IsWhole := hstage0_5 ((cfg0.slots t 5).cast nbuf0_5)

end Cert.KQkv.Hand

end
-- ==== Proof.QkvBitsRunA.lean ====
/- The body of the projection call at the first point, where it also stores the codes of the activations: the body run
   once, with the pieces its stores leave in the two output buffers. -/
module

public import proofs.«01_k».proof.Proof.QkvBitsPoints

@[expose] public section

-- membership in a rectangle of production extents (`View.cover_of_tiled`): the elaborator's structural look
-- recurses once per coordinate of the long axes
set_option maxRecDepth 16384

noncomputable section

namespace Cert.KQkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkv Cert.KQkv.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) :
    Σ' (L4 : List (View.Piece (Elt F) S2x2x1024x128 .bf16)), { L5 : List (View.Piece (Elt F) S2048x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_qkv_rope i arg1 harg1 arg2 harg2 arg3 harg3 arg4 harg4 arg5 harg5 arg6 harg6) K } := by
  refine ⟨?_, ?_, fun E K => ?run⟩
  case run =>
    simp only [cc0_qkv_rope_eq_skeleton]; unfold cc0_qkv_rope_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KQkv.Hand

end
-- ==== Proof.QkvBitsRunB.lean ====
/- The body of the projection call at a later point, where it leaves the codes alone: the body run once, with the pieces
   its stores leave in the buffer of the projections. -/
module

public import proofs.«01_k».proof.Proof.QkvBitsRunA

@[expose] public section

-- membership in a rectangle of production extents (`View.cover_of_tiled`): the elaborator's structural look
-- recurses once per coordinate of the long axes
set_option maxRecDepth 16384

noncomputable section

namespace Cert.KQkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkv Cert.KQkv.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 17: 17 of 18), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) :
    Σ' (L4 : List (View.Piece (Elt F) S2x2x1024x128 .bf16)), { L5 : List (View.Piece (Elt F) S2048x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5) -∗ K ⟨⟩))
          ⊢ wp frame (wpE (defs₀ (F := F)) Variants.none c none) E (cc0_qkv_rope i arg1 harg1 arg2 harg2 arg3 harg3 arg4 harg4 arg5 harg5 arg6 harg6) K } := by
  refine ⟨?_, [], fun E K => ?run⟩
  case run =>
    simp only [cc0_qkv_rope_eq_skeleton]; unfold cc0_qkv_rope_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.KQkv.Hand

end
-- ==== Proof.QkvBitsFrame.lean ====
/- The run of the projection call. What the two output buffers hold after each point (`outsAt0`), the body at any point
   (`sound_body`), the run of the whole call (`run_main`) and that it leaves its arguments unchanged (`frame`). -/
module

public import proofs.«01_k».proof.Proof.QkvBitsRunB
public import Idealize.ShloMosaic.Lib.Claim

@[expose] public section

-- membership in a rectangle of production extents (`View.cover_of_tiled`): the elaborator's structural look
-- recurses once per coordinate of the long axes
set_option maxRecDepth 16384

noncomputable section

namespace Cert.KQkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KQkv Cert.KQkv.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (8 stores of `S1x1x512x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) (y : S2x2x1024x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1x1x512x128.size (by sl_kernel_rfl) y

/-- What case A leaves in output 4's staging buffer: its pieces read back over junk. -/
def out0_A_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) : Vec F S2x2x1024x128 .bf16 :=
  VO0_4.read (Elt F) (VO0_4.writes (Elt F) VO0_4.junk (kernelRun0_A c i arg1 harg1 arg2 harg2 arg3 harg3 arg4 harg4 arg5 harg5 arg6 harg6 hc0 x0 x1 x2 x3).1)

/-- Case A's pieces for output 5 tile its block (1 store of `S2048x3072`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) (y : S2048x3072.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S2048x3072.size (by sl_kernel_rfl) y

/-- What case A leaves in output 5's staging buffer: its pieces read back over junk. -/
def out0_A_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : cond0_0 i)
    (x0 : Vec F S2048x3072 .bf16) (x1 : Vec F S2x3072x128 .fp8e4m3) (x2 : Vec F S2048x128 .f32) (x3 : Vec F S2048x128 .f32) : Vec F S2048x3072 .fp8e4m3 :=
  VO0_5.read (Elt F) (VO0_5.writes (Elt F) VO0_5.junk (kernelRun0_A c i arg1 harg1 arg2 harg2 arg3 harg3 arg4 harg4 arg5 harg5 arg6 harg6 hc0 x0 x1 x2 x3).2.1)

/-- Case B's pieces for output 4 tile its block (8 stores of `S1x1x512x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) (y : S2x2x1024x128.Idx) :
    ∃ pc ∈ (kernelRun0_B c i arg1 harg1 arg2 harg2 arg3 harg3 arg4 harg4 arg5 harg5 arg6 harg6 hc0 x0 x1 x2 x3 xo5).1, y ∈ pc.1.set :=
  View.cover_of_tiledL (kernelRun0_B c i arg1 harg1 arg2 harg2 arg3 harg3 arg4 harg4 arg5 harg5 arg6 harg6 hc0 x0 x1 x2 x3 xo5).1 S1x1x512x128.size (by sl_kernel_rfl) y

/-- What case B leaves in output 4's staging buffer: its pieces read back over junk. -/
def out0_B_4 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) : Vec F S2x2x1024x128 .bf16 :=
  VO0_4.read (Elt F) (VO0_4.writes (Elt F) VO0_4.junk (kernelRun0_B c i arg1 harg1 arg2 harg2 arg3 harg3 arg4 harg4 arg5 harg5 arg6 harg6 hc0 x0 x1 x2 x3 xo5).1)

/-- Case B stores nothing into output 5, a live window: its staging buffer holds what the point before left. -/
def out0_B_5 (c : Dev nD) (i : grid0.Coords) (arg1 : Memref sig .tc .vmem S2048x3072 .bf16) (harg1 : arg1.IsWhole) (arg2 : Memref sig .tc .vmem S2x3072x128 .fp8e4m3) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x2x1024x128 .bf16) (harg5 : arg5.IsWhole) (arg6 : Memref sig .tc .vmem S2048x3072 .fp8e4m3) (harg6 : arg6.IsWhole) (hc0 : ¬cond0_0 i)
    (x0 : Vec F S2048x3072 .bf16) (x1 : Vec F S2x3072x128 .fp8e4m3) (x2 : Vec F S2048x128 .f32) (x3 : Vec F S2048x128 .f32) (xo5 : Vec F S2048x3072 .fp8e4m3) : Vec F S2048x3072 .fp8e4m3 := xo5

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2x2x1024x128 .bf16 × Vec F S2048x3072 .fp8e4m3
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 18 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 18 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the body stores nothing there; the first point, which stores, is not idle) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 18 := lt_of_lt_of_eq t.isLt (show cfg0.N = 18 from N_0)
  rw [after0_5, after0_5]
  by_cases h0 : t.val % 18 = 0
  · rw [liveAt0_5_A t ((hcond0_0 t).mpr h0)] at hi
    exact absurd hi Bool.false_ne_true
  · rw [outsAt0_B m c t h0]; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 18 = 0) (d) :
    (dats m 0 c).before 5 t d = (outsAt0 m c (t.val - 1) (Nat.lt_of_le_of_lt (Nat.sub_le _ _) t.isLt)).2 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- After the first point the codes' buffer is left as the point before left it: that is what the pipeline asks of an
    idle window, whether it writes the buffer back at this point or not. -/
theorem leaves0_5_B (c : Dev nD) (t : Fin cfg0.N) (h0 : ¬t.val % 18 = 0) :
    (owns (c : Thread nD τ) (ms0_5 t) fullShare (outsAt0 m c (t.val - 1) (Nat.lt_of_le_of_lt (Nat.sub_le _ _) t.isLt)).2 : sProp 𝕄)
      ⊢ (dats m 0 c).leavesExact 5 t := by
  have hi := idleAt0_5_B t (fun h => h0 ((hcond0_0 t).mp h))
  cases hf : (cfg0.win 5).flush t with
  | false =>
    rw [(dats m 0 c).leavesExact_idle 5 t hi hf]
    simp only [before0_5_B m c t h0]
    iintro H
    iexists (fun _ => default); iexact H
  | true =>
    rw [show (dats m 0 c).leavesExact 5 t = owns (c : Thread nD τ) (ms0_5 t) fullShare ((dats m 0 c).after 5 t) from by
      unfold Dat.leavesExact; rw [hi, hf], after0_5, outsAt0_B m c t h0]
    exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 18 := lt_of_lt_of_eq t.isLt (show cfg0.N = 18 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [outsAt0_A m c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [outsAt0_B m c t h0]
    simp only [before0_5_B m c t h0]
    unfold out0_B_4; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    iapply (leaves0_5_B m c t h0)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KQkv`'s statement (Defs.lean) at any `F` — Proof.lean cites it at `Bits`:
    `theorem Cert.Proof.claim : Cert.Claim := ⟨Cert.KQkv.Gen.facts, fun m ρ _ => Cert.KQkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KQkv.Hand

end
-- ==== Proof.FwdRefValue.lean ====
/- The attention forward step's reference program: its three results are the reference's functions of its argument. -/
module

public import proofs.«01_k».proof.Proof.FwdRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RFwdIdeal.Hand
open Cert.RFwdIdeal Cert.RFwdIdeal.Gen Cert.Fwd

variable (m : (ℓ : Loc nD τ sig) → Buf (Elt Ideal) ℓ)

/-- The last stage is the reference's output. -/
theorem hO_eq (Q : FVec Ideal S2x36x1024x128 .bf16) : hO Q = REFo Q := by
  funext j
  idx_vars j
  exact hO_at Q _ _ _ _

/-- The first result. -/
theorem final_o (c : Dev nD) : V m c main_v40 = REFo (m ((c : Thread nD τ).loc main_arg0)) := by
  rw [V_v40, hO_eq]

/-- The second result. -/
theorem final_b (c : Dev nD) : V m c main_v41 = REFb (m ((c : Thread nD τ).loc main_arg0)) := by
  rw [V_v41, hO_eq]
  rfl

/-- The codes' one point stages both arrays whole. -/
theorem idx : win0_0.index t0_0 = ![0, 0, 0, 0] ∧ win0_1.index t0_0 = ![0, 0, 0, 0] := by
  decide +kernel

/-- The operand's one block is the whole of an array. -/
theorem blk_whole (X : FVec Ideal S2x24x1024x128 .f32) : ((cfg0.win 0).blk t0_0).view.read (Elt Ideal) X = X := by
  funext z
  blk_ext [idx]

/-- The block staged for the operand is the whole operand. -/
theorem ib0 (c : Dev nD) : iblk m c 0 t0_0 = V m c main_v40 := blk_whole _

/-- What the body leaves: one payload over its operand. -/
theorem out1 (x0 : FVec Ideal S2x24x1024x128 .f32) : out0_1 (F := Ideal) x0 = k0_pay1 (F := Ideal) x0 := by
  funext y
  frame_out

/-- The array of the codes: its one payload over the whole operand. -/
theorem final_pay1 (c : Dev nD) : (dats m 0 c).arrAt 1 (cfgs 0).N = k0_pay1 (V m c main_v40) := by
  refine (dats m 0 c).arrAt_eq_of_after_last 1 t0_0 (by decide +kernel) _ fun j => ?_
  blk_simp
  rw [after0_1, out1]
  simp only [ib0]
  blk_ext [idx]

/-- The codes' payload, entry by entry. -/
theorem pay1_at (X : FVec Ideal S2x24x1024x128 .f32) (b : Fin 2) (h : Fin 24) (s : Fin 1024) (d : Fin 128) :
    k0_pay1 (F := Ideal) X (ix4 b h s d) = code (X (ix4 b h s d)) := by
  unfold code
  pointwise [k0_pay1]

/-- The codes' payload over the outputs. -/
theorem pay1_ref (Q : FVec Ideal S2x36x1024x128 .bf16) : k0_pay1 (F := Ideal) (REFo Q) = REFc Q := by
  funext j
  idx_vars j
  exact pay1_at _ _ _ _ _

/-- The third result. -/
theorem final_c (c : Dev nD) : (dats m 0 c).arrAt 1 (cfgs 0).N = REFc (m ((c : Thread nD τ).loc main_arg0)) := by
  rw [final_pay1, final_o]
  exact pay1_ref _

/-- Every run ends with the three results at their values and the argument unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v40) = REFo (m ((c : Thread nD τ).loc main_arg0)) ∧
      r.2.mem ((c.tc : Thread nD τ).loc main_v41) = REFb (m ((c : Thread nD τ).loc main_arg0)) ∧
      r.2.mem ((c.tc : Thread nD τ).loc main_v42) = REFc (m ((c : Thread nD τ).loc main_arg0)) ∧
      r.2.mem ((c.tc : Thread nD τ).loc main_arg0) = m ((c.tc : Thread nD τ).loc main_arg0)) := by
  refine θ_run_mono (θ_run_and (Gen.run_main m g) (Gen.unchanged m g)) fun r h c => ?_
  obtain ⟨hr, hu⟩ := h
  exact ⟨((hr c).1 0).trans (((dats m 0 c).arrAt_in 0 rfl _).trans ((A_eq m c 0).trans (final_o m c))),
    ((hr c).2 main_v41 (by decide +kernel)).trans (final_b m c), ((hr c).1 1).trans (final_c m c), hu c⟩

end Cert.RFwdIdeal.Hand
-- ==== Proof.FwdBitsRun.lean ====
/- The body of the attention forward call (printed program), run once at any grid point: its loop over the four heads of a
   group goes by the loop's invariant, and what it leaves in the output buffers is the list of the pieces of all trips. -/
module

public import proofs.«01_k».proof.Proof.Gen.KFwd.Frame
public import proofs.«01_k».proof.Proof.Gen.KFwd.Loops

@[expose] public section

-- membership in a rectangle of production extents (`View.cover_of_tiled`): the elaborator's structural look
-- recurses once per coordinate of the long axes
set_option maxRecDepth 16384

noncomputable section

namespace Cert.KFwd.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KFwd Cert.KFwd.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 3, through which its contents are stated (`View.read_writes_of_cover`: the
    choice does not matter). -/
abbrev VO0_3 : View sig .tc .vmem S1x4x1024x128 .f32 := (Memref.whole cc0_stg3_0 : Memref sig .tc .vmem S1x4x1024x128 .f32).view
/-- One staging buffer of output window 4, through which its contents are stated (`View.read_writes_of_cover`: the
    choice does not matter). -/
abbrev VO0_4 : View sig .tc .vmem S1x4x1024x128 .bf16 := (Memref.whole cc0_stg4_0 : Memref sig .tc .vmem S1x4x1024x128 .bf16).view
/-- One staging buffer of output window 5, through which its contents are stated (`View.read_writes_of_cover`: the
    choice does not matter). -/
abbrev VO0_5 : View sig .tc .vmem S1x4x1024x128 .fp8e4m3 := (Memref.whole cc0_stg5_0 : Memref sig .tc .vmem S1x4x1024x128 .fp8e4m3).view
/-- One staging buffer of output window 6, through which its contents are stated (`View.read_writes_of_cover`: the
    choice does not matter). -/
abbrev VO0_6 : View sig .tc .vmem S1x24x1024 .f32 := (Memref.whole cc0_stg6_0 : Memref sig .tc .vmem S1x24x1024 .f32).view
/-- One staging buffer of output window 7, through which its contents are stated (`View.read_writes_of_cover`: the
    choice does not matter). -/
abbrev VO0_7 : View sig .tc .vmem S1x24x1024 .f32 := (Memref.whole cc0_stg7_0 : Memref sig .tc .vmem S1x24x1024 .f32).view
/-- Each window's current staging memref at point `t`, spelled as the pipeline passes it (`bodyAt0`), and its wholeness. -/
abbrev ms0_0 (t : Fin cfg0.N) : Memref sig .tc .vmem S1x4x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x24x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x24x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- The body run once on whole staging memrefs: the inputs at their contents, the outputs and the scratch at anything.
    It leaves the inputs as they were, the scratch at some contents, and each output with a list of pieces written into it;
    the lists are what the run finds. -/
noncomputable def kernelRun (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) :
    Σ' (L3 : List (View.Piece (Elt F) S1x4x1024x128 .f32)), Σ' (L4 : List (View.Piece (Elt F) S1x4x1024x128 .bf16)), Σ' (L5 : List (View.Piece (Elt F) S1x4x1024x128 .fp8e4m3)), Σ' (L6 : List (View.Piece (Elt F) S1x24x1024 .f32)), { L7 : List (View.Piece (Elt F) S1x24x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_attn_fwd i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_attn_fwd_eq_skeleton]; unfold cc0_attn_fwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

end Cert.KFwd.Hand

end
-- ==== Proof.FwdBitsFrame.lean ====
/- The attention forward call (printed program): what a grid point leaves in the three blocks of attention outputs, the
   proof data of its pipeline, and its run. The pieces of the four trips of the loop cover each block, so a block does not
   depend on what its buffer held. The two arrays of log-sum-exps gather rows over six points; nothing is claimed of them
   here, and their windows are forgotten. -/
module

public import proofs.«01_k».proof.Proof.FwdBitsRun
public import Idealize.ShloMosaic.Lib.Claim

@[expose] public section

-- membership in a rectangle of production extents (`View.cover_of_tiled`): the elaborator's structural look
-- recurses once per coordinate of the long axes
set_option maxRecDepth 16384

noncomputable section

namespace Cert.KFwd.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KFwd Cert.KFwd.Gen
open Idealize.ShloMosaic.Pipeline (Dat Cfg Window BodyObligation cellOf)

variable {F : FTy → Type} [FloatOps F]

local notation "𝕄" => MT nD τ sig Unit (Elt F) ℕ (UR sig nD τ) ℕ

/-! ## The pieces of all trips -/

section Pieces

variable (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
  (w : BitVec 32) (X2 : BufTy.Contents (Elt F) arg2.view.ty) (X3 : BufTy.Contents (Elt F) arg3.view.ty) (X10 : BufTy.Contents (Elt F) arg10.view.ty)

/-- The loop runs four times. -/
theorem trips_eq : k0_t1_loop.trips = 4 := by decide +kernel

/-- The pieces of one trip, as the loop's invariant lists them. -/
abbrev trip (k : Fin k0_t1_loop.trips) := tripL_k0_t1 (F := F) Variants.none c none i arg2 harg2 arg3 harg3 arg4 harg4 arg5 harg5 arg6 harg6 arg7 harg7 arg8 harg8 arg9 harg9 arg10 harg10 w X2 X3 X10 k

/-- The pieces of the trips before `n`. -/
abbrev pcs (n : ℕ) := pb_k0_t1 (F := F) Variants.none c none i arg2 harg2 arg3 harg3 arg4 harg4 arg5 harg5 arg6 harg6 arg7 harg7 arg8 harg8 arg9 harg9 arg10 harg10 w X2 X3 X10 n

/-- Every piece of a trip is among the pieces of the trips before any later one (array 3). -/
theorem mem_pcs3 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).1, q ∈ (pcs c i arg2 harg2 arg3 harg3 arg4 harg4 arg5 harg5 arg6 harg6 arg7 harg7 arg8 harg8 arg9 harg9 arg10 harg10 w X2 X3 X10 n).1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs3 k n h' (Nat.le_of_succ_le hn) q hq)
    · exact List.mem_append_left _ ((Fin.ext h' : k = ⟨n, hn⟩) ▸ hq)

/-- A piece of the trips before `n` is a piece of one trip (array 3). -/
theorem of_mem_pcs3 : ∀ n, n ≤ k0_t1_loop.trips → ∀ q ∈ (pcs c i arg2 harg2 arg3 harg3 arg4 harg4 arg5 harg5 arg6 harg6 arg7 harg7 arg8 harg8 arg9 harg9 arg10 harg10 w X2 X3 X10 n).1, ∃ k : Fin k0_t1_loop.trips, q ∈ (trip c i arg2 harg2 arg3 harg3 arg4 harg4 arg5 harg5 arg6 harg6 arg7 harg7 arg8 harg8 arg9 harg9 arg10 harg10 w X2 X3 X10 k).1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs3 n (Nat.le_of_succ_le hn) q h

/-- The pieces of a trip hold every row of the trip's head (array 3). -/
theorem trip_cover3 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 3). -/
theorem pcs_cover3 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).1, y ∈ q.1.set := by
  have hy : (y 1).val < k0_t1_loop.trips := trips_eq ▸ (y 1).isLt
  obtain ⟨q, hq, hs⟩ := trip_cover3 c i arg2 harg2 arg3 harg3 arg4 harg4 arg5 harg5 arg6 harg6 arg7 harg7 arg8 harg8 arg9 harg9 arg10 harg10 w X2 X3 X10 ⟨(y 1).val, hy⟩ y rfl
  exact ⟨q, mem_pcs3 c i arg2 harg2 arg3 harg3 arg4 harg4 arg5 harg5 arg6 harg6 arg7 harg7 arg8 harg8 arg9 harg9 arg10 harg10 w X2 X3 X10 ⟨(y 1).val, hy⟩ _ hy le_rfl q hq, hs⟩

/-- Every piece of a trip is among the pieces of the trips before any later one (array 4). -/
theorem mem_pcs4 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).2.1, q ∈ (pcs c i arg2 harg2 arg3 harg3 arg4 harg4 arg5 harg5 arg6 harg6 arg7 harg7 arg8 harg8 arg9 harg9 arg10 harg10 w X2 X3 X10 n).2.1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs4 k n h' (Nat.le_of_succ_le hn) q hq)
    · exact List.mem_append_left _ ((Fin.ext h' : k = ⟨n, hn⟩) ▸ hq)

/-- A piece of the trips before `n` is a piece of one trip (array 4). -/
theorem of_mem_pcs4 : ∀ n, n ≤ k0_t1_loop.trips → ∀ q ∈ (pcs c i arg2 harg2 arg3 harg3 arg4 harg4 arg5 harg5 arg6 harg6 arg7 harg7 arg8 harg8 arg9 harg9 arg10 harg10 w X2 X3 X10 n).2.1, ∃ k : Fin k0_t1_loop.trips, q ∈ (trip c i arg2 harg2 arg3 harg3 arg4 harg4 arg5 harg5 arg6 harg6 arg7 harg7 arg8 harg8 arg9 harg9 arg10 harg10 w X2 X3 X10 k).2.1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs4 n (Nat.le_of_succ_le hn) q h

/-- The pieces of a trip hold every row of the trip's head (array 4). -/
theorem trip_cover4 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).2.1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 4). -/
theorem pcs_cover4 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).2.1, y ∈ q.1.set := by
  have hy : (y 1).val < k0_t1_loop.trips := trips_eq ▸ (y 1).isLt
  obtain ⟨q, hq, hs⟩ := trip_cover4 c i arg2 harg2 arg3 harg3 arg4 harg4 arg5 harg5 arg6 harg6 arg7 harg7 arg8 harg8 arg9 harg9 arg10 harg10 w X2 X3 X10 ⟨(y 1).val, hy⟩ y rfl
  exact ⟨q, mem_pcs4 c i arg2 harg2 arg3 harg3 arg4 harg4 arg5 harg5 arg6 harg6 arg7 harg7 arg8 harg8 arg9 harg9 arg10 harg10 w X2 X3 X10 ⟨(y 1).val, hy⟩ _ hy le_rfl q hq, hs⟩

/-- Every piece of a trip is among the pieces of the trips before any later one (array 5). -/
theorem mem_pcs5 (k : Fin k0_t1_loop.trips) : ∀ n, k.val < n → n ≤ k0_t1_loop.trips → ∀ q ∈ (trip c i arg2 harg2 arg3 harg3 arg4 harg4 arg5 harg5 arg6 harg6 arg7 harg7 arg8 harg8 arg9 harg9 arg10 harg10 w X2 X3 X10 k).2.2.1, q ∈ (pcs c i arg2 harg2 arg3 harg3 arg4 harg4 arg5 harg5 arg6 harg6 arg7 harg7 arg8 harg8 arg9 harg9 arg10 harg10 w X2 X3 X10 n).2.2.1
  | 0, h, _, _, _ => absurd h (Nat.not_lt_zero _)
  | n + 1, h, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩]
    rcases Nat.lt_succ_iff_lt_or_eq.mp h with h' | h'
    · exact List.mem_append_right _ (mem_pcs5 k n h' (Nat.le_of_succ_le hn) q hq)
    · exact List.mem_append_left _ ((Fin.ext h' : k = ⟨n, hn⟩) ▸ hq)

/-- A piece of the trips before `n` is a piece of one trip (array 5). -/
theorem of_mem_pcs5 : ∀ n, n ≤ k0_t1_loop.trips → ∀ q ∈ (pcs c i arg2 harg2 arg3 harg3 arg4 harg4 arg5 harg5 arg6 harg6 arg7 harg7 arg8 harg8 arg9 harg9 arg10 harg10 w X2 X3 X10 n).2.2.1, ∃ k : Fin k0_t1_loop.trips, q ∈ (trip c i arg2 harg2 arg3 harg3 arg4 harg4 arg5 harg5 arg6 harg6 arg7 harg7 arg8 harg8 arg9 harg9 arg10 harg10 w X2 X3 X10 k).2.2.1
  | 0, _, _, hq => absurd hq List.not_mem_nil
  | n + 1, hn, q, hq => by
    rw [pcs, pb_k0_t1_succ Variants.none c none i arg2 harg2 arg3 harg3 arg4 harg4 arg5 harg5 arg6 harg6 arg7 harg7 arg8 harg8 arg9 harg9 arg10 harg10 w X2 X3 X10 ⟨n, hn⟩] at hq
    rcases List.mem_append.mp hq with h | h
    · exact ⟨_, h⟩
    · exact of_mem_pcs5 n (Nat.le_of_succ_le hn) q h

/-- The pieces of a trip hold every row of the trip's head (array 5). -/
theorem trip_cover5 (k : Fin k0_t1_loop.trips) (y : S1x4x1024x128.Idx) (hy : (y 1).val = k.val) : ∃ q ∈ (trip c i arg2 harg2 arg3 harg3 arg4 harg4 arg5 harg5 arg6 harg6 arg7 harg7 arg8 harg8 arg9 harg9 arg10 harg10 w X2 X3 X10 k).2.2.1, y ∈ q.1.set := by
  have h0 : (y 0).val < 1 := (y 0).isLt
  have h2 : (y 2).val < 1024 := (y 2).isLt
  have h3 : (y 3).val < 128 := (y 3).isLt
  unfold trip tripL_k0_t1 trip_k0_t1
  dsimp only
  rcases (by omega : (y 2).val < 256 ∨ (256 ≤ (y 2).val ∧ (y 2).val < 512) ∨ (512 ≤ (y 2).val ∧ (y 2).val < 768) ∨ 768 ≤ (y 2).val) with h | h | h | h
  · refine ⟨_, List.mem_cons_of_mem _ (List.mem_cons_of_mem _ (List.mem_cons_of_mem _ List.mem_cons_self)), ?_⟩
    rw [Rect.mem_set_unit]
    intro a
    rw [k0_off1_eq]
    match a with
    | 0 => exact ⟨Nat.zero_le _, h0⟩
    | 1 => exact ⟨hy.ge, by show (y 1).val < k.val + 1; omega⟩
    | 2 => exact ⟨Nat.zero_le _, by show (y 2).val < 0 + 256; omega⟩
    | 3 => exact ⟨Nat.zero_le _, by show (y 3).val < 0 + 128; omega⟩
  · refine ⟨_, List.mem_cons_of_mem _ (List.mem_cons_of_mem _ List.mem_cons_self), ?_⟩
    rw [Rect.mem_set_unit]
    intro a
    rw [k0_off3_eq]
    match a with
    | 0 => exact ⟨Nat.zero_le _, h0⟩
    | 1 => exact ⟨hy.ge, by show (y 1).val < k.val + 1; omega⟩
    | 2 => exact ⟨h.1, by show (y 2).val < 256 + 256; omega⟩
    | 3 => exact ⟨Nat.zero_le _, by show (y 3).val < 0 + 128; omega⟩
  · refine ⟨_, List.mem_cons_of_mem _ List.mem_cons_self, ?_⟩
    rw [Rect.mem_set_unit]
    intro a
    rw [k0_off5_eq]
    match a with
    | 0 => exact ⟨Nat.zero_le _, h0⟩
    | 1 => exact ⟨hy.ge, by show (y 1).val < k.val + 1; omega⟩
    | 2 => exact ⟨h.1, by show (y 2).val < 512 + 256; omega⟩
    | 3 => exact ⟨Nat.zero_le _, by show (y 3).val < 0 + 128; omega⟩
  · refine ⟨_, List.mem_cons_self, ?_⟩
    rw [Rect.mem_set_unit]
    intro a
    rw [k0_off7_eq]
    match a with
    | 0 => exact ⟨Nat.zero_le _, h0⟩
    | 1 => exact ⟨hy.ge, by show (y 1).val < k.val + 1; omega⟩
    | 2 => exact ⟨h, by show (y 2).val < 768 + 256; omega⟩
    | 3 => exact ⟨Nat.zero_le _, by show (y 3).val < 0 + 128; omega⟩

/-- The pieces of all trips cover the block (array 5). -/
theorem pcs_cover5 (y : S1x4x1024x128.Idx) : ∃ q ∈ (pcs c i arg2 harg2 arg3 harg3 arg4 harg4 arg5 harg5 arg6 harg6 arg7 harg7 arg8 harg8 arg9 harg9 arg10 harg10 w X2 X3 X10 k0_t1_loop.trips).2.2.1, y ∈ q.1.set := by
  have hy : (y 1).val < k0_t1_loop.trips := trips_eq ▸ (y 1).isLt
  obtain ⟨q, hq, hs⟩ := trip_cover5 c i arg2 harg2 arg3 harg3 arg4 harg4 arg5 harg5 arg6 harg6 arg7 harg7 arg8 harg8 arg9 harg9 arg10 harg10 w X2 X3 X10 ⟨(y 1).val, hy⟩ y rfl
  exact ⟨q, mem_pcs5 c i arg2 harg2 arg3 harg3 arg4 harg4 arg5 harg5 arg6 harg6 arg7 harg7 arg8 harg8 arg9 harg9 arg10 harg10 w X2 X3 X10 ⟨(y 1).val, hy⟩ _ hy le_rfl q hq, hs⟩

end Pieces

/-! ## What a point leaves in the three blocks -/

/-- The run's pieces are those of the loop's trips, so they cover block 3. -/
theorem cover3 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).1, y ∈ q.1.set := by
  unfold kernelRun
  exact pcs_cover3 c i arg2 harg2 arg3 harg3 arg4 harg4 arg5 harg5 arg6 harg6 arg7 harg7 arg8 harg8 arg9 harg9 arg10 harg10 _ _ _ _ y

/-- What a point leaves in block 3: the pieces of the run. -/
def out3 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .f32 :=
  VO0_3.read (Elt F) (VO0_3.writes (Elt F) VO0_3.junk (kernelRun c i arg2 harg2 arg3 harg3 arg4 harg4 arg5 harg5 arg6 harg6 arg7 harg7 arg8 harg8 arg9 harg9 arg10 harg10 x0 x1 x2).1)

/-- The run's pieces are those of the loop's trips, so they cover block 4. -/
theorem cover4 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).2.1, y ∈ q.1.set := by
  unfold kernelRun
  exact pcs_cover4 c i arg2 harg2 arg3 harg3 arg4 harg4 arg5 harg5 arg6 harg6 arg7 harg7 arg8 harg8 arg9 harg9 arg10 harg10 _ _ _ _ y

/-- What a point leaves in block 4: the pieces of the run. -/
def out4 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .bf16 :=
  VO0_4.read (Elt F) (VO0_4.writes (Elt F) VO0_4.junk (kernelRun c i arg2 harg2 arg3 harg3 arg4 harg4 arg5 harg5 arg6 harg6 arg7 harg7 arg8 harg8 arg9 harg9 arg10 harg10 x0 x1 x2).2.1)

/-- The run's pieces are those of the loop's trips, so they cover block 5. -/
theorem cover5 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) (y : S1x4x1024x128.Idx) : ∃ q ∈ (kernelRun c i arg2 harg2 arg3 harg3 arg4 harg4 arg5 harg5 arg6 harg6 arg7 harg7 arg8 harg8 arg9 harg9 arg10 harg10 x0 x1 x2).2.2.1, y ∈ q.1.set := by
  unfold kernelRun
  exact pcs_cover5 c i arg2 harg2 arg3 harg3 arg4 harg4 arg5 harg5 arg6 harg6 arg7 harg7 arg8 harg8 arg9 harg9 arg10 harg10 _ _ _ _ y

/-- What a point leaves in block 5: the pieces of the run. -/
def out5 (c : Dev nD) (i : grid0.Coords) (arg2 : Memref sig .tc .vmem S1x4x1024x128 .bf16) (harg2 : arg2.IsWhole) (arg3 : Memref sig .tc .vmem S1x1x1024x128 .bf16) (harg3 : arg3.IsWhole) (arg4 : Memref sig .tc .vmem S1x1x1024x128 .bf16) (harg4 : arg4.IsWhole) (arg5 : Memref sig .tc .vmem S1x4x1024x128 .f32) (harg5 : arg5.IsWhole) (arg6 : Memref sig .tc .vmem S1x4x1024x128 .bf16) (harg6 : arg6.IsWhole) (arg7 : Memref sig .tc .vmem S1x4x1024x128 .fp8e4m3) (harg7 : arg7.IsWhole) (arg8 : Memref sig .tc .vmem S1x24x1024 .f32) (harg8 : arg8.IsWhole) (arg9 : Memref sig .tc .vmem S1x24x1024 .f32) (harg9 : arg9.IsWhole) (arg10 : Memref sig .tc .vmem S128x1024 .bf16) (harg10 : arg10.IsWhole)
    (x0 : Vec F S1x4x1024x128 .bf16) (x1 : Vec F S1x1x1024x128 .bf16) (x2 : Vec F S1x1x1024x128 .bf16) : Vec F S1x4x1024x128 .fp8e4m3 :=
  VO0_5.read (Elt F) (VO0_5.writes (Elt F) VO0_5.junk (kernelRun c i arg2 harg2 arg3 harg3 arg4 harg4 arg5 harg5 arg6 harg6 arg7 harg7 arg8 harg8 arg9 harg9 arg10 harg10 x0 x1 x2).2.2.1)

/-! ## The pipeline's proof data -/

variable (m : (ℓ : Loc nD τ sig) → Buf (Elt F) ℓ) (ρ : Dev nD → PrngReg)

/-- The windows of the two arrays of log-sum-exps, of which nothing is said. -/
def fgt (w : Fin cfg0.W) : Bool := match w with
  | ⟨6, _⟩ => true
  | ⟨7, _⟩ => true
  | _ => false

/-- The proof data on core `c`: the arrays as the region finds them, after the body each input's buffer at its block and
    the three attention outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨4, _⟩ => out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨5, _⟩ => out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t)
    | ⟨6, h⟩ => Dat.unnamed ⟨6, h⟩ t
    | ⟨7, h⟩ => Dat.unnamed ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]
theorem after0_4 (c : Dev nD) (t : Fin cfg0.N) : (dats m 0 c).after 4 t = out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]
theorem after0_5 (c : Dev nD) (t : Fin cfg0.N) : (dats m 0 c).after 5 t = out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-! ## The body obligation, at a generic point -/

/-- What the body is called with at point `t` the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks, so the run applies; the pieces it leaves cover the three
    attention blocks, whatever these held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out3 out4 out5; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk m c 0 t) (iblk m c 1 t) (iblk m c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  iintro ⟨H0, H1, H2, ⟨%e3, H3⟩, ⟨%e4, H4⟩, ⟨%e5, H5⟩, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover3 c _ _ _ _ _ _ _ _ _ _ _ _ _ _ _ _ _ _ _ _ _ _)
  isplitl [H4]
  · unfold owns; iexists _; isplitr
    swap; · iexact H4
    ipureintro; exact View.read_writes_of_cover _ _ _ _ _ (cover4 c _ _ _ _ _ _ _ _ _ _ _ _ _ _ _ _ _ _ _ _ _ _)
  isplitl [H5]
  · unfold owns; iexists _; isplitr
    swap; · iexact H5
    ipureintro; exact View.read_writes_of_cover _ _ _ _ _ (cover5 c _ _ _ _ _ _ _ _ _ _ _ _ _ _ _ _ _ _ _ _ _ _)
  isplitl [H6]
  · unfold owns; iexists _, _; isplitr
    swap; · iexact H6
    ipureintro; rfl
  unfold owns; iexists _, _; isplitr
  swap; · iexact H7
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the two windows of log-sum-exps forgotten. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

-- the implicit arguments of the launch theorem are found by unification, which unfolds plain definitions
set_option backward.isDefEq.respectTransparency.types false in
/-- The launch, with every semaphore at zero in the end. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => body_obligation m c) (hq := fun _ _ _ => rfl)
    (howed := fun _ _ => rfl) (V := V m) (hmain := hmain m Variants.none) (hA := A_eq m) (hΦ := fun _ _ => rfl)

/-- The launch: every array of the pipeline ends at what the proof data allow. -/
theorem run_main : θ_run defs (onTc (τ := τ) (main (F := F))) (s₀ m ρ) (Pipeline.RDat.FramePost cfg0 (fun c => (dats m 0 c).toRForget fgt) (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((congrFun (((dats m 0 c).toRForget fgt).ArrAt_in 2 rfl _) _).mp ((h c).1 2)).trans ((A_eq m c 2).trans (V_main_arg0 m c))) (run_main m ρ)

/-- The frame: the argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KFwd.Hand

end
-- ==== Proof.lean ====
module

public import proofs.«01_k».proof.Defs
public import proofs.«01_k».proof.Proof.Gen.KDwo
public import proofs.«01_k».proof.Proof.Gen.KDwo.Frame
public import proofs.«01_k».proof.Proof.Gen.KDwoIdeal
public import proofs.«01_k».proof.Proof.Gen.KDwoIdeal.Frame
public import proofs.«01_k».proof.Proof.Gen.RDwoIdeal
public import proofs.«01_k».proof.Proof.Gen.RDwoIdeal.Frame
public import proofs.«01_k».proof.Proof.Gen.KDx
public import proofs.«01_k».proof.Proof.Gen.KDx.Frame
public import proofs.«01_k».proof.Proof.Gen.KDxIdeal
public import proofs.«01_k».proof.Proof.Gen.KDxIdeal.Frame
public import proofs.«01_k».proof.Proof.Gen.RDxIdeal
public import proofs.«01_k».proof.Proof.Gen.RDxIdeal.Frame
public import proofs.«01_k».proof.Proof.Gen.KDwqkv
public import proofs.«01_k».proof.Proof.Gen.KDwqkv.Frame
public import proofs.«01_k».proof.Proof.Gen.KDwqkvIdeal
public import proofs.«01_k».proof.Proof.Gen.KDwqkvIdeal.Frame
public import proofs.«01_k».proof.Proof.Gen.RDwqkvIdeal
public import proofs.«01_k».proof.Proof.Gen.RDwqkvIdeal.Frame
public import proofs.«01_k».proof.Proof.Gen.KLn
public import proofs.«01_k».proof.Proof.Gen.KLn.Frame
public import proofs.«01_k».proof.Proof.Gen.KLnIdeal
public import proofs.«01_k».proof.Proof.Gen.KLnIdeal.Frame
public import proofs.«01_k».proof.Proof.Gen.RLnIdeal
public import proofs.«01_k».proof.Proof.Gen.RLnIdeal.Frame
public import proofs.«01_k».proof.Proof.Gen.KQkv
public import proofs.«01_k».proof.Proof.Gen.KQkv.Frame
public import proofs.«01_k».proof.Proof.Gen.KQkvIdeal
public import proofs.«01_k».proof.Proof.Gen.KQkvIdeal.Frame
public import proofs.«01_k».proof.Proof.Gen.RQkvIdeal
public import proofs.«01_k».proof.Proof.Gen.RQkvIdeal.Frame
public import proofs.«01_k».proof.Proof.Gen.KFwd
public import proofs.«01_k».proof.Proof.Gen.KFwd.Frame
public import proofs.«01_k».proof.Proof.Gen.KFwdIdeal
public import proofs.«01_k».proof.Proof.Gen.KFwdIdeal.Frame
public import proofs.«01_k».proof.Proof.Gen.RFwdIdeal
public import proofs.«01_k».proof.Proof.Gen.RFwdIdeal.Frame
public import proofs.«01_k».proof.Proof.DwoValue
public import proofs.«01_k».proof.Proof.DxValue
public import proofs.«01_k».proof.Proof.DwqkvValue
public import proofs.«01_k».proof.Proof.LnRuns
public import proofs.«01_k».proof.Proof.QkvRuns
public import proofs.«01_k».proof.Proof.FwdValue
public import proofs.«01_k».proof.Proof.Gen.KQkv.Skeleton
public import proofs.«01_k».proof.Proof.Gen.KQkvIdeal.Skeleton
public import proofs.«01_k».proof.Proof.QkvFrame
public import proofs.«01_k».proof.Proof.QkvBitsFrame
public import proofs.«01_k».proof.Proof.FwdRefValue
public import proofs.«01_k».proof.Proof.FwdFrame
public import proofs.«01_k».proof.Proof.FwdBitsFrame
public import Idealize.ShloMosaic.Adequacy
public import Idealize.ShloMosaic.Init

@[expose] public section

noncomputable section

namespace Cert.Proof

open Idealize.ShloMosaic Idealize.SL.Sem

/-- The weight gradient of the output projection: the kernel's array is the reference's. -/
theorem dwo_algebraic : Cert.algebraic_KDwoIdeal_RDwoIdeal := by
  pair_intro
  · run_from Cert.KDwoIdeal.Gen.run_main m g
  · run_from Cert.RDwoIdeal.Gen.run_main m' g'
    rw [Cert.RDwoIdeal.Hand.final m' c, Cert.KDwoIdeal.Hand.final m c]
    obtain ⟨h0, h1⟩ := hagree c
    rw [h0, h1]

/-- The input gradient: the kernel's array is the reference's. -/
theorem dx_algebraic : Cert.algebraic_KDxIdeal_RDxIdeal := by
  pair_intro
  · run_from Cert.KDxIdeal.Gen.run_main m g
  · run_from Cert.RDxIdeal.Gen.run_main m' g'
    rw [Cert.RDxIdeal.Hand.final m' c, Cert.KDxIdeal.Hand.final m c]
    obtain ⟨h0, h1, h2⟩ := hagree c
    rw [h0, h1, h2]

/-- The weight gradient of the input projection: the kernel's array is the reference's. -/
theorem dwqkv_algebraic : Cert.algebraic_KDwqkvIdeal_RDwqkvIdeal := by
  pair_intro
  · run_from Cert.KDwqkvIdeal.Gen.run_main m g
  · run_from Cert.RDwqkvIdeal.Gen.run_main m' g'
    rw [Cert.RDwqkvIdeal.Hand.final m' c, Cert.KDwqkvIdeal.Hand.final m c]
    obtain ⟨h0, h1⟩ := hagree c
    rw [h0, h1]

/-- The output projection with its layer norm and their gradients: the kernel's five arrays are the reference's. -/
theorem ln_algebraic : Cert.algebraic_KLnIdeal_RLnIdeal := by
  intro m g m' g' _ hagree
  refine ⟨fun c => Cert.Ln.REFy (m ((c.tc : Thread Cert.KLnIdeal.nD Cert.KLnIdeal.τ).loc Cert.KLnIdeal.main_arg0)) (m ((c.tc : Thread Cert.KLnIdeal.nD Cert.KLnIdeal.τ).loc Cert.KLnIdeal.main_arg1)) (m ((c.tc : Thread Cert.KLnIdeal.nD Cert.KLnIdeal.τ).loc Cert.KLnIdeal.main_arg2)) (m ((c.tc : Thread Cert.KLnIdeal.nD Cert.KLnIdeal.τ).loc Cert.KLnIdeal.main_arg4)) (m ((c.tc : Thread Cert.KLnIdeal.nD Cert.KLnIdeal.τ).loc Cert.KLnIdeal.main_arg5)), fun c => Cert.Ln.REFgb (m ((c.tc : Thread Cert.KLnIdeal.nD Cert.KLnIdeal.τ).loc Cert.KLnIdeal.main_arg0)) (m ((c.tc : Thread Cert.KLnIdeal.nD Cert.KLnIdeal.τ).loc Cert.KLnIdeal.main_arg1)) (m ((c.tc : Thread Cert.KLnIdeal.nD Cert.KLnIdeal.τ).loc Cert.KLnIdeal.main_arg3)) (m ((c.tc : Thread Cert.KLnIdeal.nD Cert.KLnIdeal.τ).loc Cert.KLnIdeal.main_arg4)), fun c => Cert.Ln.REFdo (m ((c.tc : Thread Cert.KLnIdeal.nD Cert.KLnIdeal.τ).loc Cert.KLnIdeal.main_arg0)) (m ((c.tc : Thread Cert.KLnIdeal.nD Cert.KLnIdeal.τ).loc Cert.KLnIdeal.main_arg1)) (m ((c.tc : Thread Cert.KLnIdeal.nD Cert.KLnIdeal.τ).loc Cert.KLnIdeal.main_arg3)) (m ((c.tc : Thread Cert.KLnIdeal.nD Cert.KLnIdeal.τ).loc Cert.KLnIdeal.main_arg4)), fun c => Cert.Ln.REFdg (m ((c.tc : Thread Cert.KLnIdeal.nD Cert.KLnIdeal.τ).loc Cert.KLnIdeal.main_arg0)) (m ((c.tc : Thread Cert.KLnIdeal.nD Cert.KLnIdeal.τ).loc Cert.KLnIdeal.main_arg1)) (m ((c.tc : Thread Cert.KLnIdeal.nD Cert.KLnIdeal.τ).loc Cert.KLnIdeal.main_arg3)), fun c => Cert.Ln.REFdb (m ((c.tc : Thread Cert.KLnIdeal.nD Cert.KLnIdeal.τ).loc Cert.KLnIdeal.main_arg3)), Cert.KLnIdeal.Hand.run m g, ?_⟩
  refine θ_run_mono (Cert.RLnIdeal.Hand.run m' g') fun r h c => ?_
  obtain ⟨h0, h1, h2, h3, h4, h5⟩ := hagree c
  obtain ⟨a0, a1, a2, a3, a4, rest⟩ := h c
  exact ⟨a0.trans (by rw [h0, h1, h2, h4, h5]), a1.trans (by rw [h0, h1, h3, h4]), a2.trans (by rw [h0, h1, h3, h4]), a3.trans (by rw [h0, h1, h3]), a4.trans (by rw [h3]), rest⟩

/-- The input projection with its rotation and the codes of its activations: the kernel's two arrays are the reference's. -/
theorem qkv_algebraic : Cert.algebraic_KQkvIdeal_RQkvIdeal := by
  intro m g m' g' _ hagree
  refine ⟨fun c => Cert.Qkv.REFrot (m ((c.tc : Thread Cert.KQkvIdeal.nD Cert.KQkvIdeal.τ).loc Cert.KQkvIdeal.main_arg0)) (m ((c.tc : Thread Cert.KQkvIdeal.nD Cert.KQkvIdeal.τ).loc Cert.KQkvIdeal.main_arg1)) (m ((c.tc : Thread Cert.KQkvIdeal.nD Cert.KQkvIdeal.τ).loc Cert.KQkvIdeal.main_arg2)) (m ((c.tc : Thread Cert.KQkvIdeal.nD Cert.KQkvIdeal.τ).loc Cert.KQkvIdeal.main_arg3)), fun c => Cert.Qkv.REFcodes (m ((c.tc : Thread Cert.KQkvIdeal.nD Cert.KQkvIdeal.τ).loc Cert.KQkvIdeal.main_arg0)), Cert.KQkvIdeal.Hand.run m g, ?_⟩
  refine θ_run_mono (Cert.RQkvIdeal.Hand.run m' g') fun r h c => ?_
  obtain ⟨h0, h1, h2, h3⟩ := hagree c
  obtain ⟨a0, a1, rest⟩ := h c
  exact ⟨a0.trans (by rw [h0, h1, h2, h3]), a1.trans (by rw [h0]), rest⟩

/-- The attention forward step: the outputs, the outputs in the shorter format, and their codes; the kernel's three arrays are the
    reference's. -/
theorem fwd_algebraic : Cert.algebraic_KFwdIdeal_RFwdIdeal := by
  intro m g m' g' _ hagree
  refine ⟨fun c => Cert.Fwd.REFo (m ((c.tc : Thread Cert.KFwdIdeal.nD Cert.KFwdIdeal.τ).loc Cert.KFwdIdeal.main_arg0)),
    fun c => Cert.Fwd.REFb (m ((c.tc : Thread Cert.KFwdIdeal.nD Cert.KFwdIdeal.τ).loc Cert.KFwdIdeal.main_arg0)),
    fun c => Cert.Fwd.REFc (m ((c.tc : Thread Cert.KFwdIdeal.nD Cert.KFwdIdeal.τ).loc Cert.KFwdIdeal.main_arg0)),
    Cert.KFwdIdeal.Hand.run m g, ?_⟩
  refine θ_run_mono (Cert.RFwdIdeal.Hand.run m' g') fun r h c => ?_
  have h0 := hagree c
  obtain ⟨a0, a1, a2, rest⟩ := h c
  exact ⟨a0.trans (by rw [h0]), a1.trans (by rw [h0]), a2.trans (by rw [h0]), rest⟩

/-- The whole claim: every frame, every printed program equal to its idealized one, every value equation. -/
theorem claim : Cert.Claim := ⟨Cert.KDwo.Gen.facts, Cert.KDwoIdeal.Gen.facts, Cert.RDwoIdeal.Gen.facts, Cert.KDx.Gen.facts, Cert.KDxIdeal.Gen.facts, Cert.RDxIdeal.Gen.facts, Cert.KDwqkv.Gen.facts, Cert.KDwqkvIdeal.Gen.facts, Cert.RDwqkvIdeal.Gen.facts, Cert.KLn.Gen.facts, Cert.KLnIdeal.Gen.facts, Cert.RLnIdeal.Gen.facts, Cert.KQkv.Gen.facts, Cert.KQkvIdeal.Gen.facts, Cert.RQkvIdeal.Gen.facts, Cert.KFwd.Gen.facts, Cert.KFwdIdeal.Gen.facts, Cert.RFwdIdeal.Gen.facts,
  fun m ρ _ => Cert.KDwo.Gen.frame m ρ,
  fun m ρ _ => Cert.KDwoIdeal.Gen.frame m ρ,
  fun m ρ _ => Cert.RDwoIdeal.Gen.frame m ρ,
  fun m ρ _ => Cert.KDx.Gen.frame m ρ,
  fun m ρ _ => Cert.KDxIdeal.Gen.frame m ρ,
  fun m ρ _ => Cert.RDxIdeal.Gen.frame m ρ,
  fun m ρ _ => Cert.KDwqkv.Gen.frame m ρ,
  fun m ρ _ => Cert.KDwqkvIdeal.Gen.frame m ρ,
  fun m ρ _ => Cert.RDwqkvIdeal.Gen.frame m ρ,
  fun m ρ _ => Cert.KLn.Gen.frame m ρ,
  fun m ρ _ => Cert.KLnIdeal.Gen.frame m ρ,
  fun m ρ _ => Cert.RLnIdeal.Gen.frame m ρ,
  fun m ρ _ => Cert.KQkv.Hand.frame m ρ,
  fun m ρ _ => Cert.KQkvIdeal.Hand.frame m ρ,
  fun m ρ _ => Cert.RQkvIdeal.Gen.frame m ρ,
  fun m ρ _ => Cert.KFwd.Hand.frame m ρ,
  fun m ρ _ => Cert.KFwdIdeal.Hand.frame m ρ,
  fun m ρ _ => Cert.RFwdIdeal.Gen.frame m ρ,
  trivial, dwo_algebraic,
  trivial, dx_algebraic,
  trivial, dwqkv_algebraic,
  trivial, ln_algebraic,
  trivial, qkv_algebraic,
  trivial, fwd_algebraic⟩

end Cert.Proof

end
